-- ==== Defs.lean ====
def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite_scores [hPre_finite_scores : Cert.Pre_finite_scores.Facts] (m : (ℓ : Loc Cert.NaIdeal.nD Cert.NaIdeal.τ Cert.NaIdeal.sig) → Buf (Elt Ideal) ℓ) : Prop :=
  ∀ c : Dev Cert.NaIdeal.nD,
    (Cert.Pre_finite_scores.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite_scores [hPre_finite_scores : Cert.Pre_finite_scores.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite_scores.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_QkProj (m : (ℓ : Loc Cert.QkProj.nD Cert.QkProj.τ Cert.QkProj.sig) → Buf (Elt Bits) ℓ) : Prop :=
  True

def Pre_QkProjIdeal (m : (ℓ : Loc Cert.QkProjIdeal.nD Cert.QkProjIdeal.τ Cert.QkProjIdeal.sig) → Buf (Elt Ideal) ℓ) : Prop :=
  True

def Pre_QkProjRefIdeal (m : (ℓ : Loc Cert.QkProjRefIdeal.nD Cert.QkProjRefIdeal.τ Cert.QkProjRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_ModA (m : (ℓ : Loc Cert.ModA.nD Cert.ModA.τ Cert.ModA.sig) → Buf (Elt Bits) ℓ) : Prop :=
  True

def Pre_ModAIdeal (m : (ℓ : Loc Cert.ModAIdeal.nD Cert.ModAIdeal.τ Cert.ModAIdeal.sig) → Buf (Elt Ideal) ℓ) : Prop :=
  True

def Pre_ModARefIdeal (m : (ℓ : Loc Cert.ModARefIdeal.nD Cert.ModARefIdeal.τ Cert.ModARefIdeal.sig) → Buf (Elt Ideal) ℓ) : Prop :=
  True

def Pre_ModB (m : (ℓ : Loc Cert.ModB.nD Cert.ModB.τ Cert.ModB.sig) → Buf (Elt Bits) ℓ) : Prop :=
  True

def Pre_ModBIdeal (m : (ℓ : Loc Cert.ModBIdeal.nD Cert.ModBIdeal.τ Cert.ModBIdeal.sig) → Buf (Elt Ideal) ℓ) : Prop :=
  True

def Pre_ModBRefIdeal (m : (ℓ : Loc Cert.ModBRefIdeal.nD Cert.ModBRefIdeal.τ Cert.ModBRefIdeal.sig) → Buf (Elt Ideal) ℓ) : Prop :=
  True

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaIdeal_pre_finite_scores [hNaIdeal : Cert.NaIdeal.Facts] [hPre_finite_scores : Cert.Pre_finite_scores.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite_scores m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_NaRefIdeal_pre_finite_scores [hNaRefIdeal : Cert.NaRefIdeal.Facts] [hPre_finite_scores : Cert.Pre_finite_scores.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite_scores m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_QkProj [hQkProj : Cert.QkProj.Facts] : Prop :=
  ∀ (m : (ℓ : Loc Cert.QkProj.nD Cert.QkProj.τ Cert.QkProj.sig) → Buf (Elt Bits) ℓ) (g : Dev Cert.QkProj.nD → PrngReg), Pre_QkProj m →
    θ_run (Cert.QkProj.defs (F := Bits)) (onTc (τ := Cert.QkProj.τ) (Cert.QkProj.main (F := Bits))) ⟨m, fun _ => 0, g⟩ (fun r => (∀ c : Dev Cert.QkProj.nD,
      r.2.mem ((c.tc : Thread Cert.QkProj.nD Cert.QkProj.τ).loc Cert.QkProj.main_arg0) = m ((c.tc : Thread Cert.QkProj.nD Cert.QkProj.τ).loc Cert.QkProj.main_arg0)
      ∧ r.2.mem ((c.tc : Thread Cert.QkProj.nD Cert.QkProj.τ).loc Cert.QkProj.main_arg1) = m ((c.tc : Thread Cert.QkProj.nD Cert.QkProj.τ).loc Cert.QkProj.main_arg1))
      ∧ r.2.sem = fun _ => 0)

def quiescent_QkProjIdeal [hQkProjIdeal : Cert.QkProjIdeal.Facts] : Prop :=
  ∀ (m : (ℓ : Loc Cert.QkProjIdeal.nD Cert.QkProjIdeal.τ Cert.QkProjIdeal.sig) → Buf (Elt Ideal) ℓ) (g : Dev Cert.QkProjIdeal.nD → PrngReg), Pre_QkProjIdeal m →
    θ_run (Cert.QkProjIdeal.defs (F := Ideal)) (onTc (τ := Cert.QkProjIdeal.τ) (Cert.QkProjIdeal.main (F := Ideal))) ⟨m, fun _ => 0, g⟩ (fun r => (∀ c : Dev Cert.QkProjIdeal.nD,
      r.2.mem ((c.tc : Thread Cert.QkProjIdeal.nD Cert.QkProjIdeal.τ).loc Cert.QkProjIdeal.main_arg0) = m ((c.tc : Thread Cert.QkProjIdeal.nD Cert.QkProjIdeal.τ).loc Cert.QkProjIdeal.main_arg0)
      ∧ r.2.mem ((c.tc : Thread Cert.QkProjIdeal.nD Cert.QkProjIdeal.τ).loc Cert.QkProjIdeal.main_arg1) = m ((c.tc : Thread Cert.QkProjIdeal.nD Cert.QkProjIdeal.τ).loc Cert.QkProjIdeal.main_arg1))
      ∧ r.2.sem = fun _ => 0)

def quiescent_QkProjRefIdeal [hQkProjRefIdeal : Cert.QkProjRefIdeal.Facts] : Prop :=
  ∀ (m : (ℓ : Loc Cert.QkProjRefIdeal.nD Cert.QkProjRefIdeal.τ Cert.QkProjRefIdeal.sig) → Buf (Elt Ideal) ℓ) (g : Dev Cert.QkProjRefIdeal.nD → PrngReg), Pre_QkProjRefIdeal m →
    θ_run (Cert.QkProjRefIdeal.defs (F := Ideal)) (onTc (τ := Cert.QkProjRefIdeal.τ) (Cert.QkProjRefIdeal.main (F := Ideal))) ⟨m, fun _ => 0, g⟩ (fun r => (∀ c : Dev Cert.QkProjRefIdeal.nD,
      r.2.mem ((c.tc : Thread Cert.QkProjRefIdeal.nD Cert.QkProjRefIdeal.τ).loc Cert.QkProjRefIdeal.main_arg0) = m ((c.tc : Thread Cert.QkProjRefIdeal.nD Cert.QkProjRefIdeal.τ).loc Cert.QkProjRefIdeal.main_arg0)
      ∧ r.2.mem ((c.tc : Thread Cert.QkProjRefIdeal.nD Cert.QkProjRefIdeal.τ).loc Cert.QkProjRefIdeal.main_arg1) = m ((c.tc : Thread Cert.QkProjRefIdeal.nD Cert.QkProjRefIdeal.τ).loc Cert.QkProjRefIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2))
      ∧ r.2.sem = fun _ => 0)

def quiescent_ModA [hModA : Cert.ModA.Facts] : Prop :=
  ∀ (m : (ℓ : Loc Cert.ModA.nD Cert.ModA.τ Cert.ModA.sig) → Buf (Elt Bits) ℓ) (g : Dev Cert.ModA.nD → PrngReg), Pre_ModA m →
    θ_run (Cert.ModA.defs (F := Bits)) (onTc (τ := Cert.ModA.τ) (Cert.ModA.main (F := Bits))) ⟨m, fun _ => 0, g⟩ (fun r => (∀ c : Dev Cert.ModA.nD,
      r.2.mem ((c.tc : Thread Cert.ModA.nD Cert.ModA.τ).loc Cert.ModA.main_arg0) = m ((c.tc : Thread Cert.ModA.nD Cert.ModA.τ).loc Cert.ModA.main_arg0)
      ∧ r.2.mem ((c.tc : Thread Cert.ModA.nD Cert.ModA.τ).loc Cert.ModA.main_arg1) = m ((c.tc : Thread Cert.ModA.nD Cert.ModA.τ).loc Cert.ModA.main_arg1))
      ∧ r.2.sem = fun _ => 0)

def quiescent_ModAIdeal [hModAIdeal : Cert.ModAIdeal.Facts] : Prop :=
  ∀ (m : (ℓ : Loc Cert.ModAIdeal.nD Cert.ModAIdeal.τ Cert.ModAIdeal.sig) → Buf (Elt Ideal) ℓ) (g : Dev Cert.ModAIdeal.nD → PrngReg), Pre_ModAIdeal m →
    θ_run (Cert.ModAIdeal.defs (F := Ideal)) (onTc (τ := Cert.ModAIdeal.τ) (Cert.ModAIdeal.main (F := Ideal))) ⟨m, fun _ => 0, g⟩ (fun r => (∀ c : Dev Cert.ModAIdeal.nD,
      r.2.mem ((c.tc : Thread Cert.ModAIdeal.nD Cert.ModAIdeal.τ).loc Cert.ModAIdeal.main_arg0) = m ((c.tc : Thread Cert.ModAIdeal.nD Cert.ModAIdeal.τ).loc Cert.ModAIdeal.main_arg0)
      ∧ r.2.mem ((c.tc : Thread Cert.ModAIdeal.nD Cert.ModAIdeal.τ).loc Cert.ModAIdeal.main_arg1) = m ((c.tc : Thread Cert.ModAIdeal.nD Cert.ModAIdeal.τ).loc Cert.ModAIdeal.main_arg1))
      ∧ r.2.sem = fun _ => 0)

def quiescent_ModARefIdeal [hModARefIdeal : Cert.ModARefIdeal.Facts] : Prop :=
  ∀ (m : (ℓ : Loc Cert.ModARefIdeal.nD Cert.ModARefIdeal.τ Cert.ModARefIdeal.sig) → Buf (Elt Ideal) ℓ) (g : Dev Cert.ModARefIdeal.nD → PrngReg), Pre_ModARefIdeal m →
    θ_run (Cert.ModARefIdeal.defs (F := Ideal)) (onTc (τ := Cert.ModARefIdeal.τ) (Cert.ModARefIdeal.main (F := Ideal))) ⟨m, fun _ => 0, g⟩ (fun r => (∀ c : Dev Cert.ModARefIdeal.nD,
      r.2.mem ((c.tc : Thread Cert.ModARefIdeal.nD Cert.ModARefIdeal.τ).loc Cert.ModARefIdeal.main_arg0) = m ((c.tc : Thread Cert.ModARefIdeal.nD Cert.ModARefIdeal.τ).loc Cert.ModARefIdeal.main_arg0)
      ∧ r.2.mem ((c.tc : Thread Cert.ModARefIdeal.nD Cert.ModARefIdeal.τ).loc Cert.ModARefIdeal.main_arg1) = m ((c.tc : Thread Cert.ModARefIdeal.nD Cert.ModARefIdeal.τ).loc Cert.ModARefIdeal.main_arg1))
      ∧ r.2.sem = fun _ => 0)

def quiescent_ModB [hModB : Cert.ModB.Facts] : Prop :=
  ∀ (m : (ℓ : Loc Cert.ModB.nD Cert.ModB.τ Cert.ModB.sig) → Buf (Elt Bits) ℓ) (g : Dev Cert.ModB.nD → PrngReg), Pre_ModB m →
    θ_run (Cert.ModB.defs (F := Bits)) (onTc (τ := Cert.ModB.τ) (Cert.ModB.main (F := Bits))) ⟨m, fun _ => 0, g⟩ (fun r => (∀ c : Dev Cert.ModB.nD,
      r.2.mem ((c.tc : Thread Cert.ModB.nD Cert.ModB.τ).loc Cert.ModB.main_arg0) = m ((c.tc : Thread Cert.ModB.nD Cert.ModB.τ).loc Cert.ModB.main_arg0)
      ∧ r.2.mem ((c.tc : Thread Cert.ModB.nD Cert.ModB.τ).loc Cert.ModB.main_arg1) = m ((c.tc : Thread Cert.ModB.nD Cert.ModB.τ).loc Cert.ModB.main_arg1)
      ∧ r.2.mem ((c.tc : Thread Cert.ModB.nD Cert.ModB.τ).loc Cert.ModB.main_arg2) = m ((c.tc : Thread Cert.ModB.nD Cert.ModB.τ).loc Cert.ModB.main_arg2))
      ∧ r.2.sem = fun _ => 0)

def quiescent_ModBIdeal [hModBIdeal : Cert.ModBIdeal.Facts] : Prop :=
  ∀ (m : (ℓ : Loc Cert.ModBIdeal.nD Cert.ModBIdeal.τ Cert.ModBIdeal.sig) → Buf (Elt Ideal) ℓ) (g : Dev Cert.ModBIdeal.nD → PrngReg), Pre_ModBIdeal m →
    θ_run (Cert.ModBIdeal.defs (F := Ideal)) (onTc (τ := Cert.ModBIdeal.τ) (Cert.ModBIdeal.main (F := Ideal))) ⟨m, fun _ => 0, g⟩ (fun r => (∀ c : Dev Cert.ModBIdeal.nD,
      r.2.mem ((c.tc : Thread Cert.ModBIdeal.nD Cert.ModBIdeal.τ).loc Cert.ModBIdeal.main_arg0) = m ((c.tc : Thread Cert.ModBIdeal.nD Cert.ModBIdeal.τ).loc Cert.ModBIdeal.main_arg0)
      ∧ r.2.mem ((c.tc : Thread Cert.ModBIdeal.nD Cert.ModBIdeal.τ).loc Cert.ModBIdeal.main_arg1) = m ((c.tc : Thread Cert.ModBIdeal.nD Cert.ModBIdeal.τ).loc Cert.ModBIdeal.main_arg1)
      ∧ r.2.mem ((c.tc : Thread Cert.ModBIdeal.nD Cert.ModBIdeal.τ).loc Cert.ModBIdeal.main_arg2) = m ((c.tc : Thread Cert.ModBIdeal.nD Cert.ModBIdeal.τ).loc Cert.ModBIdeal.main_arg2))
      ∧ r.2.sem = fun _ => 0)

def quiescent_ModBRefIdeal [hModBRefIdeal : Cert.ModBRefIdeal.Facts] : Prop :=
  ∀ (m : (ℓ : Loc Cert.ModBRefIdeal.nD Cert.ModBRefIdeal.τ Cert.ModBRefIdeal.sig) → Buf (Elt Ideal) ℓ) (g : Dev Cert.ModBRefIdeal.nD → PrngReg), Pre_ModBRefIdeal m →
    θ_run (Cert.ModBRefIdeal.defs (F := Ideal)) (onTc (τ := Cert.ModBRefIdeal.τ) (Cert.ModBRefIdeal.main (F := Ideal))) ⟨m, fun _ => 0, g⟩ (fun r => (∀ c : Dev Cert.ModBRefIdeal.nD,
      r.2.mem ((c.tc : Thread Cert.ModBRefIdeal.nD Cert.ModBRefIdeal.τ).loc Cert.ModBRefIdeal.main_arg0) = m ((c.tc : Thread Cert.ModBRefIdeal.nD Cert.ModBRefIdeal.τ).loc Cert.ModBRefIdeal.main_arg0)
      ∧ r.2.mem ((c.tc : Thread Cert.ModBRefIdeal.nD Cert.ModBRefIdeal.τ).loc Cert.ModBRefIdeal.main_arg1) = m ((c.tc : Thread Cert.ModBRefIdeal.nD Cert.ModBRefIdeal.τ).loc Cert.ModBRefIdeal.main_arg1)
      ∧ r.2.mem ((c.tc : Thread Cert.ModBRefIdeal.nD Cert.ModBRefIdeal.τ).loc Cert.ModBRefIdeal.main_arg2) = m ((c.tc : Thread Cert.ModBRefIdeal.nD Cert.ModBRefIdeal.τ).loc Cert.ModBRefIdeal.main_arg2))
      ∧ r.2.sem = fun _ => 0)

def preserves_Na_NaIdeal : Prop :=
  IdealRules.named_const.Statement Cert.NaIdeal.κ "log2e" .f32 0x3FB8AA3B#32 (((Real.log 2)⁻¹ : ℝ) : EReal)
  ∧ IdealRules.named_const.Statement Cert.NaIdeal.κ "scale" .f32 0x3E0293EE#32 (((Real.sqrt 128)⁻¹ * (Real.log 2)⁻¹ : ℝ) : EReal)

def algebraic_NaIdeal_NaRefIdeal_pre_finite_scores [hNaIdeal : Cert.NaIdeal.Facts] [hNaRefIdeal : Cert.NaRefIdeal.Facts] [hPre_finite_scores : Cert.Pre_finite_scores.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite_scores m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v1)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v1) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v137) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v67) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v8) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v19) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v17) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)) →
    ∃ (v0 : (c : Dev Cert.BranchIdeal.nD) → Buf (Elt Ideal) ((c.tc : Thread Cert.BranchIdeal.nD Cert.BranchIdeal.τ).loc Cert.BranchIdeal.main_v3)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v3) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v41) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v14) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_QkProj_QkProjIdeal : Prop :=
  True

def algebraic_QkProjIdeal_QkProjRefIdeal [hQkProjIdeal : Cert.QkProjIdeal.Facts] [hQkProjRefIdeal : Cert.QkProjRefIdeal.Facts] : Prop :=
  ∀ (m : (ℓ : Loc Cert.QkProjIdeal.nD Cert.QkProjIdeal.τ Cert.QkProjIdeal.sig) → Buf (Elt Ideal) ℓ) (g : Dev Cert.QkProjIdeal.nD → PrngReg)
    (m' : (ℓ : Loc Cert.QkProjRefIdeal.nD Cert.QkProjRefIdeal.τ Cert.QkProjRefIdeal.sig) → Buf (Elt Ideal) ℓ) (g' : Dev Cert.QkProjRefIdeal.nD → PrngReg), Pre_QkProjIdeal m →
    (∀ c : Dev Cert.QkProjIdeal.nD,
      m' ((c.tc : Thread Cert.QkProjRefIdeal.nD Cert.QkProjRefIdeal.τ).loc Cert.QkProjRefIdeal.main_arg0) = m ((c.tc : Thread Cert.QkProjIdeal.nD Cert.QkProjIdeal.τ).loc Cert.QkProjIdeal.main_arg0)
      ∧ m' ((c.tc : Thread Cert.QkProjRefIdeal.nD Cert.QkProjRefIdeal.τ).loc Cert.QkProjRefIdeal.main_arg1) = m ((c.tc : Thread Cert.QkProjIdeal.nD Cert.QkProjIdeal.τ).loc Cert.QkProjIdeal.main_arg1)) →
    ∃ (v0 : (c : Dev Cert.QkProjIdeal.nD) → Buf (Elt Ideal) ((c.tc : Thread Cert.QkProjIdeal.nD Cert.QkProjIdeal.τ).loc Cert.QkProjIdeal.main_v53)),
      θ_run (Cert.QkProjIdeal.defs (F := Ideal)) (onTc (τ := Cert.QkProjIdeal.τ) (Cert.QkProjIdeal.main (F := Ideal))) ⟨m, fun _ => 0, g⟩ (fun r => ∀ c : Dev Cert.QkProjIdeal.nD,
          r.2.mem ((c.tc : Thread Cert.QkProjIdeal.nD Cert.QkProjIdeal.τ).loc Cert.QkProjIdeal.main_v53) = v0 c
          ∧ r.2.mem ((c.tc : Thread Cert.QkProjIdeal.nD Cert.QkProjIdeal.τ).loc Cert.QkProjIdeal.main_arg0) = m ((c.tc : Thread Cert.QkProjIdeal.nD Cert.QkProjIdeal.τ).loc Cert.QkProjIdeal.main_arg0)
          ∧ r.2.mem ((c.tc : Thread Cert.QkProjIdeal.nD Cert.QkProjIdeal.τ).loc Cert.QkProjIdeal.main_arg1) = m ((c.tc : Thread Cert.QkProjIdeal.nD Cert.QkProjIdeal.τ).loc Cert.QkProjIdeal.main_arg1))
      ∧ θ_run (Cert.QkProjRefIdeal.defs (F := Ideal)) (onTc (τ := Cert.QkProjRefIdeal.τ) (Cert.QkProjRefIdeal.main (F := Ideal))) ⟨m', fun _ => 0, g'⟩ (fun r => ∀ c : Dev Cert.QkProjRefIdeal.nD,
          r.2.mem ((c.tc : Thread Cert.QkProjRefIdeal.nD Cert.QkProjRefIdeal.τ).loc Cert.QkProjRefIdeal.main_v34) = v0 c
          ∧ r.2.mem ((c.tc : Thread Cert.QkProjRefIdeal.nD Cert.QkProjRefIdeal.τ).loc Cert.QkProjRefIdeal.main_arg0) = m' ((c.tc : Thread Cert.QkProjRefIdeal.nD Cert.QkProjRefIdeal.τ).loc Cert.QkProjRefIdeal.main_arg0)
          ∧ r.2.mem ((c.tc : Thread Cert.QkProjRefIdeal.nD Cert.QkProjRefIdeal.τ).loc Cert.QkProjRefIdeal.main_arg1) = m' ((c.tc : Thread Cert.QkProjRefIdeal.nD Cert.QkProjRefIdeal.τ).loc Cert.QkProjRefIdeal.main_arg1))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)) →
    ∃ (v0 : (c : Dev Cert.NormModIdeal.nD) → Buf (Elt Ideal) ((c.tc : Thread Cert.NormModIdeal.nD Cert.NormModIdeal.τ).loc Cert.NormModIdeal.main_v2)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v2) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v41) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2))

def preserves_ModA_ModAIdeal : Prop :=
  True

def algebraic_ModAIdeal_ModARefIdeal [hModAIdeal : Cert.ModAIdeal.Facts] [hModARefIdeal : Cert.ModARefIdeal.Facts] : Prop :=
  ∀ (m : (ℓ : Loc Cert.ModAIdeal.nD Cert.ModAIdeal.τ Cert.ModAIdeal.sig) → Buf (Elt Ideal) ℓ) (g : Dev Cert.ModAIdeal.nD → PrngReg)
    (m' : (ℓ : Loc Cert.ModARefIdeal.nD Cert.ModARefIdeal.τ Cert.ModARefIdeal.sig) → Buf (Elt Ideal) ℓ) (g' : Dev Cert.ModARefIdeal.nD → PrngReg), Pre_ModAIdeal m →
    (∀ c : Dev Cert.ModAIdeal.nD,
      m' ((c.tc : Thread Cert.ModARefIdeal.nD Cert.ModARefIdeal.τ).loc Cert.ModARefIdeal.main_arg0) = m ((c.tc : Thread Cert.ModAIdeal.nD Cert.ModAIdeal.τ).loc Cert.ModAIdeal.main_arg0)
      ∧ m' ((c.tc : Thread Cert.ModARefIdeal.nD Cert.ModARefIdeal.τ).loc Cert.ModARefIdeal.main_arg1) = m ((c.tc : Thread Cert.ModAIdeal.nD Cert.ModAIdeal.τ).loc Cert.ModAIdeal.main_arg1)) →
    ∃ (v0 : (c : Dev Cert.ModAIdeal.nD) → Buf (Elt Ideal) ((c.tc : Thread Cert.ModAIdeal.nD Cert.ModAIdeal.τ).loc Cert.ModAIdeal.main_v0)),
      θ_run (Cert.ModAIdeal.defs (F := Ideal)) (onTc (τ := Cert.ModAIdeal.τ) (Cert.ModAIdeal.main (F := Ideal))) ⟨m, fun _ => 0, g⟩ (fun r => ∀ c : Dev Cert.ModAIdeal.nD,
          r.2.mem ((c.tc : Thread Cert.ModAIdeal.nD Cert.ModAIdeal.τ).loc Cert.ModAIdeal.main_v0) = v0 c
          ∧ r.2.mem ((c.tc : Thread Cert.ModAIdeal.nD Cert.ModAIdeal.τ).loc Cert.ModAIdeal.main_arg0) = m ((c.tc : Thread Cert.ModAIdeal.nD Cert.ModAIdeal.τ).loc Cert.ModAIdeal.main_arg0)
          ∧ r.2.mem ((c.tc : Thread Cert.ModAIdeal.nD Cert.ModAIdeal.τ).loc Cert.ModAIdeal.main_arg1) = m ((c.tc : Thread Cert.ModAIdeal.nD Cert.ModAIdeal.τ).loc Cert.ModAIdeal.main_arg1))
      ∧ θ_run (Cert.ModARefIdeal.defs (F := Ideal)) (onTc (τ := Cert.ModARefIdeal.τ) (Cert.ModARefIdeal.main (F := Ideal))) ⟨m', fun _ => 0, g'⟩ (fun r => ∀ c : Dev Cert.ModARefIdeal.nD,
          r.2.mem ((c.tc : Thread Cert.ModARefIdeal.nD Cert.ModARefIdeal.τ).loc Cert.ModARefIdeal.main_v2) = v0 c
          ∧ r.2.mem ((c.tc : Thread Cert.ModARefIdeal.nD Cert.ModARefIdeal.τ).loc Cert.ModARefIdeal.main_arg0) = m' ((c.tc : Thread Cert.ModARefIdeal.nD Cert.ModARefIdeal.τ).loc Cert.ModARefIdeal.main_arg0)
          ∧ r.2.mem ((c.tc : Thread Cert.ModARefIdeal.nD Cert.ModARefIdeal.τ).loc Cert.ModARefIdeal.main_arg1) = m' ((c.tc : Thread Cert.ModARefIdeal.nD Cert.ModARefIdeal.τ).loc Cert.ModARefIdeal.main_arg1))

def preserves_ModB_ModBIdeal : Prop :=
  True

def algebraic_ModBIdeal_ModBRefIdeal [hModBIdeal : Cert.ModBIdeal.Facts] [hModBRefIdeal : Cert.ModBRefIdeal.Facts] : Prop :=
  ∀ (m : (ℓ : Loc Cert.ModBIdeal.nD Cert.ModBIdeal.τ Cert.ModBIdeal.sig) → Buf (Elt Ideal) ℓ) (g : Dev Cert.ModBIdeal.nD → PrngReg)
    (m' : (ℓ : Loc Cert.ModBRefIdeal.nD Cert.ModBRefIdeal.τ Cert.ModBRefIdeal.sig) → Buf (Elt Ideal) ℓ) (g' : Dev Cert.ModBRefIdeal.nD → PrngReg), Pre_ModBIdeal m →
    (∀ c : Dev Cert.ModBIdeal.nD,
      m' ((c.tc : Thread Cert.ModBRefIdeal.nD Cert.ModBRefIdeal.τ).loc Cert.ModBRefIdeal.main_arg0) = m ((c.tc : Thread Cert.ModBIdeal.nD Cert.ModBIdeal.τ).loc Cert.ModBIdeal.main_arg0)
      ∧ m' ((c.tc : Thread Cert.ModBRefIdeal.nD Cert.ModBRefIdeal.τ).loc Cert.ModBRefIdeal.main_arg1) = m ((c.tc : Thread Cert.ModBIdeal.nD Cert.ModBIdeal.τ).loc Cert.ModBIdeal.main_arg1)
      ∧ m' ((c.tc : Thread Cert.ModBRefIdeal.nD Cert.ModBRefIdeal.τ).loc Cert.ModBRefIdeal.main_arg2) = m ((c.tc : Thread Cert.ModBIdeal.nD Cert.ModBIdeal.τ).loc Cert.ModBIdeal.main_arg2)) →
    ∃ (v0 : (c : Dev Cert.ModBIdeal.nD) → Buf (Elt Ideal) ((c.tc : Thread Cert.ModBIdeal.nD Cert.ModBIdeal.τ).loc Cert.ModBIdeal.main_v1)),
      θ_run (Cert.ModBIdeal.defs (F := Ideal)) (onTc (τ := Cert.ModBIdeal.τ) (Cert.ModBIdeal.main (F := Ideal))) ⟨m, fun _ => 0, g⟩ (fun r => ∀ c : Dev Cert.ModBIdeal.nD,
          r.2.mem ((c.tc : Thread Cert.ModBIdeal.nD Cert.ModBIdeal.τ).loc Cert.ModBIdeal.main_v1) = v0 c
          ∧ r.2.mem ((c.tc : Thread Cert.ModBIdeal.nD Cert.ModBIdeal.τ).loc Cert.ModBIdeal.main_arg0) = m ((c.tc : Thread Cert.ModBIdeal.nD Cert.ModBIdeal.τ).loc Cert.ModBIdeal.main_arg0)
          ∧ r.2.mem ((c.tc : Thread Cert.ModBIdeal.nD Cert.ModBIdeal.τ).loc Cert.ModBIdeal.main_arg1) = m ((c.tc : Thread Cert.ModBIdeal.nD Cert.ModBIdeal.τ).loc Cert.ModBIdeal.main_arg1)
          ∧ r.2.mem ((c.tc : Thread Cert.ModBIdeal.nD Cert.ModBIdeal.τ).loc Cert.ModBIdeal.main_arg2) = m ((c.tc : Thread Cert.ModBIdeal.nD Cert.ModBIdeal.τ).loc Cert.ModBIdeal.main_arg2))
      ∧ θ_run (Cert.ModBRefIdeal.defs (F := Ideal)) (onTc (τ := Cert.ModBRefIdeal.τ) (Cert.ModBRefIdeal.main (F := Ideal))) ⟨m', fun _ => 0, g'⟩ (fun r => ∀ c : Dev Cert.ModBRefIdeal.nD,
          r.2.mem ((c.tc : Thread Cert.ModBRefIdeal.nD Cert.ModBRefIdeal.τ).loc Cert.ModBRefIdeal.main_v3) = v0 c
          ∧ r.2.mem ((c.tc : Thread Cert.ModBRefIdeal.nD Cert.ModBRefIdeal.τ).loc Cert.ModBRefIdeal.main_arg0) = m' ((c.tc : Thread Cert.ModBRefIdeal.nD Cert.ModBRefIdeal.τ).loc Cert.ModBRefIdeal.main_arg0)
          ∧ r.2.mem ((c.tc : Thread Cert.ModBRefIdeal.nD Cert.ModBRefIdeal.τ).loc Cert.ModBRefIdeal.main_arg1) = m' ((c.tc : Thread Cert.ModBRefIdeal.nD Cert.ModBRefIdeal.τ).loc Cert.ModBRefIdeal.main_arg1)
          ∧ r.2.mem ((c.tc : Thread Cert.ModBRefIdeal.nD Cert.ModBRefIdeal.τ).loc Cert.ModBRefIdeal.main_arg2) = m' ((c.tc : Thread Cert.ModBRefIdeal.nD Cert.ModBRefIdeal.τ).loc Cert.ModBRefIdeal.main_arg2))

def Claim : Prop :=
  ∃ (hNa : Cert.Na.Facts) (hNaIdeal : Cert.NaIdeal.Facts) (hNaRefIdeal : Cert.NaRefIdeal.Facts) (hConv : Cert.Conv.Facts) (hConvIdeal : Cert.ConvIdeal.Facts) (hConvRefIdeal : Cert.ConvRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hBranch : Cert.Branch.Facts) (hBranchIdeal : Cert.BranchIdeal.Facts) (hBranchRefIdeal : Cert.BranchRefIdeal.Facts) (hFinalNorm : Cert.FinalNorm.Facts) (hFinalNormIdeal : Cert.FinalNormIdeal.Facts) (hFinalNormRefIdeal : Cert.FinalNormRefIdeal.Facts) (hQkProj : Cert.QkProj.Facts) (hQkProjIdeal : Cert.QkProjIdeal.Facts) (hQkProjRefIdeal : Cert.QkProjRefIdeal.Facts) (hNormMod : Cert.NormMod.Facts) (hNormModIdeal : Cert.NormModIdeal.Facts) (hNormModRefIdeal : Cert.NormModRefIdeal.Facts) (hModA : Cert.ModA.Facts) (hModAIdeal : Cert.ModAIdeal.Facts) (hModARefIdeal : Cert.ModARefIdeal.Facts) (hModB : Cert.ModB.Facts) (hModBIdeal : Cert.ModBIdeal.Facts) (hModBRefIdeal : Cert.ModBRefIdeal.Facts) (hPre_finite_scores : Cert.Pre_finite_scores.Facts),
    quiescent_Na (hNa := hNa)
    ∧ quiescent_NaIdeal (hNaIdeal := hNaIdeal)
    ∧ quiescent_NaIdeal_pre_finite_scores (hNaIdeal := hNaIdeal) (hPre_finite_scores := hPre_finite_scores)
    ∧ quiescent_NaRefIdeal (hNaRefIdeal := hNaRefIdeal)
    ∧ quiescent_NaRefIdeal_pre_finite_scores (hNaRefIdeal := hNaRefIdeal) (hPre_finite_scores := hPre_finite_scores)
    ∧ quiescent_Conv (hConv := hConv)
    ∧ quiescent_ConvIdeal (hConvIdeal := hConvIdeal)
    ∧ quiescent_ConvRefIdeal (hConvRefIdeal := hConvRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Branch (hBranch := hBranch)
    ∧ quiescent_BranchIdeal (hBranchIdeal := hBranchIdeal)
    ∧ quiescent_BranchRefIdeal (hBranchRefIdeal := hBranchRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_QkProj (hQkProj := hQkProj)
    ∧ quiescent_QkProjIdeal (hQkProjIdeal := hQkProjIdeal)
    ∧ quiescent_QkProjRefIdeal (hQkProjRefIdeal := hQkProjRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_ModA (hModA := hModA)
    ∧ quiescent_ModAIdeal (hModAIdeal := hModAIdeal)
    ∧ quiescent_ModARefIdeal (hModARefIdeal := hModARefIdeal)
    ∧ quiescent_ModB (hModB := hModB)
    ∧ quiescent_ModBIdeal (hModBIdeal := hModBIdeal)
    ∧ quiescent_ModBRefIdeal (hModBRefIdeal := hModBRefIdeal)
    ∧ preserves_Na_NaIdeal
    ∧ algebraic_NaIdeal_NaRefIdeal_pre_finite_scores (hNaIdeal := hNaIdeal) (hNaRefIdeal := hNaRefIdeal) (hPre_finite_scores := hPre_finite_scores)
    ∧ preserves_Conv_ConvIdeal
    ∧ algebraic_ConvIdeal_ConvRefIdeal (hConvIdeal := hConvIdeal) (hConvRefIdeal := hConvRefIdeal)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_Branch_BranchIdeal
    ∧ algebraic_BranchIdeal_BranchRefIdeal (hBranchIdeal := hBranchIdeal) (hBranchRefIdeal := hBranchRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_QkProj_QkProjIdeal
    ∧ algebraic_QkProjIdeal_QkProjRefIdeal (hQkProjIdeal := hQkProjIdeal) (hQkProjRefIdeal := hQkProjRefIdeal)
    ∧ preserves_NormMod_NormModIdeal
    ∧ algebraic_NormModIdeal_NormModRefIdeal (hNormModIdeal := hNormModIdeal) (hNormModRefIdeal := hNormModRefIdeal)
    ∧ preserves_ModA_ModAIdeal
    ∧ algebraic_ModAIdeal_ModARefIdeal (hModAIdeal := hModAIdeal) (hModARefIdeal := hModARefIdeal)
    ∧ preserves_ModB_ModBIdeal
    ∧ algebraic_ModBIdeal_ModBRefIdeal (hModBIdeal := hModBIdeal) (hModBRefIdeal := hModBRefIdeal)
-- ==== Pre_finite_scores.lean ====
abbrev S18432x23040 : Shape := ⟨2, ![18432, 23040]⟩
abbrev S4x12x15x31 : Shape := ⟨4, ![4, 12, 15, 31]⟩
abbrev S18432x3072 : Shape := ⟨2, ![18432, 3072]⟩
abbrev S_ : Shape := ⟨0, ![]⟩
abbrev S1x12x15x31 : Shape := ⟨4, ![1, 12, 15, 31]⟩
abbrev S12x15x31 : Shape := ⟨3, ![12, 15, 31]⟩

class Facts : Prop where
  slices_S18432x23040_S18432x3072_0_6144 : S18432x23040.Slices ![0, 6144] S18432x3072
  bcast_S_S18432x3072 : S_.BroadcastsInDim S18432x3072 (![] : Fin 0 → Fin S18432x3072.rank)
  reducesTo_S18432x3072_S_d0_1 : S18432x3072.ReducesTo [0, 1] S_
  h_S_ : 0 < S_.numel
  slices_S4x12x15x31_S1x12x15x31_0_0_0_0 : S4x12x15x31.Slices ![0, 0, 0, 0] S1x12x15x31
  shapeCasts_S1x12x15x31_S12x15x31 : S1x12x15x31.ShapeCasts S12x15x31
  bcast_S_S12x15x31 : S_.BroadcastsInDim S12x15x31 (![] : Fin 0 → Fin S12x15x31.rank)
  reducesTo_S12x15x31_S_d0_1_2 : S12x15x31.ReducesTo [0, 1, 2] S_

variable [Facts]

def fn {F : FTy → Type} [FloatOps F] (main_arg0 : FVec F S18432x23040 .bf16) (main_arg1 : FVec F S4x12x15x31 .f32) : IVec S_ 1 :=
  let main_v0 : FVec F S18432x3072 .bf16 := (extractStridedSlice S18432x3072 ![0, 6144] · slices_S18432x23040_S18432x3072_0_6144) main_arg0
  let main_v1 : FVec F S18432x3072 .bf16 := Host.absf main_v0
  let main_cst : FVec F S_ .bf16 := constant S_ .bf16 0x7F80#16
  let main_v2 : FVec F S18432x3072 .bf16 := broadcastInDim S18432x3072 ![] bcast_S_S18432x3072 main_cst
  let main_v3 : IVec S18432x3072 1 := cmpf .olt main_v1 main_v2
  let main_c : IVec S_ 1 := constantI S_ 1 1#1
  let main_v4 : IVec S_ 1 := (fun x v => Host.reduce IntOp.andi x v reducesTo_S18432x3072_S_d0_1 h_S_) main_v3 main_c
  let main_v5 : FVec F S1x12x15x31 .f32 := (extractStridedSlice S1x12x15x31 ![0, 0, 0, 0] · slices_S4x12x15x31_S1x12x15x31_0_0_0_0) main_arg1
  let main_v6 : FVec F S12x15x31 .f32 := shapeCast S12x15x31 main_v5 shapeCasts_S1x12x15x31_S12x15x31
  let main_v7 : FVec F S12x15x31 .f32 := Host.absf main_v6
  let main_cst_0 : FVec F S_ .f32 := constant S_ .f32 0x7F800000#32
  let main_v8 : FVec F S12x15x31 .f32 := broadcastInDim S12x15x31 ![] bcast_S_S12x15x31 main_cst_0
  let main_v9 : IVec S12x15x31 1 := cmpf .olt main_v7 main_v8
  let main_c_1 : IVec S_ 1 := constantI S_ 1 1#1
  let main_v10 : IVec S_ 1 := (fun x v => Host.reduce IntOp.andi x v reducesTo_S12x15x31_S_d0_1_2 h_S_) main_v9 main_c_1
  let main_v11 : IVec S_ 1 := andi main_v4 main_v10
  main_v11
-- ==== Na.lean ====
abbrev S18432x23040 : Shape := ⟨2, ![18432, 23040]⟩
abbrev S4x12x15x31 : Shape := ⟨4, ![4, 12, 15, 31]⟩
abbrev S_ : Shape := ⟨0, ![]⟩
abbrev S4x12x16x128 : Shape := ⟨4, ![4, 12, 16, 128]⟩
abbrev S18432x1536 : Shape := ⟨2, ![18432, 1536]⟩
abbrev S2304x128 : Shape := ⟨2, ![2304, 128]⟩
abbrev S1x1x16x128 : Shape := ⟨4, ![1, 1, 16, 128]⟩
abbrev S3x256x704 : Shape := ⟨3, ![3, 256, 704]⟩
abbrev S256x128 : Shape := ⟨2, ![256, 128]⟩
abbrev S64x64 : Shape := ⟨2, ![64, 64]⟩
abbrev S1x1x1x128 : Shape := ⟨4, ![1, 1, 1, 128]⟩
abbrev S1x128 : Shape := ⟨2, ![1, 128]⟩
abbrev S64x128 : Shape := ⟨2, ![64, 128]⟩
abbrev S64x704 : Shape := ⟨2, ![64, 704]⟩
abbrev S1x64x704 : Shape := ⟨3, ![1, 64, 704]⟩
abbrev S256x256 : Shape := ⟨2, ![256, 256]⟩
abbrev S256 : Shape := ⟨1, ![256]⟩
abbrev S256x1 : Shape := ⟨2, ![256, 1]⟩
abbrev S704x128 : Shape := ⟨2, ![704, 128]⟩
abbrev S256x704 : Shape := ⟨2, ![256, 704]⟩
abbrev S1x256x704 : Shape := ⟨3, ![1, 256, 704]⟩

abbrev nBuf : Space → Nat
  | .hbm => 6
  | .vmem => 11
  | .smem => 0
  | _ => 0

abbrev bufTy : (tb : Table) → Fin (tcTables nBuf tb) → BufTy
  | .hbm, ⟨0, _⟩ => ⟨S18432x23040, .bf16⟩
  | .hbm, ⟨1, _⟩ => ⟨S4x12x15x31, .f32⟩
  | .hbm, ⟨2, _⟩ => ⟨S_, .i32⟩
  | .hbm, ⟨3, _⟩ => ⟨S_, .f32⟩
  | .hbm, ⟨4, _⟩ => ⟨S4x12x16x128, .f32⟩
  | .hbm, ⟨5, _⟩ => ⟨S18432x1536, .bf16⟩
  | .local _ .vmem, ⟨0, _⟩ => ⟨S2304x128, .bf16⟩
  | .local _ .vmem, ⟨1, _⟩ => ⟨S2304x128, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S1x1x16x128, .f32⟩
  | .local _ .vmem, ⟨7, _⟩ => ⟨S1x1x16x128, .f32⟩
  | .local _ .vmem, ⟨8, _⟩ => ⟨S2304x128, .bf16⟩
  | .local _ .vmem, ⟨9, _⟩ => ⟨S2304x128, .bf16⟩
  | .local _ .vmem, ⟨10, _⟩ => ⟨S3x256x704, .f32⟩
  | _, _ => ⟨S18432x23040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaIdeal.lean ====
variable {F : FTy → Type} [FloatOps F] [Named F]
def κ : String → Option EReal := fun
  | "log2e" => some (((Real.log 2)⁻¹ : ℝ) : EReal)
  | "scale" => some (((Real.sqrt 128)⁻¹ * (Real.log 2)⁻¹ : ℝ) : EReal)
  | _ => none
-- ==== NaRefIdeal.lean ====
abbrev S18432x23040 : Shape := ⟨2, ![18432, 23040]⟩
abbrev S4x12x15x31 : Shape := ⟨4, ![4, 12, 15, 31]⟩
abbrev S8x2304x23040 : Shape := ⟨3, ![8, 2304, 23040]⟩
abbrev S8x2304x1536 : Shape := ⟨3, ![8, 2304, 1536]⟩
abbrev S8x2304x12x128 : Shape := ⟨4, ![8, 2304, 12, 128]⟩
abbrev S_ : Shape := ⟨0, ![]⟩
abbrev S8x256x12x128 : Shape := ⟨4, ![8, 256, 12, 128]⟩
abbrev S8x12x256x256 : Shape := ⟨4, ![8, 12, 256, 256]⟩
abbrev S8x12x256 : Shape := ⟨3, ![8, 12, 256]⟩
abbrev S8x12x256x1 : Shape := ⟨4, ![8, 12, 256, 1]⟩
abbrev S8x12x128x256 : Shape := ⟨4, ![8, 12, 128, 256]⟩
abbrev S8x256x1536 : Shape := ⟨3, ![8, 256, 1536]⟩
abbrev S8x2048x12x128 : Shape := ⟨4, ![8, 2048, 12, 128]⟩
abbrev S1x12x15x31 : Shape := ⟨4, ![1, 12, 15, 31]⟩
abbrev S12x15x31 : Shape := ⟨3, ![12, 15, 31]⟩
abbrev S32 : Shape := ⟨1, ![32]⟩
abbrev S64 : Shape := ⟨1, ![64]⟩
abbrev S32x1 : Shape := ⟨2, ![32, 1]⟩
abbrev S64x1 : Shape := ⟨2, ![64, 1]⟩
abbrev S1x32 : Shape := ⟨2, ![1, 32]⟩
abbrev S32x32 : Shape := ⟨2, ![32, 32]⟩
abbrev S1x64 : Shape := ⟨2, ![1, 64]⟩
abbrev S64x64 : Shape := ⟨2, ![64, 64]⟩
abbrev S32x32x1 : Shape := ⟨3, ![32, 32, 1]⟩
abbrev S12x32x32x31 : Shape := ⟨4, ![12, 32, 32, 31]⟩
abbrev S64x64x1 : Shape := ⟨3, ![64, 64, 1]⟩
abbrev S12x32x32x64x64 : Shape := ⟨5, ![12, 32, 32, 64, 64]⟩
abbrev S12x32x64x32x64 : Shape := ⟨5, ![12, 32, 64, 32, 64]⟩
abbrev S12x32x64x2048 : Shape := ⟨4, ![12, 32, 64, 2048]⟩
abbrev S32x1x32x1 : Shape := ⟨4, ![32, 1, 32, 1]⟩
abbrev S1x64x1x64 : Shape := ⟨4, ![1, 64, 1, 64]⟩
abbrev S32x64x32x64 : Shape := ⟨4, ![32, 64, 32, 64]⟩
abbrev S32x64x2048 : Shape := ⟨3, ![32, 64, 2048]⟩
abbrev S8x32x64x12x128 : Shape := ⟨5, ![8, 32, 64, 12, 128]⟩
abbrev S8x12x32x64x2048 : Shape := ⟨5, ![8, 12, 32, 64, 2048]⟩
abbrev S1x12x32x64x2048 : Shape := ⟨5, ![1, 12, 32, 64, 2048]⟩
abbrev S8x12x32x64x256 : Shape := ⟨5, ![8, 12, 32, 64, 256]⟩
abbrev S8x12x32x64x2304 : Shape := ⟨5, ![8, 12, 32, 64, 2304]⟩
abbrev S8x12x32x64 : Shape := ⟨4, ![8, 12, 32, 64]⟩
abbrev S8x12x32x64x1 : Shape := ⟨5, ![8, 12, 32, 64, 1]⟩
abbrev S8x12x128x32x64 : Shape := ⟨5, ![8, 12, 128, 32, 64]⟩
abbrev S8x2048x1536 : Shape := ⟨3, ![8, 2048, 1536]⟩
abbrev S18432x1536 : Shape := ⟨2, ![18432, 1536]⟩

abbrev nBuf : Space → Nat
  | .hbm => 191
  | .vmem => 0
  | .smem => 0
  | _ => 0

abbrev hbmTy0_0 (i : Nat) : BufTy := match i % 128 with
  | 0 => ⟨S18432x23040, .bf16⟩
  | 1 => ⟨S4x12x15x31, .f32⟩
  | 2 => ⟨S18432x23040, .f32⟩
  | 3 => ⟨S8x2304x23040, .f32⟩
  | 4 => ⟨S8x2304x1536, .f32⟩
  | 5 => ⟨S8x2304x12x128, .f32⟩
  | 6 => ⟨S_, .f32⟩
  | 7 => ⟨S_, .f32⟩
  | 8 => ⟨S8x2304x12x128, .f32⟩
  | 9 => ⟨S8x2304x12x128, .f32⟩
  | 10 => ⟨S8x2304x1536, .f32⟩
  | 11 => ⟨S8x2304x12x128, .f32⟩
  | 12 => ⟨S8x2304x1536, .f32⟩
  | 13 => ⟨S8x2304x12x128, .f32⟩
  | 14 => ⟨S8x256x12x128, .f32⟩
  | 15 => ⟨S8x256x12x128, .f32⟩
  | 16 => ⟨S8x256x12x128, .f32⟩
  | 17 => ⟨S8x12x256x256, .f32⟩
  | 18 => ⟨S_, .f32⟩
  | 19 => ⟨S8x12x256, .f32⟩
  | 20 => ⟨S_, .f32⟩
  | 21 => ⟨S8x12x256, .f32⟩
  | 22 => ⟨S8x12x256, .f32⟩
  | 23 => ⟨S8x12x256x1, .f32⟩
  | 24 => ⟨S8x12x256x256, .f32⟩
  | 25 => ⟨S8x12x256x256, .f32⟩
  | 26 => ⟨S8x12x256x256, .f32⟩
  | 27 => ⟨S_, .f32⟩
  | 28 => ⟨S8x12x256, .f32⟩
  | 29 => ⟨S8x12x256x1, .f32⟩
  | 30 => ⟨S8x12x256x256, .f32⟩
  | 31 => ⟨S8x12x256x256, .f32⟩
  | 32 => ⟨S8x12x128x256, .f32⟩
  | 33 => ⟨S8x256x12x128, .f32⟩
  | 34 => ⟨S8x256x1536, .f32⟩
  | 35 => ⟨S8x2048x12x128, .f32⟩
  | 36 => ⟨S8x2048x12x128, .f32⟩
  | 37 => ⟨S8x2048x12x128, .f32⟩
  | 38 => ⟨S1x12x15x31, .f32⟩
  | 39 => ⟨S12x15x31, .f32⟩
  | 40 => ⟨S32, .i32⟩
  | 41 => ⟨S64, .i32⟩
  | 42 => ⟨S_, .i32⟩
  | 43 => ⟨S32, .i32⟩
  | 44 => ⟨S32, .i32⟩
  | 45 => ⟨S_, .i32⟩
  | 46 => ⟨S_, .i32⟩
  | 47 => ⟨S_, .i32⟩
  | 48 => ⟨S32, .i32⟩
  | 49 => ⟨S32, .i32⟩
  | 50 => ⟨S_, .i32⟩
  | 51 => ⟨S32, .i32⟩
  | 52 => ⟨S32, .i32⟩
  | 53 => ⟨S32x1, .i32⟩
  | 54 => ⟨S_, .i32⟩
  | 55 => ⟨S64, .i32⟩
  | 56 => ⟨S64, .i32⟩
  | 57 => ⟨S_, .i32⟩
  | 58 => ⟨S_, .i32⟩
  | 59 => ⟨S_, .i32⟩
  | 60 => ⟨S64, .i32⟩
  | 61 => ⟨S64, .i32⟩
  | 62 => ⟨S_, .i32⟩
  | 63 => ⟨S64, .i32⟩
  | 64 => ⟨S64, .i32⟩
  | 65 => ⟨S64x1, .i32⟩
  | 66 => ⟨S1x32, .i32⟩
  | 67 => ⟨S32x32, .i32⟩
  | 68 => ⟨S32x32, .i32⟩
  | 69 => ⟨S32x32, .i1⟩
  | 70 => ⟨S1x32, .i32⟩
  | 71 => ⟨S_, .i32⟩
  | 72 => ⟨S32x1, .i32⟩
  | 73 => ⟨S32x1, .i32⟩
  | 74 => ⟨S32x32, .i32⟩
  | 75 => ⟨S32x32, .i32⟩
  | 76 => ⟨S32x32, .i1⟩
  | 77 => ⟨S32x32, .i1⟩
  | 78 => ⟨S1x64, .i32⟩
  | 79 => ⟨S64x64, .i32⟩
  | 80 => ⟨S64x64, .i32⟩
  | 81 => ⟨S64x64, .i1⟩
  | 82 => ⟨S1x64, .i32⟩
  | 83 => ⟨S_, .i32⟩
  | 84 => ⟨S64x1, .i32⟩
  | 85 => ⟨S64x1, .i32⟩
  | 86 => ⟨S64x64, .i32⟩
  | 87 => ⟨S64x64, .i32⟩
  | 88 => ⟨S64x64, .i1⟩
  | 89 => ⟨S64x64, .i1⟩
  | 90 => ⟨S1x32, .i32⟩
  | 91 => ⟨S32x1, .i32⟩
  | 92 => ⟨S32x32, .i32⟩
  | 93 => ⟨S32x32, .i32⟩
  | 94 => ⟨S32x32, .i32⟩
  | 95 => ⟨S_, .i32⟩
  | 96 => ⟨S32x32, .i32⟩
  | 97 => ⟨S32x32, .i32⟩
  | 98 => ⟨S_, .i32⟩
  | 99 => ⟨S32x32, .i32⟩
  | 100 => ⟨S32x32, .i32⟩
  | 101 => ⟨S_, .i32⟩
  | 102 => ⟨S_, .i32⟩
  | 103 => ⟨S_, .i32⟩
  | 104 => ⟨S32x32, .i32⟩
  | 105 => ⟨S32x32, .i32⟩
  | 106 => ⟨S_, .i32⟩
  | 107 => ⟨S32x32, .i32⟩
  | 108 => ⟨S32x32, .i32⟩
  | 109 => ⟨S1x64, .i32⟩
  | 110 => ⟨S64x1, .i32⟩
  | 111 => ⟨S64x64, .i32⟩
  | 112 => ⟨S64x64, .i32⟩
  | 113 => ⟨S64x64, .i32⟩
  | 114 => ⟨S_, .i32⟩
  | 115 => ⟨S64x64, .i32⟩
  | 116 => ⟨S64x64, .i32⟩
  | 117 => ⟨S_, .i32⟩
  | 118 => ⟨S64x64, .i32⟩
  | 119 => ⟨S64x64, .i32⟩
  | 120 => ⟨S_, .i32⟩
  | 121 => ⟨S_, .i32⟩
  | 122 => ⟨S_, .i32⟩
  | 123 => ⟨S64x64, .i32⟩
  | 124 => ⟨S64x64, .i32⟩
  | 125 => ⟨S_, .i32⟩
  | 126 => ⟨S64x64, .i32⟩
  | 127 => ⟨S64x64, .i32⟩
  | _ => ⟨S18432x23040, .bf16⟩

abbrev hbmTy0_1 (i : Nat) : BufTy := match i % 128 with
  | 0 => ⟨S_, .i32⟩
  | 1 => ⟨S32x32, .i32⟩
  | 2 => ⟨S32x32, .i1⟩
  | 3 => ⟨S_, .i32⟩
  | 4 => ⟨S32x32, .i32⟩
  | 5 => ⟨S32x32, .i32⟩
  | 6 => ⟨S32x32, .i32⟩
  | 7 => ⟨S32x32x1, .i32⟩
  | 8 => ⟨S12x32x32x31, .f32⟩
  | 9 => ⟨S_, .i32⟩
  | 10 => ⟨S64x64, .i32⟩
  | 11 => ⟨S64x64, .i1⟩
  | 12 => ⟨S_, .i32⟩
  | 13 => ⟨S64x64, .i32⟩
  | 14 => ⟨S64x64, .i32⟩
  | 15 => ⟨S64x64, .i32⟩
  | 16 => ⟨S64x64x1, .i32⟩
  | 17 => ⟨S12x32x32x64x64, .f32⟩
  | 18 => ⟨S12x32x64x32x64, .f32⟩
  | 19 => ⟨S12x32x64x2048, .f32⟩
  | 20 => ⟨S32x1x32x1, .i1⟩
  | 21 => ⟨S1x64x1x64, .i1⟩
  | 22 => ⟨S32x64x32x64, .i1⟩
  | 23 => ⟨S32x64x32x64, .i1⟩
  | 24 => ⟨S32x64x32x64, .i1⟩
  | 25 => ⟨S32x64x2048, .i1⟩
  | 26 => ⟨S8x32x64x12x128, .f32⟩
  | 27 => ⟨S8x12x32x64x2048, .f32⟩
  | 28 => ⟨S1x12x32x64x2048, .f32⟩
  | 29 => ⟨S8x12x32x64x2048, .f32⟩
  | 30 => ⟨S8x12x32x64x2048, .f32⟩
  | 31 => ⟨S_, .f32⟩
  | 32 => ⟨S_, .f32⟩
  | 33 => ⟨S8x12x32x64x2048, .i1⟩
  | 34 => ⟨S8x12x32x64x2048, .f32⟩
  | 35 => ⟨S8x12x32x64x2048, .f32⟩
  | 36 => ⟨S8x12x32x64x256, .f32⟩
  | 37 => ⟨S8x12x32x64x2304, .f32⟩
  | 38 => ⟨S_, .f32⟩
  | 39 => ⟨S8x12x32x64, .f32⟩
  | 40 => ⟨S_, .f32⟩
  | 41 => ⟨S8x12x32x64, .f32⟩
  | 42 => ⟨S8x12x32x64, .f32⟩
  | 43 => ⟨S8x12x32x64x1, .f32⟩
  | 44 => ⟨S8x12x32x64x2304, .f32⟩
  | 45 => ⟨S8x12x32x64x2304, .f32⟩
  | 46 => ⟨S8x12x32x64x2304, .f32⟩
  | 47 => ⟨S_, .f32⟩
  | 48 => ⟨S8x12x32x64, .f32⟩
  | 49 => ⟨S8x12x32x64x1, .f32⟩
  | 50 => ⟨S8x12x32x64x2304, .f32⟩
  | 51 => ⟨S8x12x32x64x2304, .f32⟩
  | 52 => ⟨S8x12x32x64x2048, .f32⟩
  | 53 => ⟨S8x12x128x32x64, .f32⟩
  | 54 => ⟨S8x32x64x12x128, .f32⟩
  | 55 => ⟨S8x12x32x64x256, .f32⟩
  | 56 => ⟨S8x12x128x32x64, .f32⟩
  | 57 => ⟨S8x32x64x12x128, .f32⟩
  | 58 => ⟨S8x32x64x12x128, .f32⟩
  | 59 => ⟨S8x2048x1536, .f32⟩
  | 60 => ⟨S8x2304x1536, .f32⟩
  | 61 => ⟨S18432x1536, .f32⟩
  | 62 => ⟨S18432x1536, .bf16⟩
  | _ => ⟨S18432x23040, .bf16⟩

abbrev hbmTy (i : Nat) : BufTy := match i / 128 with
  | 0 => hbmTy0_0 i
  | 1 => hbmTy0_1 i
  | _ => ⟨S18432x23040, .bf16⟩

abbrev bufTy : (tb : Table) → Fin (tcTables nBuf tb) → BufTy
  | .hbm, ⟨i, _⟩ => hbmTy i
  | _, _ => ⟨S18432x23040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c : Ref sig .tc := ⟨.hbm, 42, rfl⟩
abbrev main_v36 : Ref sig .tc := ⟨.hbm, 43, rfl⟩
abbrev main_v37 : Ref sig .tc := ⟨.hbm, 44, rfl⟩
abbrev main_c_3 : Ref sig .tc := ⟨.hbm, 45, rfl⟩
abbrev main_c_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_c_7 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_10 : Ref sig .tc := ⟨.hbm, 95, rfl⟩
abbrev main_v71 : Ref sig .tc := ⟨.hbm, 96, rfl⟩
abbrev main_v72 : Ref sig .tc := ⟨.hbm, 97, rfl⟩
abbrev main_c_11 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_c_13 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_14 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_c_16 : Ref sig .tc := ⟨.hbm, 120, rfl⟩
abbrev main_c_17 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v85 : Ref sig .tc := ⟨.hbm, 127, rfl⟩
abbrev main_c_18 : Ref sig .tc := ⟨.hbm, 128, rfl⟩
abbrev main_v86 : Ref sig .tc := ⟨.hbm, 129, rfl⟩
abbrev main_v87 : Ref sig .tc := ⟨.hbm, 130, rfl⟩
abbrev main_c_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_20 : Ref sig .tc := ⟨.hbm, 137, rfl⟩
abbrev main_v93 : Ref sig .tc := ⟨.hbm, 138, rfl⟩
abbrev main_v94 : Ref sig .tc := ⟨.hbm, 139, rfl⟩
abbrev main_c_21 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_22 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_23 : Ref sig .tc := ⟨.hbm, 166, rfl⟩
abbrev main_v116 : Ref sig .tc := ⟨.hbm, 167, rfl⟩
abbrev main_cst_24 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_25 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩

abbrev nD : Nat := 1
abbrev τ : Topo := Topo.v7x

variable {F : FTy → Type} [FloatOps F]
-- ==== Conv.lean ====
abbrev S18432x23040 : Shape := ⟨2, ![18432, 23040]⟩
abbrev S4x3x1024 : Shape := ⟨3, ![4, 3, 1024]⟩
abbrev S1x3x1024 : Shape := ⟨3, ![1, 3, 1024]⟩
abbrev S3x1024 : Shape := ⟨2, ![3, 1024]⟩
abbrev S18432x1024 : Shape := ⟨2, ![18432, 1024]⟩
abbrev S2304x256 : Shape := ⟨2, ![2304, 256]⟩
abbrev S3x256 : Shape := ⟨2, ![3, 256]⟩
abbrev S2304x1 : Shape := ⟨2, ![2304, 1]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S18432x23040, .bf16⟩
  | .hbm, ⟨1, _⟩ => ⟨S4x3x1024, .f32⟩
  | .hbm, ⟨2, _⟩ => ⟨S1x3x1024, .f32⟩
  | .hbm, ⟨3, _⟩ => ⟨S3x1024, .f32⟩
  | .hbm, ⟨4, _⟩ => ⟨S18432x1024, .bf16⟩
  | .local _ .vmem, ⟨0, _⟩ => ⟨S2304x256, .bf16⟩
  | .local _ .vmem, ⟨1, _⟩ => ⟨S2304x256, .bf16⟩
  | .local _ .vmem, ⟨2, _⟩ => ⟨S2304x256, .bf16⟩
  | .local _ .vmem, ⟨3, _⟩ => ⟨S2304x256, .bf16⟩
  | .local _ .vmem, ⟨4, _⟩ => ⟨S2304x256, .bf16⟩
  | .local _ .vmem, ⟨5, _⟩ => ⟨S2304x256, .bf16⟩
  | .local _ .vmem, ⟨6, _⟩ => ⟨S3x256, .f32⟩
  | .local _ .vmem, ⟨7, _⟩ => ⟨S3x256, .f32⟩
  | .local _ .vmem, ⟨8, _⟩ => ⟨S2304x256, .bf16⟩
  | .local _ .vmem, ⟨9, _⟩ => ⟨S2304x256, .bf16⟩
  | _, _ => ⟨S18432x23040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S18432x23040 : Shape := ⟨2, ![18432, 23040]⟩
abbrev S4x3x1024 : Shape := ⟨3, ![4, 3, 1024]⟩
abbrev S8x2304x23040 : Shape := ⟨3, ![8, 2304, 23040]⟩
abbrev S8x2304x1024 : Shape := ⟨3, ![8, 2304, 1024]⟩
abbrev S8x256x1024 : Shape := ⟨3, ![8, 256, 1024]⟩
abbrev S1x3x1024 : Shape := ⟨3, ![1, 3, 1024]⟩
abbrev S3x1024 : Shape := ⟨2, ![3, 1024]⟩
abbrev S8x1x1024 : Shape := ⟨3, ![8, 1, 1024]⟩
abbrev S_ : Shape := ⟨0, ![]⟩
abbrev S8x255x1024 : Shape := ⟨3, ![8, 255, 1024]⟩
abbrev S1x1024 : Shape := ⟨2, ![1, 1024]⟩
abbrev S1024 : Shape := ⟨1, ![1024]⟩
abbrev S1x1x1024 : Shape := ⟨3, ![1, 1, 1024]⟩
abbrev S8x2048x1024 : Shape := ⟨3, ![8, 2048, 1024]⟩
abbrev S8x2047x1024 : Shape := ⟨3, ![8, 2047, 1024]⟩
abbrev S18432x1024 : Shape := ⟨2, ![18432, 1024]⟩

abbrev nBuf : Space → Nat
  | .hbm => 72
  | .vmem => 0
  | .smem => 0
  | _ => 0

abbrev bufTy : (tb : Table) → Fin (tcTables nBuf tb) → BufTy
  | .hbm, ⟨0, _⟩ => ⟨S18432x23040, .bf16⟩
  | .hbm, ⟨1, _⟩ => ⟨S4x3x1024, .f32⟩
  | .hbm, ⟨2, _⟩ => ⟨S18432x23040, .f32⟩
  | .hbm, ⟨3, _⟩ => ⟨S8x2304x23040, .f32⟩
  | .hbm, ⟨4, _⟩ => ⟨S8x2304x1024, .f32⟩
  | .hbm, ⟨5, _⟩ => ⟨S8x2304x1024, .f32⟩
  | .hbm, ⟨6, _⟩ => ⟨S8x2304x1024, .f32⟩
  | .hbm, ⟨7, _⟩ => ⟨S8x256x1024, .f32⟩
  | .hbm, ⟨8, _⟩ => ⟨S8x256x1024, .f32⟩
  | .hbm, ⟨9, _⟩ => ⟨S8x256x1024, .f32⟩
  | .hbm, ⟨10, _⟩ => ⟨S8x256x1024, .f32⟩
  | .hbm, ⟨11, _⟩ => ⟨S1x3x1024, .f32⟩
  | .hbm, ⟨12, _⟩ => ⟨S3x1024, .f32⟩
  | .hbm, ⟨13, _⟩ => ⟨S8x1x1024, .f32⟩
  | .hbm, ⟨14, _⟩ => ⟨S_, .f32⟩
  | .hbm, ⟨15, _⟩ => ⟨S8x1x1024, .f32⟩
  | .hbm, ⟨16, _⟩ => ⟨S8x255x1024, .f32⟩
  | .hbm, ⟨17, _⟩ => ⟨S8x256x1024, .f32⟩
  | .hbm, ⟨18, _⟩ => ⟨S8x255x1024, .f32⟩
  | .hbm, ⟨19, _⟩ => ⟨S8x256x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S8x256x1024, .f32⟩
  | .hbm, ⟨24, _⟩ => ⟨S8x256x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S8x256x1024, .f32⟩
  | .hbm, ⟨35, _⟩ => ⟨S8x256x1024, .f32⟩
  | .hbm, ⟨36, _⟩ => ⟨S8x256x1024, .f32⟩
  | .hbm, ⟨37, _⟩ => ⟨S8x256x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S1x3x1024, .f32⟩
  | .hbm, ⟨43, _⟩ => ⟨S3x1024, .f32⟩
  | .hbm, ⟨44, _⟩ => ⟨S8x1x1024, .f32⟩
  | .hbm, ⟨45, _⟩ => ⟨S_, .f32⟩
  | .hbm, ⟨46, _⟩ => ⟨S8x1x1024, .f32⟩
  | .hbm, ⟨47, _⟩ => ⟨S8x2047x1024, .f32⟩
  | .hbm, ⟨48, _⟩ => ⟨S8x2048x1024, .f32⟩
  | .hbm, ⟨49, _⟩ => ⟨S8x2047x1024, .f32⟩
  | .hbm, ⟨50, _⟩ => ⟨S8x2048x1024, .f32⟩
  | .hbm, ⟨51, _⟩ => ⟨S1x1024, .f32⟩
  | .hbm, ⟨52, _⟩ => ⟨S1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S1x1024, .f32⟩
  | .hbm, ⟨57, _⟩ => ⟨S1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S1x1024, .f32⟩
  | .hbm, ⟨63, _⟩ => ⟨S1024, .f32⟩
  | .hbm, ⟨64, _⟩ => ⟨S1x1x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2304x1024, .f32⟩
  | .hbm, ⟨70, _⟩ => ⟨S18432x1024, .f32⟩
  | .hbm, ⟨71, _⟩ => ⟨S18432x1024, .bf16⟩
  | _, _ => ⟨S18432x23040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_cst_0 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩

abbrev nD : Nat := 1
abbrev τ : Topo := Topo.v7x

variable {F : FTy → Type} [FloatOps F]
-- ==== InProj.lean ====
abbrev S18432x4096 : Shape := ⟨2, ![18432, 4096]⟩
abbrev S4x4096x24608 : Shape := ⟨3, ![4, 4096, 24608]⟩
abbrev S4x24608x4096 : Shape := ⟨3, ![4, 24608, 4096]⟩
abbrev S18432x23040 : Shape := ⟨2, ![18432, 23040]⟩
abbrev S2304x4096 : Shape := ⟨2, ![2304, 4096]⟩
abbrev S1x512x4096 : Shape := ⟨3, ![1, 512, 4096]⟩
abbrev S2304x512 : Shape := ⟨2, ![2304, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S18432x4096, .bf16⟩
  | .hbm, ⟨1, _⟩ => ⟨S4x4096x24608, .f32⟩
  | .hbm, ⟨2, _⟩ => ⟨S4x24608x4096, .f32⟩
  | .hbm, ⟨3, _⟩ => ⟨S18432x23040, .bf16⟩
  | .local _ .vmem, ⟨0, _⟩ => ⟨S2304x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2304x512, .bf16⟩
  | .local _ .vmem, ⟨4, _⟩ => ⟨S2304x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 45], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c6_i32 : BitVec 32 := 6#32
  let v2 : BitVec 1 := Scalar.cmpi .sge arg1 c6_i32
  let c1536_i32 : BitVec 32 := 1536#32
  let c0_i32_0 : BitVec 32 := 0#32
  let v3 : BitVec 32 := Scalar.select v2 c1536_i32 c0_i32_0
  let v4 : BitVec 32 := Scalar.addi v1 v3
  let c12_i32 : BitVec 32 := 12#32
  let v5 : BitVec 1 := Scalar.cmpi .sge arg1 c12_i32
  let c32_i32 : BitVec 32 := 32#32
  let c0_i32_1 : BitVec 32 := 0#32
  let v6 : BitVec 32 := Scalar.select v5 c32_i32 c0_i32_1
  let v7 : BitVec 32 := Scalar.addi v4 v6
  v7
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c6_i32 : BitVec 32 := 6#32
  let v2 : BitVec 1 := Scalar.cmpi .sge arg1 c6_i32
  let c1536_i32 : BitVec 32 := 1536#32
  let c0_i32_0 : BitVec 32 := 0#32
  let v3 : BitVec 32 := Scalar.select v2 c1536_i32 c0_i32_0
  let v4 : BitVec 32 := Scalar.addi v1 v3
  let c12_i32 : BitVec 32 := 12#32
  let v5 : BitVec 1 := Scalar.cmpi .sge arg1 c12_i32
  let c32_i32 : BitVec 32 := 32#32
  let c0_i32_1 : BitVec 32 := 0#32
  let v6 : BitVec 32 := Scalar.select v5 c32_i32 c0_i32_1
  let v7 : BitVec 32 := Scalar.addi v4 v6
  let v8 : BitVec 32 := v7
  let c0_i32_2 : BitVec 32 := 0#32
  let c0_i32_3 : BitVec 32 := 0#32
  let c0_i32_4 : BitVec 32 := 0#32
  ![c0_i32_2.toNat, v8.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2304x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S18432x4096 : Shape := ⟨2, ![18432, 4096]⟩
abbrev S4x4096x24608 : Shape := ⟨3, ![4, 4096, 24608]⟩
abbrev S1x4096x24608 : Shape := ⟨3, ![1, 4096, 24608]⟩
abbrev S4096x24608 : Shape := ⟨2, ![4096, 24608]⟩
abbrev S18432x24608 : Shape := ⟨2, ![18432, 24608]⟩
abbrev S18432x3072 : Shape := ⟨2, ![18432, 3072]⟩
abbrev S18432x16896 : Shape := ⟨2, ![18432, 16896]⟩
abbrev S18432x23040 : Shape := ⟨2, ![18432, 23040]⟩

abbrev nBuf : Space → Nat
  | .hbm => 11
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4x4096x24608, .f32⟩
  | .hbm, ⟨2, _⟩ => ⟨S18432x4096, .f32⟩
  | .hbm, ⟨3, _⟩ => ⟨S1x4096x24608, .f32⟩
  | .hbm, ⟨4, _⟩ => ⟨S4096x24608, .f32⟩
  | .hbm, ⟨5, _⟩ => ⟨S18432x24608, .f32⟩
  | .hbm, ⟨6, _⟩ => ⟨S18432x3072, .f32⟩
  | .hbm, ⟨7, _⟩ => ⟨S18432x3072, .f32⟩
  | .hbm, ⟨8, _⟩ => ⟨S18432x16896, .f32⟩
  | .hbm, ⟨9, _⟩ => ⟨S18432x23040, .f32⟩
  | .hbm, ⟨10, _⟩ => ⟨S18432x23040, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== FfnUp.lean ====
abbrev S18432x4096 : Shape := ⟨2, ![18432, 4096]⟩
abbrev S4x2x4096x6144 : Shape := ⟨4, ![4, 2, 4096, 6144]⟩
abbrev S18432x3072 : Shape := ⟨2, ![18432, 3072]⟩
abbrev S1152x4096 : Shape := ⟨2, ![1152, 4096]⟩
abbrev S1x1x4096x512 : Shape := ⟨4, ![1, 1, 4096, 512]⟩
abbrev S1152x512 : Shape := ⟨2, ![1152, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S18432x4096, .bf16⟩
  | .hbm, ⟨1, _⟩ => ⟨S4x2x4096x6144, .f32⟩
  | .hbm, ⟨2, _⟩ => ⟨S4x2x4096x6144, .bf16⟩
  | .hbm, ⟨3, _⟩ => ⟨S18432x3072, .bf16⟩
  | .local _ .vmem, ⟨0, _⟩ => ⟨S1152x4096, .bf16⟩
  | .local _ .vmem, ⟨1, _⟩ => ⟨S1152x4096, .bf16⟩
  | .local _ .vmem, ⟨2, _⟩ => ⟨S1x1x4096x512, .bf16⟩
  | .local _ .vmem, ⟨3, _⟩ => ⟨S1x1x4096x512, .bf16⟩
  | .local _ .vmem, ⟨4, _⟩ => ⟨S1x1x4096x512, .bf16⟩
  | .local _ .vmem, ⟨5, _⟩ => ⟨S1x1x4096x512, .bf16⟩
  | .local _ .vmem, ⟨6, _⟩ => ⟨S1152x512, .bf16⟩
  | .local _ .vmem, ⟨7, _⟩ => ⟨S1152x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1152x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S18432x4096 : Shape := ⟨2, ![18432, 4096]⟩
abbrev S4x2x4096x6144 : Shape := ⟨4, ![4, 2, 4096, 6144]⟩
abbrev S1x1x4096x6144 : Shape := ⟨4, ![1, 1, 4096, 6144]⟩
abbrev S4096x6144 : Shape := ⟨2, ![4096, 6144]⟩
abbrev S18432x6144 : Shape := ⟨2, ![18432, 6144]⟩
abbrev S18432x3072 : Shape := ⟨2, ![18432, 3072]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4x2x4096x6144, .f32⟩
  | .hbm, ⟨2, _⟩ => ⟨S18432x4096, .f32⟩
  | .hbm, ⟨3, _⟩ => ⟨S1x1x4096x6144, .f32⟩
  | .hbm, ⟨4, _⟩ => ⟨S4096x6144, .f32⟩
  | .hbm, ⟨5, _⟩ => ⟨S18432x6144, .f32⟩
  | .hbm, ⟨6, _⟩ => ⟨S18432x3072, .f32⟩
  | .hbm, ⟨7, _⟩ => ⟨S18432x3072, .f32⟩
  | .hbm, ⟨8, _⟩ => ⟨S18432x3072, .f32⟩
  | .hbm, ⟨9, _⟩ => ⟨S18432x3072, .f32⟩
  | .hbm, ⟨10, _⟩ => ⟨S_, .f32⟩
  | .hbm, ⟨11, _⟩ => ⟨S18432x3072, .f32⟩
  | .hbm, ⟨12, _⟩ => ⟨S18432x3072, .f32⟩
  | .hbm, ⟨13, _⟩ => ⟨S_, .f32⟩
  | .hbm, ⟨14, _⟩ => ⟨S18432x3072, .f32⟩
  | .hbm, ⟨15, _⟩ => ⟨S18432x3072, .f32⟩
  | .hbm, ⟨16, _⟩ => ⟨S18432x3072, .f32⟩
  | .hbm, ⟨17, _⟩ => ⟨S18432x3072, .f32⟩
  | .hbm, ⟨18, _⟩ => ⟨S18432x3072, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== FfnDown.lean ====
abbrev S18432x3072 : Shape := ⟨2, ![18432, 3072]⟩
abbrev S4x2x3072x4096 : Shape := ⟨4, ![4, 2, 3072, 4096]⟩
abbrev S18432x4096 : Shape := ⟨2, ![18432, 4096]⟩
abbrev S9x1x36864 : Shape := ⟨3, ![9, 1, 36864]⟩
abbrev S8x3072x4096 : Shape := ⟨3, ![8, 3072, 4096]⟩
abbrev S1152x3072 : Shape := ⟨2, ![1152, 3072]⟩
abbrev S1x3072x512 : Shape := ⟨3, ![1, 3072, 512]⟩
abbrev S1152x512 : Shape := ⟨2, ![1152, 512]⟩
abbrev S1x1x512 : Shape := ⟨3, ![1, 1, 512]⟩
abbrev S3072x512 : Shape := ⟨2, ![3072, 512]⟩
abbrev S1152x1 : Shape := ⟨2, ![1152, 1]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S18432x3072, .bf16⟩
  | .hbm, ⟨1, _⟩ => ⟨S4x2x3072x4096, .f32⟩
  | .hbm, ⟨2, _⟩ => ⟨S18432x4096, .f32⟩
  | .hbm, ⟨3, _⟩ => ⟨S9x1x36864, .f32⟩
  | .hbm, ⟨4, _⟩ => ⟨S4x2x3072x4096, .bf16⟩
  | .hbm, ⟨5, _⟩ => ⟨S8x3072x4096, .bf16⟩
  | .hbm, ⟨6, _⟩ => ⟨S18432x4096, .f32⟩
  | .local _ .vmem, ⟨0, _⟩ => ⟨S1152x3072, .bf16⟩
  | .local _ .vmem, ⟨1, _⟩ => ⟨S1152x3072, .bf16⟩
  | .local _ .vmem, ⟨2, _⟩ => ⟨S1x3072x512, .bf16⟩
  | .local _ .vmem, ⟨3, _⟩ => ⟨S1x3072x512, .bf16⟩
  | .local _ .vmem, ⟨4, _⟩ => ⟨S1152x512, .f32⟩
  | .local _ .vmem, ⟨5, _⟩ => ⟨S1152x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1152x512, .f32⟩
  | .local _ .vmem, ⟨11, _⟩ => ⟨S1152x512, .f32⟩
  | _, _ => ⟨S18432x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c1152_i32 : BitVec 32 := 1152#32
  let v0 : BitVec 32 := Scalar.muli arg0 c1152_i32
  let c2304_i32 : BitVec 32 := 2304#32
  let v1 : BitVec 32 := Scalar.divsi v0 c2304_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2304_i32 c0_i32_1
  let v8 : BitVec 32 := Scalar.extui v7
  let c0_i32_2 : BitVec 32 := 0#32
  let v9 : BitVec 1 := Scalar.cmpi .slt c2304_i32 c0_i32_2
  let v10 : BitVec 32 := Scalar.extui v9
  let v11 : BitVec 32 := Scalar.subi v8 v10
  let v12 : BitVec 1 := Scalar.cmpi .ne v6 v11
  let v13 : BitVec 32 := Scalar.remsi v0 c2304_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c16_i32 : BitVec 32 := 16#32
  let v19 : BitVec 32 := Scalar.addi c16_i32 arg1
  let c0_i32_5 : BitVec 32 := 0#32
  let c0_i32_6 : BitVec 32 := 0#32
  ![v18.toNat, c0_i32_5.toNat, v19.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1152x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDownRefIdeal.lean ====
abbrev S18432x3072 : Shape := ⟨2, ![18432, 3072]⟩
abbrev S4x2x3072x4096 : Shape := ⟨4, ![4, 2, 3072, 4096]⟩
abbrev S18432x4096 : Shape := ⟨2, ![18432, 4096]⟩
abbrev S9x1x36864 : Shape := ⟨3, ![9, 1, 36864]⟩
abbrev S9x36864 : Shape := ⟨2, ![9, 36864]⟩
abbrev S9x9x4096 : Shape := ⟨3, ![9, 9, 4096]⟩
abbrev S9x1x4096 : Shape := ⟨3, ![9, 1, 4096]⟩
abbrev S9x4096 : Shape := ⟨2, ![9, 4096]⟩
abbrev S1x4096 : Shape := ⟨2, ![1, 4096]⟩
abbrev S4096 : Shape := ⟨1, ![4096]⟩
abbrev S8x256x4096 : Shape := ⟨3, ![8, 256, 4096]⟩
abbrev S8x4096 : Shape := ⟨2, ![8, 4096]⟩
abbrev S8x1x4096 : Shape := ⟨3, ![8, 1, 4096]⟩
abbrev S8x2048x4096 : Shape := ⟨3, ![8, 2048, 4096]⟩
abbrev S8x2304x4096 : Shape := ⟨3, ![8, 2304, 4096]⟩
abbrev S_ : Shape := ⟨0, ![]⟩
abbrev S1x1x3072x4096 : Shape := ⟨4, ![1, 1, 3072, 4096]⟩
abbrev S3072x4096 : Shape := ⟨2, ![3072, 4096]⟩

abbrev nBuf : Space → Nat
  | .hbm => 25
  | .vmem => 0
  | .smem => 0
  | _ => 0

abbrev bufTy : (tb : Table) → Fin (tcTables nBuf tb) → BufTy
  | .hbm, ⟨0, _⟩ => ⟨S18432x3072, .bf16⟩
  | .hbm, ⟨1, _⟩ => ⟨S4x2x3072x4096, .f32⟩
  | .hbm, ⟨2, _⟩ => ⟨S18432x4096, .f32⟩
  | .hbm, ⟨3, _⟩ => ⟨S9x1x36864, .f32⟩
  | .hbm, ⟨4, _⟩ => ⟨S9x36864, .f32⟩
  | .hbm, ⟨5, _⟩ => ⟨S9x9x4096, .f32⟩
  | .hbm, ⟨6, _⟩ => ⟨S9x1x4096, .f32⟩
  | .hbm, ⟨7, _⟩ => ⟨S9x4096, .f32⟩
  | .hbm, ⟨8, _⟩ => ⟨S1x4096, .f32⟩
  | .hbm, ⟨9, _⟩ => ⟨S4096, .f32⟩
  | .hbm, ⟨10, _⟩ => ⟨S8x256x4096, .f32⟩
  | .hbm, ⟨11, _⟩ => ⟨S8x4096, .f32⟩
  | .hbm, ⟨12, _⟩ => ⟨S8x1x4096, .f32⟩
  | .hbm, ⟨13, _⟩ => ⟨S8x2048x4096, .f32⟩
  | .hbm, ⟨14, _⟩ => ⟨S8x2304x4096, .f32⟩
  | .hbm, ⟨15, _⟩ => ⟨S18432x4096, .f32⟩
  | .hbm, ⟨16, _⟩ => ⟨S_, .f32⟩
  | .hbm, ⟨17, _⟩ => ⟨S18432x4096, .f32⟩
  | .hbm, ⟨18, _⟩ => ⟨S18432x4096, .f32⟩
  | .hbm, ⟨19, _⟩ => ⟨S18432x3072, .f32⟩
  | .hbm, ⟨20, _⟩ => ⟨S1x1x3072x4096, .f32⟩
  | .hbm, ⟨21, _⟩ => ⟨S3072x4096, .f32⟩
  | .hbm, ⟨22, _⟩ => ⟨S18432x4096, .f32⟩
  | .hbm, ⟨23, _⟩ => ⟨S18432x4096, .f32⟩
  | .hbm, ⟨24, _⟩ => ⟨S18432x4096, .f32⟩
  | _, _ => ⟨S18432x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== OutProj.lean ====
abbrev S18432x4096 : Shape := ⟨2, ![18432, 4096]⟩
abbrev S4x4096x4096 : Shape := ⟨3, ![4, 4096, 4096]⟩
abbrev S9x1x36864 : Shape := ⟨3, ![9, 1, 36864]⟩
abbrev S1152x4096 : Shape := ⟨2, ![1152, 4096]⟩
abbrev S1x4096x512 : Shape := ⟨3, ![1, 4096, 512]⟩
abbrev S1152x512 : Shape := ⟨2, ![1152, 512]⟩
abbrev S1x1x512 : Shape := ⟨3, ![1, 1, 512]⟩
abbrev S4096x512 : Shape := ⟨2, ![4096, 512]⟩
abbrev S1152x1 : Shape := ⟨2, ![1152, 1]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S18432x4096, .bf16⟩
  | .hbm, ⟨1, _⟩ => ⟨S4x4096x4096, .f32⟩
  | .hbm, ⟨2, _⟩ => ⟨S18432x4096, .f32⟩
  | .hbm, ⟨3, _⟩ => ⟨S9x1x36864, .f32⟩
  | .hbm, ⟨4, _⟩ => ⟨S4x4096x4096, .bf16⟩
  | .hbm, ⟨5, _⟩ => ⟨S18432x4096, .f32⟩
  | .local _ .vmem, ⟨0, _⟩ => ⟨S1152x4096, .bf16⟩
  | .local _ .vmem, ⟨1, _⟩ => ⟨S1152x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1152x512, .f32⟩
  | .local _ .vmem, ⟨5, _⟩ => ⟨S1152x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1152x512, .f32⟩
  | .local _ .vmem, ⟨11, _⟩ => ⟨S1152x512, .f32⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c1152_i32 : BitVec 32 := 1152#32
  let v0 : BitVec 32 := Scalar.muli arg0 c1152_i32
  let c2304_i32 : BitVec 32 := 2304#32
  let v1 : BitVec 32 := Scalar.divsi v0 c2304_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2304_i32 c0_i32_1
  let v8 : BitVec 32 := Scalar.extui v7
  let c0_i32_2 : BitVec 32 := 0#32
  let v9 : BitVec 1 := Scalar.cmpi .slt c2304_i32 c0_i32_2
  let v10 : BitVec 32 := Scalar.extui v9
  let v11 : BitVec 32 := Scalar.subi v8 v10
  let v12 : BitVec 1 := Scalar.cmpi .ne v6 v11
  let v13 : BitVec 32 := Scalar.remsi v0 c2304_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c40_i32 : BitVec 32 := 40#32
  let v19 : BitVec 32 := Scalar.addi c40_i32 arg1
  let c0_i32_5 : BitVec 32 := 0#32
  let c0_i32_6 : BitVec 32 := 0#32
  ![v18.toNat, c0_i32_5.toNat, v19.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1152x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S18432x4096 : Shape := ⟨2, ![18432, 4096]⟩
abbrev S4x4096x4096 : Shape := ⟨3, ![4, 4096, 4096]⟩
abbrev S9x1x36864 : Shape := ⟨3, ![9, 1, 36864]⟩
abbrev S9x36864 : Shape := ⟨2, ![9, 36864]⟩
abbrev S9x9x4096 : Shape := ⟨3, ![9, 9, 4096]⟩
abbrev S9x1x4096 : Shape := ⟨3, ![9, 1, 4096]⟩
abbrev S9x4096 : Shape := ⟨2, ![9, 4096]⟩
abbrev S1x4096 : Shape := ⟨2, ![1, 4096]⟩
abbrev S4096 : Shape := ⟨1, ![4096]⟩
abbrev S8x256x4096 : Shape := ⟨3, ![8, 256, 4096]⟩
abbrev S8x4096 : Shape := ⟨2, ![8, 4096]⟩
abbrev S8x1x4096 : Shape := ⟨3, ![8, 1, 4096]⟩
abbrev S8x2048x4096 : Shape := ⟨3, ![8, 2048, 4096]⟩
abbrev S8x2304x4096 : Shape := ⟨3, ![8, 2304, 4096]⟩
abbrev S1x4096x4096 : Shape := ⟨3, ![1, 4096, 4096]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4x4096x4096, .f32⟩
  | .hbm, ⟨2, _⟩ => ⟨S18432x4096, .f32⟩
  | .hbm, ⟨3, _⟩ => ⟨S9x1x36864, .f32⟩
  | .hbm, ⟨4, _⟩ => ⟨S9x36864, .f32⟩
  | .hbm, ⟨5, _⟩ => ⟨S9x9x4096, .f32⟩
  | .hbm, ⟨6, _⟩ => ⟨S9x1x4096, .f32⟩
  | .hbm, ⟨7, _⟩ => ⟨S9x4096, .f32⟩
  | .hbm, ⟨8, _⟩ => ⟨S1x4096, .f32⟩
  | .hbm, ⟨9, _⟩ => ⟨S4096, .f32⟩
  | .hbm, ⟨10, _⟩ => ⟨S8x256x4096, .f32⟩
  | .hbm, ⟨11, _⟩ => ⟨S8x4096, .f32⟩
  | .hbm, ⟨12, _⟩ => ⟨S8x1x4096, .f32⟩
  | .hbm, ⟨13, _⟩ => ⟨S8x2048x4096, .f32⟩
  | .hbm, ⟨14, _⟩ => ⟨S8x2304x4096, .f32⟩
  | .hbm, ⟨15, _⟩ => ⟨S18432x4096, .f32⟩
  | .hbm, ⟨16, _⟩ => ⟨S18432x4096, .f32⟩
  | .hbm, ⟨17, _⟩ => ⟨S1x4096x4096, .f32⟩
  | .hbm, ⟨18, _⟩ => ⟨S4096x4096, .f32⟩
  | .hbm, ⟨19, _⟩ => ⟨S18432x4096, .f32⟩
  | .hbm, ⟨20, _⟩ => ⟨S18432x4096, .f32⟩
  | .hbm, ⟨21, _⟩ => ⟨S18432x4096, .f32⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Branch.lean ====
abbrev S18432x1024 : Shape := ⟨2, ![18432, 1024]⟩
abbrev S18432x1536 : Shape := ⟨2, ![18432, 1536]⟩
abbrev S4x1024x4096 : Shape := ⟨3, ![4, 1024, 4096]⟩
abbrev S4x1536x4096 : Shape := ⟨3, ![4, 1536, 4096]⟩
abbrev S18432x23040 : Shape := ⟨2, ![18432, 23040]⟩
abbrev S18432x4096 : Shape := ⟨2, ![18432, 4096]⟩
abbrev S1152x1024 : Shape := ⟨2, ![1152, 1024]⟩
abbrev S1152x1536 : Shape := ⟨2, ![1152, 1536]⟩
abbrev S1x1024x512 : Shape := ⟨3, ![1, 1024, 512]⟩
abbrev S1x1536x512 : Shape := ⟨3, ![1, 1536, 512]⟩
abbrev S1152x512 : Shape := ⟨2, ![1152, 512]⟩
abbrev S1024x512 : Shape := ⟨2, ![1024, 512]⟩
abbrev S1536x512 : Shape := ⟨2, ![1536, 512]⟩

abbrev nBuf : Space → Nat
  | .hbm => 11
  | .vmem => 20
  | .smem => 0
  | _ => 0

abbrev bufTy : (tb : Table) → Fin (tcTables nBuf tb) → BufTy
  | .hbm, ⟨0, _⟩ => ⟨S18432x1024, .bf16⟩
  | .hbm, ⟨1, _⟩ => ⟨S18432x1536, .bf16⟩
  | .hbm, ⟨2, _⟩ => ⟨S18432x1536, .bf16⟩
  | .hbm, ⟨3, _⟩ => ⟨S4x1024x4096, .f32⟩
  | .hbm, ⟨4, _⟩ => ⟨S4x1536x4096, .f32⟩
  | .hbm, ⟨5, _⟩ => ⟨S4x1536x4096, .f32⟩
  | .hbm, ⟨6, _⟩ => ⟨S18432x23040, .bf16⟩
  | .hbm, ⟨7, _⟩ => ⟨S4x1024x4096, .bf16⟩
  | .hbm, ⟨8, _⟩ => ⟨S4x1536x4096, .bf16⟩
  | .hbm, ⟨9, _⟩ => ⟨S4x1536x4096, .bf16⟩
  | .hbm, ⟨10, _⟩ => ⟨S18432x4096, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1536, .bf16⟩
  | .local _ .vmem, ⟨3, _⟩ => ⟨S1152x1536, .bf16⟩
  | .local _ .vmem, ⟨4, _⟩ => ⟨S1152x1536, .bf16⟩
  | .local _ .vmem, ⟨5, _⟩ => ⟨S1152x1536, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1536x512, .bf16⟩
  | .local _ .vmem, ⟨9, _⟩ => ⟨S1x1536x512, .bf16⟩
  | .local _ .vmem, ⟨10, _⟩ => ⟨S1x1536x512, .bf16⟩
  | .local _ .vmem, ⟨11, _⟩ => ⟨S1x1536x512, .bf16⟩
  | .local _ .vmem, ⟨12, _⟩ => ⟨S1152x512, .bf16⟩
  | .local _ .vmem, ⟨13, _⟩ => ⟨S1152x512, .bf16⟩
  | .local _ .vmem, ⟨14, _⟩ => ⟨S1152x512, .bf16⟩
  | .local _ .vmem, ⟨15, _⟩ => ⟨S1152x512, .bf16⟩
  | .local _ .vmem, ⟨16, _⟩ => ⟨S1152x512, .bf16⟩
  | .local _ .vmem, ⟨17, _⟩ => ⟨S1152x512, .bf16⟩
  | .local _ .vmem, ⟨18, _⟩ => ⟨S1152x512, .bf16⟩
  | .local _ .vmem, ⟨19, _⟩ => ⟨S1152x512, .bf16⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1152x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1152x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1152x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1152x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1152x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== BranchRefIdeal.lean ====
abbrev S18432x1024 : Shape := ⟨2, ![18432, 1024]⟩
abbrev S18432x1536 : Shape := ⟨2, ![18432, 1536]⟩
abbrev S4x1024x4096 : Shape := ⟨3, ![4, 1024, 4096]⟩
abbrev S4x1536x4096 : Shape := ⟨3, ![4, 1536, 4096]⟩
abbrev S18432x23040 : Shape := ⟨2, ![18432, 23040]⟩
abbrev S18432x4096 : Shape := ⟨2, ![18432, 4096]⟩
abbrev S_ : Shape := ⟨0, ![]⟩
abbrev S1x1024x4096 : Shape := ⟨3, ![1, 1024, 4096]⟩
abbrev S1024x4096 : Shape := ⟨2, ![1024, 4096]⟩
abbrev S1x1536x4096 : Shape := ⟨3, ![1, 1536, 4096]⟩
abbrev S1536x4096 : Shape := ⟨2, ![1536, 4096]⟩

abbrev nBuf : Space → Nat
  | .hbm => 55
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S18432x1536, .bf16⟩
  | .hbm, ⟨2, _⟩ => ⟨S18432x1536, .bf16⟩
  | .hbm, ⟨3, _⟩ => ⟨S4x1024x4096, .f32⟩
  | .hbm, ⟨4, _⟩ => ⟨S4x1536x4096, .f32⟩
  | .hbm, ⟨5, _⟩ => ⟨S4x1536x4096, .f32⟩
  | .hbm, ⟨6, _⟩ => ⟨S18432x23040, .bf16⟩
  | .hbm, ⟨7, _⟩ => ⟨S18432x4096, .bf16⟩
  | .hbm, ⟨8, _⟩ => ⟨S18432x4096, .f32⟩
  | .hbm, ⟨9, _⟩ => ⟨S18432x4096, .bf16⟩
  | .hbm, ⟨10, _⟩ => ⟨S18432x4096, .f32⟩
  | .hbm, ⟨11, _⟩ => ⟨S18432x4096, .bf16⟩
  | .hbm, ⟨12, _⟩ => ⟨S18432x4096, .f32⟩
  | .hbm, ⟨13, _⟩ => ⟨S18432x4096, .f32⟩
  | .hbm, ⟨14, _⟩ => ⟨S18432x4096, .f32⟩
  | .hbm, ⟨15, _⟩ => ⟨S_, .f32⟩
  | .hbm, ⟨16, _⟩ => ⟨S18432x4096, .f32⟩
  | .hbm, ⟨17, _⟩ => ⟨S18432x4096, .f32⟩
  | .hbm, ⟨18, _⟩ => ⟨S_, .f32⟩
  | .hbm, ⟨19, _⟩ => ⟨S18432x4096, .f32⟩
  | .hbm, ⟨20, _⟩ => ⟨S18432x4096, .f32⟩
  | .hbm, ⟨21, _⟩ => ⟨S18432x1024, .f32⟩
  | .hbm, ⟨22, _⟩ => ⟨S1x1024x4096, .f32⟩
  | .hbm, ⟨23, _⟩ => ⟨S1024x4096, .f32⟩
  | .hbm, ⟨24, _⟩ => ⟨S18432x4096, .f32⟩
  | .hbm, ⟨25, _⟩ => ⟨S18432x4096, .f32⟩
  | .hbm, ⟨26, _⟩ => ⟨S18432x4096, .f32⟩
  | .hbm, ⟨27, _⟩ => ⟨S18432x4096, .f32⟩
  | .hbm, ⟨28, _⟩ => ⟨S_, .f32⟩
  | .hbm, ⟨29, _⟩ => ⟨S18432x4096, .f32⟩
  | .hbm, ⟨30, _⟩ => ⟨S18432x4096, .f32⟩
  | .hbm, ⟨31, _⟩ => ⟨S_, .f32⟩
  | .hbm, ⟨32, _⟩ => ⟨S18432x4096, .f32⟩
  | .hbm, ⟨33, _⟩ => ⟨S18432x4096, .f32⟩
  | .hbm, ⟨34, _⟩ => ⟨S18432x1536, .f32⟩
  | .hbm, ⟨35, _⟩ => ⟨S1x1536x4096, .f32⟩
  | .hbm, ⟨36, _⟩ => ⟨S1536x4096, .f32⟩
  | .hbm, ⟨37, _⟩ => ⟨S18432x4096, .f32⟩
  | .hbm, ⟨38, _⟩ => ⟨S18432x4096, .f32⟩
  | .hbm, ⟨39, _⟩ => ⟨S18432x4096, .f32⟩
  | .hbm, ⟨40, _⟩ => ⟨S18432x4096, .f32⟩
  | .hbm, ⟨41, _⟩ => ⟨S18432x4096, .f32⟩
  | .hbm, ⟨42, _⟩ => ⟨S_, .f32⟩
  | .hbm, ⟨43, _⟩ => ⟨S18432x4096, .f32⟩
  | .hbm, ⟨44, _⟩ => ⟨S18432x4096, .f32⟩
  | .hbm, ⟨45, _⟩ => ⟨S_, .f32⟩
  | .hbm, ⟨46, _⟩ => ⟨S18432x4096, .f32⟩
  | .hbm, ⟨47, _⟩ => ⟨S18432x4096, .f32⟩
  | .hbm, ⟨48, _⟩ => ⟨S18432x1536, .f32⟩
  | .hbm, ⟨49, _⟩ => ⟨S1x1536x4096, .f32⟩
  | .hbm, ⟨50, _⟩ => ⟨S1536x4096, .f32⟩
  | .hbm, ⟨51, _⟩ => ⟨S18432x4096, .f32⟩
  | .hbm, ⟨52, _⟩ => ⟨S18432x4096, .f32⟩
  | .hbm, ⟨53, _⟩ => ⟨S18432x4096, .f32⟩
  | .hbm, ⟨54, _⟩ => ⟨S18432x4096, .bf16⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== FinalNorm.lean ====
abbrev S18432x4096 : Shape := ⟨2, ![18432, 4096]⟩
abbrev S4096 : Shape := ⟨1, ![4096]⟩
abbrev S1x4096 : Shape := ⟨2, ![1, 4096]⟩
abbrev S8x2304x4096 : Shape := ⟨3, ![8, 2304, 4096]⟩
abbrev S8x2048x4096 : Shape := ⟨3, ![8, 2048, 4096]⟩
abbrev S1x256x4096 : Shape := ⟨3, ![1, 256, 4096]⟩
abbrev S1x16x4096 : Shape := ⟨3, ![1, 16, 4096]⟩
abbrev S16x4096 : Shape := ⟨2, ![16, 4096]⟩
abbrev S16 : Shape := ⟨1, ![16]⟩
abbrev S16x1 : Shape := ⟨2, ![16, 1]⟩

abbrev nBuf : Space → Nat
  | .hbm => 5
  | .vmem => 5
  | .smem => 0
  | _ => 0

abbrev bufTy : (tb : Table) → Fin (tcTables nBuf tb) → BufTy
  | .hbm, ⟨0, _⟩ => ⟨S18432x4096, .f32⟩
  | .hbm, ⟨1, _⟩ => ⟨S4096, .f32⟩
  | .hbm, ⟨2, _⟩ => ⟨S1x4096, .f32⟩
  | .hbm, ⟨3, _⟩ => ⟨S8x2304x4096, .f32⟩
  | .hbm, ⟨4, _⟩ => ⟨S8x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x256x4096, .f32⟩
  | .local _ .vmem, ⟨4, _⟩ => ⟨S1x256x4096, .f32⟩
  | _, _ => ⟨S18432x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalNormRefIdeal.lean ====
abbrev S18432x4096 : Shape := ⟨2, ![18432, 4096]⟩
abbrev S4096 : Shape := ⟨1, ![4096]⟩
abbrev S8x2304x4096 : Shape := ⟨3, ![8, 2304, 4096]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S18432x4096, .f32⟩
  | .hbm, ⟨1, _⟩ => ⟨S4096, .f32⟩
  | .hbm, ⟨2, _⟩ => ⟨S8x2304x4096, .f32⟩
  | .hbm, ⟨3, _⟩ => ⟨S8x2048x4096, .f32⟩
  | .hbm, ⟨4, _⟩ => ⟨S8x2048x4096, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x4096, .f32⟩
  | .hbm, ⟨16, _⟩ => ⟨S8x2048x4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | _, _ => ⟨S18432x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== QkProj.lean ====
abbrev S18432x4096 : Shape := ⟨2, ![18432, 4096]⟩
abbrev S4x4096x24608 : Shape := ⟨3, ![4, 4096, 24608]⟩
abbrev S4x24608x4096 : Shape := ⟨3, ![4, 24608, 4096]⟩
abbrev S4x48x4096 : Shape := ⟨3, ![4, 48, 4096]⟩
abbrev S4x32x4096 : Shape := ⟨3, ![4, 32, 4096]⟩
abbrev S_ : Shape := ⟨0, ![]⟩
abbrev S4x688x4096 : Shape := ⟨3, ![4, 688, 4096]⟩
abbrev S4x672x4096 : Shape := ⟨3, ![4, 672, 4096]⟩
abbrev S4x2048x4096 : Shape := ⟨3, ![4, 2048, 4096]⟩
abbrev S18432x2048 : Shape := ⟨2, ![18432, 2048]⟩
abbrev S1152x4096 : Shape := ⟨2, ![1152, 4096]⟩
abbrev S1x512x4096 : Shape := ⟨3, ![1, 512, 4096]⟩
abbrev S1152x512 : Shape := ⟨2, ![1152, 512]⟩
abbrev S512x4096 : Shape := ⟨2, ![512, 4096]⟩

abbrev nBuf : Space → Nat
  | .hbm => 71
  | .vmem => 6
  | .smem => 0
  | _ => 0

abbrev bufTy : (tb : Table) → Fin (tcTables nBuf tb) → BufTy
  | .hbm, ⟨0, _⟩ => ⟨S18432x4096, .bf16⟩
  | .hbm, ⟨1, _⟩ => ⟨S4x4096x24608, .f32⟩
  | .hbm, ⟨2, _⟩ => ⟨S4x24608x4096, .f32⟩
  | .hbm, ⟨3, _⟩ => ⟨S4x48x4096, .f32⟩
  | .hbm, ⟨4, _⟩ => ⟨S4x48x4096, .f32⟩
  | .hbm, ⟨5, _⟩ => ⟨S4x32x4096, .f32⟩
  | .hbm, ⟨6, _⟩ => ⟨S4x48x4096, .f32⟩
  | .hbm, ⟨7, _⟩ => ⟨S4x48x4096, .f32⟩
  | .hbm, ⟨8, _⟩ => ⟨S_, .f32⟩
  | .hbm, ⟨9, _⟩ => ⟨S4x32x4096, .f32⟩
  | .hbm, ⟨10, _⟩ => ⟨S4x48x4096, .f32⟩
  | .hbm, ⟨11, _⟩ => ⟨S4x48x4096, .f32⟩
  | .hbm, ⟨12, _⟩ => ⟨S_, .f32⟩
  | .hbm, ⟨13, _⟩ => ⟨S4x32x4096, .f32⟩
  | .hbm, ⟨14, _⟩ => ⟨S4x48x4096, .f32⟩
  | .hbm, ⟨15, _⟩ => ⟨S4x48x4096, .f32⟩
  | .hbm, ⟨16, _⟩ => ⟨S_, .f32⟩
  | .hbm, ⟨17, _⟩ => ⟨S4x32x4096, .f32⟩
  | .hbm, ⟨18, _⟩ => ⟨S4x48x4096, .f32⟩
  | .hbm, ⟨19, _⟩ => ⟨S4x48x4096, .f32⟩
  | .hbm, ⟨20, _⟩ => ⟨S_, .f32⟩
  | .hbm, ⟨21, _⟩ => ⟨S4x32x4096, .f32⟩
  | .hbm, ⟨22, _⟩ => ⟨S4x48x4096, .f32⟩
  | .hbm, ⟨23, _⟩ => ⟨S4x48x4096, .f32⟩
  | .hbm, ⟨24, _⟩ => ⟨S_, .f32⟩
  | .hbm, ⟨25, _⟩ => ⟨S4x32x4096, .f32⟩
  | .hbm, ⟨26, _⟩ => ⟨S4x48x4096, .f32⟩
  | .hbm, ⟨27, _⟩ => ⟨S4x48x4096, .f32⟩
  | .hbm, ⟨28, _⟩ => ⟨S_, .f32⟩
  | .hbm, ⟨29, _⟩ => ⟨S4x32x4096, .f32⟩
  | .hbm, ⟨30, _⟩ => ⟨S4x48x4096, .f32⟩
  | .hbm, ⟨31, _⟩ => ⟨S4x48x4096, .f32⟩
  | .hbm, ⟨32, _⟩ => ⟨S_, .f32⟩
  | .hbm, ⟨33, _⟩ => ⟨S4x32x4096, .f32⟩
  | .hbm, ⟨34, _⟩ => ⟨S4x48x4096, .f32⟩
  | .hbm, ⟨35, _⟩ => ⟨S4x48x4096, .f32⟩
  | .hbm, ⟨36, _⟩ => ⟨S_, .f32⟩
  | .hbm, ⟨37, _⟩ => ⟨S4x32x4096, .f32⟩
  | .hbm, ⟨38, _⟩ => ⟨S4x48x4096, .f32⟩
  | .hbm, ⟨39, _⟩ => ⟨S4x48x4096, .f32⟩
  | .hbm, ⟨40, _⟩ => ⟨S_, .f32⟩
  | .hbm, ⟨41, _⟩ => ⟨S4x32x4096, .f32⟩
  | .hbm, ⟨42, _⟩ => ⟨S4x48x4096, .f32⟩
  | .hbm, ⟨43, _⟩ => ⟨S4x48x4096, .f32⟩
  | .hbm, ⟨44, _⟩ => ⟨S_, .f32⟩
  | .hbm, ⟨45, _⟩ => ⟨S4x32x4096, .f32⟩
  | .hbm, ⟨46, _⟩ => ⟨S4x48x4096, .f32⟩
  | .hbm, ⟨47, _⟩ => ⟨S4x48x4096, .f32⟩
  | .hbm, ⟨48, _⟩ => ⟨S_, .f32⟩
  | .hbm, ⟨49, _⟩ => ⟨S4x32x4096, .f32⟩
  | .hbm, ⟨50, _⟩ => ⟨S4x48x4096, .f32⟩
  | .hbm, ⟨51, _⟩ => ⟨S4x48x4096, .f32⟩
  | .hbm, ⟨52, _⟩ => ⟨S_, .f32⟩
  | .hbm, ⟨53, _⟩ => ⟨S4x32x4096, .f32⟩
  | .hbm, ⟨54, _⟩ => ⟨S4x48x4096, .f32⟩
  | .hbm, ⟨55, _⟩ => ⟨S4x48x4096, .f32⟩
  | .hbm, ⟨56, _⟩ => ⟨S_, .f32⟩
  | .hbm, ⟨57, _⟩ => ⟨S4x32x4096, .f32⟩
  | .hbm, ⟨58, _⟩ => ⟨S4x48x4096, .f32⟩
  | .hbm, ⟨59, _⟩ => ⟨S4x48x4096, .f32⟩
  | .hbm, ⟨60, _⟩ => ⟨S_, .f32⟩
  | .hbm, ⟨61, _⟩ => ⟨S4x32x4096, .f32⟩
  | .hbm, ⟨62, _⟩ => ⟨S4x48x4096, .f32⟩
  | .hbm, ⟨63, _⟩ => ⟨S4x48x4096, .f32⟩
  | .hbm, ⟨64, _⟩ => ⟨S_, .f32⟩
  | .hbm, ⟨65, _⟩ => ⟨S4x32x4096, .f32⟩
  | .hbm, ⟨66, _⟩ => ⟨S4x688x4096, .f32⟩
  | .hbm, ⟨67, _⟩ => ⟨S4x688x4096, .f32⟩
  | .hbm, ⟨68, _⟩ => ⟨S4x672x4096, .f32⟩
  | .hbm, ⟨69, _⟩ => ⟨S4x2048x4096, .f32⟩
  | .hbm, ⟨70, _⟩ => ⟨S18432x2048, .bf16⟩
  | .local _ .vmem, ⟨0, _⟩ => ⟨S1152x4096, .bf16⟩
  | .local _ .vmem, ⟨1, _⟩ => ⟨S1152x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1152x512, .bf16⟩
  | .local _ .vmem, ⟨5, _⟩ => ⟨S1152x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkProjRefIdeal.lean ====
abbrev S18432x4096 : Shape := ⟨2, ![18432, 4096]⟩
abbrev S4x4096x24608 : Shape := ⟨3, ![4, 4096, 24608]⟩
abbrev S1x4096x24608 : Shape := ⟨3, ![1, 4096, 24608]⟩
abbrev S4096x24608 : Shape := ⟨2, ![4096, 24608]⟩
abbrev S18432x24608 : Shape := ⟨2, ![18432, 24608]⟩
abbrev S_ : Shape := ⟨0, ![]⟩
abbrev S18432x4x32 : Shape := ⟨3, ![18432, 4, 32]⟩
abbrev S18432x32 : Shape := ⟨2, ![18432, 32]⟩
abbrev S18432x1x32 : Shape := ⟨3, ![18432, 1, 32]⟩
abbrev S18432x3x32 : Shape := ⟨3, ![18432, 3, 32]⟩
abbrev S18432x768 : Shape := ⟨2, ![18432, 768]⟩
abbrev S18432x4x4x48 : Shape := ⟨4, ![18432, 4, 4, 48]⟩
abbrev S18432x4x1x48 : Shape := ⟨4, ![18432, 4, 1, 48]⟩
abbrev S18432x4x48 : Shape := ⟨3, ![18432, 4, 48]⟩
abbrev S18432x4x256 : Shape := ⟨3, ![18432, 4, 256]⟩
abbrev S18432x1024 : Shape := ⟨2, ![18432, 1024]⟩
abbrev S18432x2048 : Shape := ⟨2, ![18432, 2048]⟩

abbrev nBuf : Space → Nat
  | .hbm => 38
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4x4096x24608, .f32⟩
  | .hbm, ⟨2, _⟩ => ⟨S18432x4096, .f32⟩
  | .hbm, ⟨3, _⟩ => ⟨S1x4096x24608, .f32⟩
  | .hbm, ⟨4, _⟩ => ⟨S4096x24608, .f32⟩
  | .hbm, ⟨5, _⟩ => ⟨S18432x24608, .f32⟩
  | .hbm, ⟨6, _⟩ => ⟨S_, .f32⟩
  | .hbm, ⟨7, _⟩ => ⟨S18432x4x32, .f32⟩
  | .hbm, ⟨8, _⟩ => ⟨S18432x32, .f32⟩
  | .hbm, ⟨9, _⟩ => ⟨S18432x1x32, .f32⟩
  | .hbm, ⟨10, _⟩ => ⟨S18432x3x32, .f32⟩
  | .hbm, ⟨11, _⟩ => ⟨S18432x4x32, .f32⟩
  | .hbm, ⟨12, _⟩ => ⟨S18432x768, .f32⟩
  | .hbm, ⟨13, _⟩ => ⟨S18432x4x4x48, .f32⟩
  | .hbm, ⟨14, _⟩ => ⟨S18432x768, .f32⟩
  | .hbm, ⟨15, _⟩ => ⟨S18432x4x4x48, .f32⟩
  | .hbm, ⟨16, _⟩ => ⟨S18432x4x1x48, .f32⟩
  | .hbm, ⟨17, _⟩ => ⟨S18432x4x48, .f32⟩
  | .hbm, ⟨18, _⟩ => ⟨S18432x4x1x48, .f32⟩
  | .hbm, ⟨19, _⟩ => ⟨S18432x4x48, .f32⟩
  | .hbm, ⟨20, _⟩ => ⟨S18432x4x1x48, .f32⟩
  | .hbm, ⟨21, _⟩ => ⟨S18432x4x48, .f32⟩
  | .hbm, ⟨22, _⟩ => ⟨S18432x4x1x48, .f32⟩
  | .hbm, ⟨23, _⟩ => ⟨S18432x4x48, .f32⟩
  | .hbm, ⟨24, _⟩ => ⟨S18432x4x256, .f32⟩
  | .hbm, ⟨25, _⟩ => ⟨S18432x4x1x48, .f32⟩
  | .hbm, ⟨26, _⟩ => ⟨S18432x4x48, .f32⟩
  | .hbm, ⟨27, _⟩ => ⟨S18432x4x1x48, .f32⟩
  | .hbm, ⟨28, _⟩ => ⟨S18432x4x48, .f32⟩
  | .hbm, ⟨29, _⟩ => ⟨S18432x4x1x48, .f32⟩
  | .hbm, ⟨30, _⟩ => ⟨S18432x4x48, .f32⟩
  | .hbm, ⟨31, _⟩ => ⟨S18432x4x1x48, .f32⟩
  | .hbm, ⟨32, _⟩ => ⟨S18432x4x48, .f32⟩
  | .hbm, ⟨33, _⟩ => ⟨S18432x4x256, .f32⟩
  | .hbm, ⟨34, _⟩ => ⟨S18432x1024, .f32⟩
  | .hbm, ⟨35, _⟩ => ⟨S18432x1024, .f32⟩
  | .hbm, ⟨36, _⟩ => ⟨S18432x2048, .f32⟩
  | .hbm, ⟨37, _⟩ => ⟨S18432x2048, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩

abbrev nD : Nat := 1
abbrev τ : Topo := Topo.v7x

variable {F : FTy → Type} [FloatOps F]
-- ==== NormMod.lean ====
abbrev S18432x4096 : Shape := ⟨2, ![18432, 4096]⟩
abbrev S4x3x4096 : Shape := ⟨3, ![4, 3, 4096]⟩
abbrev S9x1x36864 : Shape := ⟨3, ![9, 1, 36864]⟩
abbrev S1x1x4096 : Shape := ⟨3, ![1, 1, 4096]⟩
abbrev S1x4096 : Shape := ⟨2, ![1, 4096]⟩
abbrev S576x4096 : Shape := ⟨2, ![576, 4096]⟩
abbrev S16x4096 : Shape := ⟨2, ![16, 4096]⟩
abbrev S16 : Shape := ⟨1, ![16]⟩
abbrev S16x1 : Shape := ⟨2, ![16, 1]⟩

abbrev nBuf : Space → Nat
  | .hbm => 6
  | .vmem => 11
  | .smem => 0
  | _ => 0

abbrev bufTy : (tb : Table) → Fin (tcTables nBuf tb) → BufTy
  | .hbm, ⟨0, _⟩ => ⟨S18432x4096, .f32⟩
  | .hbm, ⟨1, _⟩ => ⟨S4x3x4096, .f32⟩
  | .hbm, ⟨2, _⟩ => ⟨S9x1x36864, .f32⟩
  | .hbm, ⟨3, _⟩ => ⟨S1x1x4096, .f32⟩
  | .hbm, ⟨4, _⟩ => ⟨S1x4096, .f32⟩
  | .hbm, ⟨5, _⟩ => ⟨S18432x4096, .bf16⟩
  | .local _ .vmem, ⟨0, _⟩ => ⟨S576x4096, .f32⟩
  | .local _ .vmem, ⟨1, _⟩ => ⟨S576x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S576x4096, .bf16⟩
  | .local _ .vmem, ⟨10, _⟩ => ⟨S576x4096, .bf16⟩
  | _, _ => ⟨S18432x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let c576_i32 : BitVec 32 := 576#32
  let v0 : BitVec 32 := Scalar.muli arg0 c576_i32
  let c2304_i32 : BitVec 32 := 2304#32
  let v1 : BitVec 32 := Scalar.divsi v0 c2304_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2304_i32 c0_i32_1
  let v8 : BitVec 32 := Scalar.extui v7
  let c0_i32_2 : BitVec 32 := 0#32
  let v9 : BitVec 1 := Scalar.cmpi .slt c2304_i32 c0_i32_2
  let v10 : BitVec 32 := Scalar.extui v9
  let v11 : BitVec 32 := Scalar.subi v8 v10
  let v12 : BitVec 1 := Scalar.cmpi .ne v6 v11
  let v13 : BitVec 32 := Scalar.remsi v0 c2304_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 3 → Nat :=
  let arg0 : BitVec 32 := BitVec.ofNat 32 (i 0).val
  let c576_i32 : BitVec 32 := 576#32
  let v0 : BitVec 32 := Scalar.muli arg0 c576_i32
  let c2304_i32 : BitVec 32 := 2304#32
  let v1 : BitVec 32 := Scalar.divsi v0 c2304_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2304_i32 c0_i32_1
  let v8 : BitVec 32 := Scalar.extui v7
  let c0_i32_2 : BitVec 32 := 0#32
  let v9 : BitVec 1 := Scalar.cmpi .slt c2304_i32 c0_i32_2
  let v10 : BitVec 32 := Scalar.extui v9
  let v11 : BitVec 32 := Scalar.subi v8 v10
  let v12 : BitVec 1 := Scalar.cmpi .ne v6 v11
  let v13 : BitVec 32 := Scalar.remsi v0 c2304_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c1_i32_6 : BitVec 32 := 1#32
  let c0_i32_7 : BitVec 32 := 0#32
  ![v18.toNat, c0_i32_5.toNat, c1_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S576x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S576x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormModRefIdeal.lean ====
abbrev S18432x4096 : Shape := ⟨2, ![18432, 4096]⟩
abbrev S4x3x4096 : Shape := ⟨3, ![4, 3, 4096]⟩
abbrev S9x1x36864 : Shape := ⟨3, ![9, 1, 36864]⟩
abbrev S9x36864 : Shape := ⟨2, ![9, 36864]⟩
abbrev S9x9x4096 : Shape := ⟨3, ![9, 9, 4096]⟩
abbrev S1x1x4096 : Shape := ⟨3, ![1, 1, 4096]⟩
abbrev S4096 : Shape := ⟨1, ![4096]⟩
abbrev S_ : Shape := ⟨0, ![]⟩
abbrev S18432 : Shape := ⟨1, ![18432]⟩
abbrev S18432x1 : Shape := ⟨2, ![18432, 1]⟩
abbrev S1x4096 : Shape := ⟨2, ![1, 4096]⟩
abbrev S9x1x4096 : Shape := ⟨3, ![9, 1, 4096]⟩
abbrev S9x4096 : Shape := ⟨2, ![9, 4096]⟩
abbrev S8x256x4096 : Shape := ⟨3, ![8, 256, 4096]⟩
abbrev S8x4096 : Shape := ⟨2, ![8, 4096]⟩
abbrev S8x1x4096 : Shape := ⟨3, ![8, 1, 4096]⟩
abbrev S8x2048x4096 : Shape := ⟨3, ![8, 2048, 4096]⟩
abbrev S8x2304x4096 : Shape := ⟨3, ![8, 2304, 4096]⟩

abbrev nBuf : Space → Nat
  | .hbm => 49
  | .vmem => 0
  | .smem => 0
  | _ => 0

abbrev bufTy : (tb : Table) → Fin (tcTables nBuf tb) → BufTy
  | .hbm, ⟨0, _⟩ => ⟨S18432x4096, .f32⟩
  | .hbm, ⟨1, _⟩ => ⟨S4x3x4096, .f32⟩
  | .hbm, ⟨2, _⟩ => ⟨S9x1x36864, .f32⟩
  | .hbm, ⟨3, _⟩ => ⟨S9x36864, .f32⟩
  | .hbm, ⟨4, _⟩ => ⟨S9x9x4096, .f32⟩
  | .hbm, ⟨5, _⟩ => ⟨S1x1x4096, .f32⟩
  | .hbm, ⟨6, _⟩ => ⟨S4096, .f32⟩
  | .hbm, ⟨7, _⟩ => ⟨S18432x4096, .f32⟩
  | .hbm, ⟨8, _⟩ => ⟨S_, .f32⟩
  | .hbm, ⟨9, _⟩ => ⟨S18432, .f32⟩
  | .hbm, ⟨10, _⟩ => ⟨S18432x1, .f32⟩
  | .hbm, ⟨11, _⟩ => ⟨S_, .f32⟩
  | .hbm, ⟨12, _⟩ => ⟨S18432x1, .f32⟩
  | .hbm, ⟨13, _⟩ => ⟨S18432x1, .f32⟩
  | .hbm, ⟨14, _⟩ => ⟨S_, .f32⟩
  | .hbm, ⟨15, _⟩ => ⟨S18432x1, .f32⟩
  | .hbm, ⟨16, _⟩ => ⟨S18432x1, .f32⟩
  | .hbm, ⟨17, _⟩ => ⟨S18432x1, .f32⟩
  | .hbm, ⟨18, _⟩ => ⟨S18432x4096, .f32⟩
  | .hbm, ⟨19, _⟩ => ⟨S18432x4096, .f32⟩
  | .hbm, ⟨20, _⟩ => ⟨S1x4096, .f32⟩
  | .hbm, ⟨21, _⟩ => ⟨S18432x4096, .f32⟩
  | .hbm, ⟨22, _⟩ => ⟨S18432x4096, .f32⟩
  | .hbm, ⟨23, _⟩ => ⟨S9x1x4096, .f32⟩
  | .hbm, ⟨24, _⟩ => ⟨S9x4096, .f32⟩
  | .hbm, ⟨25, _⟩ => ⟨S1x4096, .f32⟩
  | .hbm, ⟨26, _⟩ => ⟨S4096, .f32⟩
  | .hbm, ⟨27, _⟩ => ⟨S8x256x4096, .f32⟩
  | .hbm, ⟨28, _⟩ => ⟨S8x4096, .f32⟩
  | .hbm, ⟨29, _⟩ => ⟨S8x1x4096, .f32⟩
  | .hbm, ⟨30, _⟩ => ⟨S8x2048x4096, .f32⟩
  | .hbm, ⟨31, _⟩ => ⟨S8x2304x4096, .f32⟩
  | .hbm, ⟨32, _⟩ => ⟨S18432x4096, .f32⟩
  | .hbm, ⟨33, _⟩ => ⟨S_, .f32⟩
  | .hbm, ⟨34, _⟩ => ⟨S18432x4096, .f32⟩
  | .hbm, ⟨35, _⟩ => ⟨S18432x4096, .f32⟩
  | .hbm, ⟨36, _⟩ => ⟨S18432x4096, .f32⟩
  | .hbm, ⟨37, _⟩ => ⟨S9x1x4096, .f32⟩
  | .hbm, ⟨38, _⟩ => ⟨S9x4096, .f32⟩
  | .hbm, ⟨39, _⟩ => ⟨S1x4096, .f32⟩
  | .hbm, ⟨40, _⟩ => ⟨S4096, .f32⟩
  | .hbm, ⟨41, _⟩ => ⟨S8x256x4096, .f32⟩
  | .hbm, ⟨42, _⟩ => ⟨S8x4096, .f32⟩
  | .hbm, ⟨43, _⟩ => ⟨S8x1x4096, .f32⟩
  | .hbm, ⟨44, _⟩ => ⟨S8x2048x4096, .f32⟩
  | .hbm, ⟨45, _⟩ => ⟨S8x2304x4096, .f32⟩
  | .hbm, ⟨46, _⟩ => ⟨S18432x4096, .f32⟩
  | .hbm, ⟨47, _⟩ => ⟨S18432x4096, .f32⟩
  | .hbm, ⟨48, _⟩ => ⟨S18432x4096, .bf16⟩
  | _, _ => ⟨S18432x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== ModA.lean ====
abbrev S16x4096 : Shape := ⟨2, ![16, 4096]⟩
abbrev S4x4096x256 : Shape := ⟨3, ![4, 4096, 256]⟩
abbrev S4x16x256 : Shape := ⟨3, ![4, 16, 256]⟩
abbrev S1x4096x256 : Shape := ⟨3, ![1, 4096, 256]⟩
abbrev S1x16x256 : Shape := ⟨3, ![1, 16, 256]⟩
abbrev S4096x256 : Shape := ⟨2, ![4096, 256]⟩
abbrev S16x256 : Shape := ⟨2, ![16, 256]⟩

abbrev nBuf : Space → Nat
  | .hbm => 3
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S4x4096x256, .f32⟩
  | .hbm, ⟨2, _⟩ => ⟨S4x16x256, .f32⟩
  | .local _ .vmem, ⟨0, _⟩ => ⟨S16x4096, .f32⟩
  | .local _ .vmem, ⟨1, _⟩ => ⟨S1x4096x256, .f32⟩
  | .local _ .vmem, ⟨2, _⟩ => ⟨S1x4096x256, .f32⟩
  | .local _ .vmem, ⟨3, _⟩ => ⟨S1x16x256, .f32⟩
  | .local _ .vmem, ⟨4, _⟩ => ⟨S1x16x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModARefIdeal.lean ====
abbrev S16x4096 : Shape := ⟨2, ![16, 4096]⟩
abbrev S4x4096x256 : Shape := ⟨3, ![4, 4096, 256]⟩
abbrev S_ : Shape := ⟨0, ![]⟩
abbrev S16x4x256 : Shape := ⟨3, ![16, 4, 256]⟩
abbrev S4x16x256 : Shape := ⟨3, ![4, 16, 256]⟩

abbrev nBuf : Space → Nat
  | .hbm => 13
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4x4096x256, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S16x4096, .f32⟩
  | .hbm, ⟨9, _⟩ => ⟨S16x4096, .f32⟩
  | .hbm, ⟨10, _⟩ => ⟨S16x4096, .f32⟩
  | .hbm, ⟨11, _⟩ => ⟨S16x4x256, .f32⟩
  | .hbm, ⟨12, _⟩ => ⟨S4x16x256, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== ModB.lean ====
abbrev S4x16x256 : Shape := ⟨3, ![4, 16, 256]⟩
abbrev S4x256x36864 : Shape := ⟨3, ![4, 256, 36864]⟩
abbrev S4x36864 : Shape := ⟨2, ![4, 36864]⟩
abbrev S4x1x36864 : Shape := ⟨3, ![4, 1, 36864]⟩
abbrev S4x16x36864 : Shape := ⟨3, ![4, 16, 36864]⟩
abbrev S1x16x256 : Shape := ⟨3, ![1, 16, 256]⟩
abbrev S1x256x2048 : Shape := ⟨3, ![1, 256, 2048]⟩
abbrev S1x1x2048 : Shape := ⟨3, ![1, 1, 2048]⟩
abbrev S1x16x2048 : Shape := ⟨3, ![1, 16, 2048]⟩
abbrev S16x256 : Shape := ⟨2, ![16, 256]⟩
abbrev S256x2048 : Shape := ⟨2, ![256, 2048]⟩
abbrev S16x2048 : Shape := ⟨2, ![16, 2048]⟩
abbrev S1x2048 : Shape := ⟨2, ![1, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4x16x256, .f32⟩
  | .hbm, ⟨1, _⟩ => ⟨S4x256x36864, .f32⟩
  | .hbm, ⟨2, _⟩ => ⟨S4x36864, .f32⟩
  | .hbm, ⟨3, _⟩ => ⟨S4x1x36864, .f32⟩
  | .hbm, ⟨4, _⟩ => ⟨S4x16x36864, .f32⟩
  | .local _ .vmem, ⟨0, _⟩ => ⟨S1x16x256, .f32⟩
  | .local _ .vmem, ⟨1, _⟩ => ⟨S1x16x256, .f32⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x16x2048, .f32⟩
  | .local _ .vmem, ⟨7, _⟩ => ⟨S1x16x2048, .f32⟩
  | _, _ => ⟨S4x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 18], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModBRefIdeal.lean ====
abbrev S4x16x256 : Shape := ⟨3, ![4, 16, 256]⟩
abbrev S4x256x36864 : Shape := ⟨3, ![4, 256, 36864]⟩
abbrev S4x36864 : Shape := ⟨2, ![4, 36864]⟩
abbrev S4x16x36864 : Shape := ⟨3, ![4, 16, 36864]⟩
abbrev S4x1x36864 : Shape := ⟨3, ![4, 1, 36864]⟩

abbrev nBuf : Space → Nat
  | .hbm => 7
  | .vmem => 0
  | .smem => 0
  | _ => 0

abbrev bufTy : (tb : Table) → Fin (tcTables nBuf tb) → BufTy
  | .hbm, ⟨0, _⟩ => ⟨S4x16x256, .f32⟩
  | .hbm, ⟨1, _⟩ => ⟨S4x256x36864, .f32⟩
  | .hbm, ⟨2, _⟩ => ⟨S4x36864, .f32⟩
  | .hbm, ⟨3, _⟩ => ⟨S4x16x36864, .f32⟩
  | .hbm, ⟨4, _⟩ => ⟨S4x1x36864, .f32⟩
  | .hbm, ⟨5, _⟩ => ⟨S4x16x36864, .f32⟩
  | .hbm, ⟨6, _⟩ => ⟨S4x16x36864, .f32⟩
  | _, _ => ⟨S4x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.NaMath.lean ====
/- The arithmetic of the attention over the extended reals: a softmax taken to base two over the keys of a window, its
   numerator divided after the product, against the softmax to base `e` over every key with the outside masked. -/
module

public import Idealize.ShloMosaic.PureOps.Ideal
public import Idealize.ShloMosaic.PureOps.Ideal.Laws
public import Idealize.ShloMosaic.Lib.IdealHost

@[expose] public section

noncomputable section

namespace Cert.Proof.NaMath

open Idealize.ShloMosaic

/-- An extended real that is a real number. -/
def Fin' (x : EReal) : Prop := ∃ r : ℝ, x = (r : EReal)

/-- A product of reals is real. -/
theorem Fin'.mul {x y : EReal} (hx : Fin' x) (hy : Fin' y) : Fin' (x * y) := by
  obtain ⟨a, rfl⟩ := hx; obtain ⟨b, rfl⟩ := hy
  exact ⟨a * b, (EReal.coe_mul a b).symm⟩

/-- A sum of two reals is real. -/
theorem Fin'.add {x y : EReal} (hx : Fin' x) (hy : Fin' y) : Fin' (x + y) := by
  obtain ⟨a, rfl⟩ := hx; obtain ⟨b, rfl⟩ := hy
  exact ⟨a + b, (EReal.coe_add a b).symm⟩

/-- A sum of reals is real. -/
theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

/-- A finite sum times a nonnegative real is the sum of the products. -/
theorem sum_mul {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The sum of reals as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a real that is not negative, distributed. -/
theorem add_mul {x y : EReal} (c : ℝ) (hc : 0 ≤ c) : (x + y) * (c : EReal) = x * c + y * c :=
  EReal.right_distrib_of_nonneg_of_ne_top (by exact_mod_cast hc) (EReal.coe_ne_top c) _ _

/-- The greatest of a family of extended reals, `⊥` where there is none. -/
abbrev top {n : ℕ} (f : Fin n → EReal) : EReal := Finset.univ.fold max ⊥ f

/-- A member is at most the greatest. -/
theorem le_top' {n : ℕ} (f : Fin n → EReal) (i : Fin n) : f i ≤ top f :=
  (Finset.le_fold_max _).2 (Or.inr ⟨i, Finset.mem_univ _, le_rfl⟩)

/-- The greatest is at most a common bound. -/
theorem top_le {n : ℕ} (f : Fin n → EReal) (b : EReal) (h : ∀ i, f i ≤ b) : top f ≤ b :=
  (Finset.fold_max_le _).2 ⟨bot_le, fun i _ => h i⟩

/-- The greatest, where it is not `⊥`, is one of the family. -/
theorem top_mem {n : ℕ} (f : Fin n → EReal) (h : top f ≠ ⊥) : ∃ i, f i = top f := by
  have h1 : top f ≤ top f := le_rfl
  rcases (Finset.le_fold_max _).1 h1 with h2 | ⟨i, -, hi⟩
  · exact absurd (le_bot_iff.1 h2) h
  · exact ⟨i, le_antisymm (le_top' f i) hi⟩

/-- The logarithm's constant. -/
abbrev c2 : ℝ := (Real.log 2)⁻¹

/-- The constant of the change of base is positive. -/
theorem c2_pos : 0 < c2 := inv_pos.2 (Real.log_pos (by norm_num))

/-- Two to the power of a scaled difference is the exponential of the difference. -/
theorem exp2_scaled (x : EReal) (μ : ℝ) (hx : x ≠ ⊤) :
    Ideal.exp2 (x * (c2 : EReal) - (μ : EReal) * (c2 : EReal)) = Ideal.exp (x - (μ : EReal)) := by
  induction x with
  | top => exact absurd rfl hx
  | bot =>
    rw [EReal.bot_mul_coe_of_pos c2_pos, EReal.bot_sub, EReal.bot_sub]; rfl
  | coe r =>
    rw [← EReal.coe_mul, ← EReal.coe_mul, ← EReal.coe_sub, ← EReal.coe_sub]
    show ((Real.rpow 2 (r * c2 - μ * c2) : ℝ) : EReal) = ((Real.exp (r - μ) : ℝ) : EReal)
    have : (2 : ℝ) ^ (r * c2 - μ * c2) = Real.exp (r - μ) := by
      rw [Real.rpow_def_of_pos (by norm_num)]
      congr 1
      have : Real.log 2 ≠ 0 := (Real.log_pos (by norm_num)).ne'
      show Real.log 2 * (r * (Real.log 2)⁻¹ - μ * (Real.log 2)⁻¹) = r - μ
      field_simp
    exact_mod_cast this

/-- The exponential of a score below a real is a nonnegative real, positive at a real score. -/
theorem exp_fin (x : EReal) (μ : ℝ) (hx : x ≠ ⊤) : ∃ r : ℝ, 0 ≤ r ∧ Ideal.exp (x - (μ : EReal)) = (r : EReal) := by
  induction x with
  | top => exact absurd rfl hx
  | bot => exact ⟨0, le_rfl, by rw [EReal.bot_sub]; rfl⟩
  | coe r => exact ⟨Real.exp (r - μ), (Real.exp_pos _).le, by rw [← EReal.coe_sub]; rfl⟩

/-- The exponential of `⊥` less a real is zero. -/
theorem exp_bot (μ : ℝ) : Ideal.exp (⊥ - (μ : EReal)) = 0 := by rw [EReal.bot_sub]; rfl

/-- The kernel's attention of one latent query: scores `s` of the window and `t` of the context, already scaled to base
    two, values `v` and `w`; the product is divided by the sum of the weights. -/
def attK {n m : ℕ} (s : Fin n → EReal) (t : Fin m → EReal) (v : Fin n → EReal) (w : Fin m → EReal) : EReal :=
  Ideal.div
    ((∑ k, Ideal.exp2 (s k - max (top s) (top t)) * v k) + ∑ k, Ideal.exp2 (t k - max (top s) (top t)) * w k)
    ((∑ k, Ideal.exp2 (s k - max (top s) (top t))) + ∑ k, Ideal.exp2 (t k - max (top s) (top t)))

/-- The reference's attention of one latent query: scores `u` of every key, the latents' before the context's. -/
def attR {n m : ℕ} (u : Fin (n + m) → EReal) (v : Fin n → EReal) (w : Fin m → EReal) : EReal :=
  (∑ k : Fin n, v k * Ideal.div (Ideal.exp (u (Fin.castAdd m k) - top u)) (∑ j, Ideal.exp (u j - top u)))
    + ∑ k : Fin m, w k * Ideal.div (Ideal.exp (u (Fin.natAdd n k) - top u)) (∑ j, Ideal.exp (u j - top u))

/-- A sum over a window of an array that is zero outside it is the sum over the array. -/
theorem sum_window {n N : ℕ} (b : ℕ) (hb : b + n ≤ N) (f : Fin N → EReal) (h0 : ∀ j : Fin N, (j.val < b ∨ b + n ≤ j.val) → f j = 0) :
    ∑ k : Fin n, f ⟨b + k.val, by omega⟩ = ∑ j, f j := by
  classical
  let g : Fin n ↪ Fin N := ⟨fun k => ⟨b + k.val, by omega⟩, fun k l h => by
    have := congrArg Fin.val h; exact Fin.ext (by simpa using this)⟩
  have h1 : ∑ k : Fin n, f ⟨b + k.val, by omega⟩ = ∑ j ∈ Finset.univ.map g, f j := by rw [Finset.sum_map]; rfl
  rw [h1]
  refine Finset.sum_subset (Finset.subset_univ _) fun j _ hj => h0 j ?_
  by_contra hc
  have hc' := not_or.1 hc
  refine hj (Finset.mem_map.2 ⟨⟨j.val - b, by omega⟩, Finset.mem_univ _, Fin.ext ?_⟩)
  show b + (j.val - b) = j.val
  omega

/-- The two attentions agree where the context's scores are real, the latents' are not `⊤`, and a key outside the window
    has score `⊥`. -/
theorem att_eq {n N m : ℕ} (b : ℕ) (hb : b + n ≤ N) (hm : 0 < m) (u : Fin (N + m) → EReal)
    (s : Fin n → EReal) (t : Fin m → EReal) (v : Fin N → EReal) (w : Fin m → EReal)
    (hs : ∀ k : Fin n, s k = u (Fin.castAdd m ⟨b + k.val, by omega⟩) * (c2 : EReal))
    (ht : ∀ k : Fin m, t k = u (Fin.natAdd N k) * (c2 : EReal))
    (hu : ∀ j, u j ≠ ⊤) (hc : ∀ k : Fin m, u (Fin.natAdd N k) ≠ ⊥)
    (hout : ∀ j : Fin N, (j.val < b ∨ b + n ≤ j.val) → u (Fin.castAdd m j) = ⊥) :
    attK s t (fun k => v ⟨b + k.val, by omega⟩) w = attR u v w := by
  have hM0 : top u ≠ ⊥ := fun h => hc ⟨0, hm⟩ (le_bot_iff.1 (h ▸ le_top' u _))
  obtain ⟨j0, hj0⟩ := top_mem u hM0
  have hM1 : top u ≠ ⊤ := hj0 ▸ hu j0
  obtain ⟨μ, hμ⟩ : ∃ μ : ℝ, top u = (μ : EReal) := ⟨(top u).toReal, (EReal.coe_toReal hM1 hM0).symm⟩
  have mono : ∀ j, u j * (c2 : EReal) ≤ (μ : EReal) * c2 := fun j =>
    mul_le_mul_of_nonneg_right (hμ ▸ le_top' u j) (by exact_mod_cast c2_pos.le)
  have hM : max (top s) (top t) = (μ : EReal) * (c2 : EReal) := by
    refine le_antisymm (max_le (top_le _ _ fun k => hs k ▸ mono _) (top_le _ _ fun k => ht k ▸ mono _)) ?_
    rw [← hμ, ← hj0]
    induction j0 using Fin.addCases with
    | left j =>
      have hin : ¬ (j.val < b ∨ b + n ≤ j.val) := fun h => hM0 (hj0 ▸ hout j h)
      have : s ⟨j.val - b, by omega⟩ = u (Fin.castAdd m j) * c2 := by
        rw [hs]
        congr 3
        exact Fin.ext (by show b + (j.val - b) = j.val; omega)
      exact this ▸ (le_top' s _).trans (le_max_left _ _)
    | right k => exact ht k ▸ (le_top' t k).trans (le_max_right _ _)
  -- the weights
  choose e he0 he using fun j => exp_fin (u j) μ (hu j)
  have e1 : ∀ k : Fin n, Ideal.exp2 (s k - max (top s) (top t)) = (e (Fin.castAdd m ⟨b + k.val, by omega⟩) : EReal) := fun k => by
    rw [hM, hs, exp2_scaled _ _ (hu _), he]
  have e2 : ∀ k : Fin m, Ideal.exp2 (t k - max (top s) (top t)) = (e (Fin.natAdd N k) : EReal) := fun k => by
    rw [hM, ht, exp2_scaled _ _ (hu _), he]
  have e0 : ∀ j : Fin N, (j.val < b ∨ b + n ≤ j.val) → (e (Fin.castAdd m j) : EReal) = 0 := fun j hj => by
    rw [← he, hout j hj, exp_bot]
  have e3 : ∀ j, Ideal.exp (u j - top u) = (e j : EReal) := fun j => by rw [hμ, he]
  have hD : ∑ j, (e j : EReal) = ((∑ j, e j : ℝ) : EReal) := by
    exact (coe_sum _ _).symm
  have hpos : 0 < ∑ j, e j := by
    refine Finset.sum_pos' (fun i _ => he0 i) ⟨Fin.natAdd N ⟨0, hm⟩, Finset.mem_univ _, ?_⟩
    have h1 := he (Fin.natAdd N ⟨0, hm⟩)
    obtain ⟨r, hr⟩ : ∃ r : ℝ, u (Fin.natAdd N ⟨0, hm⟩) = (r : EReal) := ⟨_, (EReal.coe_toReal (hu _) (hc _)).symm⟩
    rw [hr, ← EReal.coe_sub] at h1
    have h2 : ((Real.exp (r - μ) : ℝ) : EReal) = (e (Fin.natAdd N ⟨0, hm⟩) : EReal) := h1
    rw [← EReal.coe_eq_coe_iff.1 h2]
    exact Real.exp_pos _
  unfold attK attR
  simp only [e1, e2, e3]
  rw [sum_window b hb (fun j => (e (Fin.castAdd m j) : EReal)) e0,
    sum_window b hb (fun j => (e (Fin.castAdd m j) : EReal) * v j) (fun j hj => by rw [e0 j hj, zero_mul]),
    ← Fin.sum_univ_add (fun j => (e j : EReal)), hD]
  simp only [Ideal.div_coe hpos.ne']
  rw [add_mul _ (by positivity), sum_mul _ _ _ (by positivity), sum_mul _ _ _ (by positivity)]
  congr 1
  · exact Finset.sum_congr rfl fun k _ => by rw [← mul_assoc, mul_comm (v k)]
  · exact Finset.sum_congr rfl fun k _ => by rw [← mul_assoc, mul_comm (w k)]

/-- The kernel's attention of one context query, divided before the product. -/
def ctxK {m : ℕ} (t w : Fin m → EReal) : EReal :=
  ∑ k, Ideal.div (Ideal.exp2 (t k - top t)) (∑ j, Ideal.exp2 (t j - top t)) * w k

/-- The reference's attention of one context query. -/
def ctxR {m : ℕ} (u w : Fin m → EReal) : EReal :=
  ∑ k, w k * Ideal.div (Ideal.exp (u k - top u)) (∑ j, Ideal.exp (u j - top u))

/-- The two attentions of a context query agree where its scores are real. -/
theorem ctx_eq {m : ℕ} (hm : 0 < m) (t u w : Fin m → EReal) (ht : ∀ k, t k = u k * (c2 : EReal))
    (hu : ∀ k, Fin' (u k)) : ctxK t w = ctxR u w := by
  have hn : ∀ k, u k ≠ ⊤ := fun k => by obtain ⟨r, hr⟩ := hu k; rw [hr]; exact EReal.coe_ne_top r
  have hM0 : top u ≠ ⊥ := fun h => by
    obtain ⟨r, hr⟩ := hu ⟨0, hm⟩
    exact EReal.coe_ne_bot r (hr ▸ le_bot_iff.1 (h ▸ le_top' u _))
  obtain ⟨j0, hj0⟩ := top_mem u hM0
  obtain ⟨μ, hμ⟩ := hu j0
  have hμ' : top u = (μ : EReal) := hj0 ▸ hμ
  have hM : top t = (μ : EReal) * (c2 : EReal) := by
    refine le_antisymm (top_le _ _ fun k => ?_) ?_
    · rw [ht]
      exact mul_le_mul_of_nonneg_right (hμ' ▸ le_top' u k) (by exact_mod_cast c2_pos.le)
    · rw [← hμ, ← ht]; exact le_top' t j0
  have e : ∀ k, Ideal.exp2 (t k - top t) = Ideal.exp (u k - top u) := fun k => by
    rw [hM, ht, exp2_scaled _ _ (hn k), hμ']
  unfold ctxK ctxR
  simp only [e]
  exact Finset.sum_congr rfl fun k _ => mul_comm _ _

/-- A product of a query and a key scaled to base two after the sum is the sum with the query divided first, scaled. -/
theorem dot_scaled {n : ℕ} (q k : Fin n → EReal) :
    (∑ d, q d * k d) * (((Real.sqrt 128)⁻¹ * (Real.log 2)⁻¹ : ℝ) : EReal)
      = (∑ d, q d * ((1 / Real.sqrt 128 : ℝ) : EReal) * k d) * (c2 : EReal) := by
  rw [EReal.coe_mul, ← mul_assoc, sum_mul _ _ _ (by positivity), ← one_div]
  congr 1
  exact Finset.sum_congr rfl fun d _ => by rw [mul_assoc, mul_comm (k d), ← mul_assoc]

end Cert.Proof.NaMath

end
-- ==== Proof.NaOut.lean ====
/- The attention's launch: what its body stores, read at a position. -/
module
public import proofs.«01_k».proof.Defs
public import proofs.«01_k».proof.Proof.Gen.NaIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.NaMath

@[expose] public section

set_option maxRecDepth 16384

noncomputable section

namespace Cert.Proof.Na
open Cert.NaIdeal Cert.NaIdeal.Gen Idealize.ShloMosaic Idealize.ShloMosaic.TcCoe Idealize.SL.Sem
open Idealize.ShloMosaic.Pointwise

/-- The kernel's scale of the scores. -/
abbrev sc : EReal := (((Real.sqrt 128)⁻¹ * (Real.log 2)⁻¹ : ℝ) : EReal)

/-- The printed word of minus infinity is minus infinity. -/
theorem neg_inf : Ideal.ofBits .f32 0xFF800000#32 = ⊥ := by simp [Ideal.ofBits, Ideal.ieee]

/-- What the body stores for a group of latent queries, at a position. -/
theorem grp_at (v0 v1 qg : Vec Ideal S256x128 .bf16) (kw vw : Vec Ideal S704x128 .bf16) (b : Vec Ideal S1x256x704 .f32) (x : S256x128.Idx) :
    k0_pay37 (F := Ideal) v1 (k0_pay35 qg kw b) (k0_pay36 v0 qg) vw x
      = NaMath.attK (fun k : Fin 704 => (∑ d : Fin 128, qg (ix2 (x 0) d) * kw (ix2 k d)) * sc + b (ix3 (0 : Fin 1) (x 0) k))
          (fun k : Fin 256 => (∑ d : Fin 128, qg (ix2 (x 0) d) * v0 (ix2 k d)) * sc)
          (fun k => vw (ix2 k (x 1))) (fun k => v1 (ix2 k (x 1))) := by
  unfold NaMath.attK NaMath.top
  pointwise [k0_pay37, k0_pay35, k0_pay36]
  rw [neg_inf]
  rfl

/-- What the body stores for the context's queries, at a position. -/
theorem ctx_at (v0 v1 qg : Vec Ideal S256x128 .bf16) (x : S256x128.Idx) :
    k0_pay34 (F := Ideal) v0 v1 qg x
      = NaMath.ctxK (fun k : Fin 256 => (∑ d : Fin 128, qg (ix2 (x 0) d) * v0 (ix2 k d)) * sc) (fun k => v1 (ix2 k (x 1))) := by
  unfold NaMath.ctxK NaMath.top
  pointwise [k0_pay34]
  rw [neg_inf]
  rfl

/-- The number of the group of four grid rows of latent queries a row of the slab lies in. -/
def gOf (i : ℕ) : ℕ := (i - 256) / 256
/-- The first grid row of the window of a group. -/
def baseOf (i : ℕ) : ℕ := min (4 * gOf i - 4) 21
/-- The kind of bias of a group: the first's, the last's, or that of those between. -/
def kindOf (i : ℕ) : ℕ := if gOf i = 0 then 0 else if gOf i = 7 then 2 else 1

/-- A row of a group's window is a row of the slab. -/
theorem win_lt (i : ℕ) (k : Fin 704) : 256 + (64 * baseOf i + k.val) < 2304 := by
  have : baseOf i ≤ 21 := Nat.min_le_right _ _
  have := k.isLt
  omega

/-- There are three kinds of bias. -/
theorem kind_lt (i : ℕ) : kindOf i < 3 := by unfold kindOf; split_ifs <;> omega

/-- The block the body leaves, at row `i` of the slab and lane `j` of the head, `B` being the bias it adds. -/
def OUT (x0 x1 x2 : Vec Ideal S2304x128 .bf16) (B : Fin 3 → Fin 256 → Fin 704 → EReal) (i : Fin 2304) (j : Fin 128) : EReal :=
  if i.val < 256 then
    NaMath.ctxK (fun k : Fin 256 => (∑ d : Fin 128, x0 (ix2 i d) * x1 (ix2 (⟨k.val, by omega⟩ : Fin 2304) d)) * sc)
      (fun k => x2 (ix2 (⟨k.val, by omega⟩ : Fin 2304) j))
  else
    NaMath.attK
      (fun k : Fin 704 => (∑ d : Fin 128, x0 (ix2 i d) * x1 (ix2 (⟨256 + (64 * baseOf i.val + k.val), win_lt _ k⟩ : Fin 2304) d)) * sc
        + B ⟨kindOf i.val, kind_lt _⟩ ⟨(i.val - 256) % 256, Nat.mod_lt _ (by decide)⟩ k)
      (fun k : Fin 256 => (∑ d : Fin 128, x0 (ix2 i d) * x1 (ix2 (⟨k.val, by omega⟩ : Fin 2304) d)) * sc)
      (fun k => x2 (ix2 (⟨256 + (64 * baseOf i.val + k.val), win_lt _ k⟩ : Fin 2304) j))
      (fun k => x2 (ix2 (⟨k.val, by omega⟩ : Fin 2304) j))

/-- A load of rows of a block is a read of the block at those rows. -/
theorem ld_rows {n : ℕ} (X : Vec Ideal S2304x128 .bf16) (o : ℕ) (inb) (k : Fin n) (d : Fin 128) (i : Fin 2304) (hi : i.val = o + k.val) :
    View.ld (Val := Elt Ideal) (S := S2304x128) X (Rect.unit ![o, 0] ![n, 128] inb) (ix2 k d) = X (ix2 i d) := by
  refine View.ld_unit_apply_of (S := S2304x128) X ![o, 0] ![n, 128] inb _ _ fun a => ?_
  match a with
  | ⟨0, _⟩ => exact hi
  | ⟨1, _⟩ => exact (Nat.zero_add _).symm

/-- The block at a row of the context. -/
theorem ctx_blk (x0 x1 x2 : Vec Ideal S2304x128 .bf16) (B : Fin 3 → Fin 256 → Fin 704 → EReal) (i : Fin 2304) (j : Fin 128)
    (x : S256x128.Idx) (hi : i.val = (x 0).val) (hj : j.val = (x 1).val) (inb0) :
    k0_pay34 (F := Ideal) (View.ld x1 (Rect.unit ![0, 0] ![256, 128] inb0)) (View.ld x2 (Rect.unit ![0, 0] ![256, 128] inb0))
      (View.ld x0 (Rect.unit ![0, 0] ![256, 128] inb0)) x = OUT x0 x1 x2 B i j := by
  have hx : (x 0).val < 256 := (x 0).isLt
  have hj' : x 1 = j := Fin.ext hj.symm
  rw [ctx_at, OUT, if_pos (by omega), hj']
  have e0 : ∀ d : Fin 128, View.ld x0 (Rect.unit ![0, 0] ![256, 128] inb0) (ix2 (x 0) d) = x0 (ix2 i d) :=
    fun d => ld_rows x0 0 inb0 (x 0) d i (by omega)
  have e1 : ∀ (k : Fin 256) (d : Fin 128), View.ld x1 (Rect.unit ![0, 0] ![256, 128] inb0) (ix2 k d) = x1 (ix2 (⟨k.val, by omega⟩ : Fin 2304) d) :=
    fun k d => ld_rows x1 0 inb0 k d (⟨k.val, by omega⟩ : Fin 2304) (Nat.zero_add _).symm
  have e2 : ∀ (k : Fin 256) (d : Fin 128), View.ld x2 (Rect.unit ![0, 0] ![256, 128] inb0) (ix2 k d) = x2 (ix2 (⟨k.val, by omega⟩ : Fin 2304) d) :=
    fun k d => ld_rows x2 0 inb0 k d (⟨k.val, by omega⟩ : Fin 2304) (Nat.zero_add _).symm
  simp only [e0, e1, e2]

/-- The block at a row of a group of latent queries. -/
theorem grp_blk (x0 x1 x2 : Vec Ideal S2304x128 .bf16) (B : Fin 3 → Fin 256 → Fin 704 → EReal) (i : Fin 2304) (j : Fin 128)
    (o w kd : ℕ) (b : Vec Ideal S1x256x704 .f32) (x : S256x128.Idx) (hi : i.val = o + (x 0).val) (hj : j.val = (x 1).val)
    (ho : 256 ≤ o) (hw : w = 256 + 64 * baseOf i.val) (hkd : kindOf i.val = kd) (hr : (i.val - 256) % 256 = (x 0).val)
    (hb : ∀ (h : kd < 3) (r : Fin 256) (k : Fin 704), b (ix3 (0 : Fin 1) r k) = B ⟨kd, h⟩ r k) (inb0 inbq inbw) :
    k0_pay37 (F := Ideal) (View.ld x2 (Rect.unit ![0, 0] ![256, 128] inb0))
      (k0_pay35 (View.ld x0 (Rect.unit ![o, 0] ![256, 128] inbq)) (View.ld x1 (Rect.unit ![w, 0] ![704, 128] inbw)) b)
      (k0_pay36 (View.ld x1 (Rect.unit ![0, 0] ![256, 128] inb0)) (View.ld x0 (Rect.unit ![o, 0] ![256, 128] inbq)))
      (View.ld x2 (Rect.unit ![w, 0] ![704, 128] inbw)) x = OUT x0 x1 x2 B i j := by
  have hj' : x 1 = j := Fin.ext hj.symm
  rw [grp_at, OUT, if_neg (by omega), hj']
  have e0 : ∀ d : Fin 128, View.ld x0 (Rect.unit ![o, 0] ![256, 128] inbq) (ix2 (x 0) d) = x0 (ix2 i d) :=
    fun d => ld_rows x0 o inbq (x 0) d i hi
  have e1 : ∀ (k : Fin 256) (d : Fin 128), View.ld x1 (Rect.unit ![0, 0] ![256, 128] inb0) (ix2 k d) = x1 (ix2 (⟨k.val, by omega⟩ : Fin 2304) d) :=
    fun k d => ld_rows x1 0 inb0 k d (⟨k.val, by omega⟩ : Fin 2304) (Nat.zero_add _).symm
  have e2 : ∀ (k : Fin 256) (d : Fin 128), View.ld x2 (Rect.unit ![0, 0] ![256, 128] inb0) (ix2 k d) = x2 (ix2 (⟨k.val, by omega⟩ : Fin 2304) d) :=
    fun k d => ld_rows x2 0 inb0 k d (⟨k.val, by omega⟩ : Fin 2304) (Nat.zero_add _).symm
  have e3 : ∀ (k : Fin 704) (d : Fin 128), View.ld x1 (Rect.unit ![w, 0] ![704, 128] inbw) (ix2 k d)
      = x1 (ix2 (⟨256 + (64 * baseOf i.val + k.val), win_lt _ k⟩ : Fin 2304) d) :=
    fun k d => ld_rows x1 w inbw k d (⟨256 + (64 * baseOf i.val + k.val), win_lt _ k⟩ : Fin 2304) (by rw [hw]; exact (Nat.add_assoc _ _ _).symm)
  have e4 : ∀ (k : Fin 704) (d : Fin 128), View.ld x2 (Rect.unit ![w, 0] ![704, 128] inbw) (ix2 k d)
      = x2 (ix2 (⟨256 + (64 * baseOf i.val + k.val), win_lt _ k⟩ : Fin 2304) d) :=
    fun k d => ld_rows x2 w inbw k d (⟨256 + (64 * baseOf i.val + k.val), win_lt _ k⟩ : Fin 2304) (by rw [hw]; exact (Nat.add_assoc _ _ _).symm)
  have e5 : ∀ k : Fin 704, b (ix3 (0 : Fin 1) (x 0) k) = B ⟨kindOf i.val, kind_lt _⟩ ⟨(i.val - 256) % 256, Nat.mod_lt _ (by decide)⟩ k := fun k => by
    subst hkd
    exact (hb (kind_lt _) (x 0) k).trans (congrArg (fun r => B _ r k) (Fin.ext hr.symm))
  simp only [e0, e1, e2, e3, e4, e5]

/-- The first group's window begins at this grid row. -/
theorem pos_0 (i r : ℕ) (h : i = 256 + r) (hr : r < 256) : baseOf i = 0 := by
  unfold baseOf gOf; omega
/-- The first group's kind of bias. -/
theorem kind_0 (i r : ℕ) (h : i = 256 + r) (hr : r < 256) : kindOf i = 0 := by
  have : gOf i = 0 := by unfold gOf; omega
  unfold kindOf; rw [this]; decide
/-- A row of the first group, counted in it. -/
theorem row_0 (i r : ℕ) (h : i = 256 + r) (hr : r < 256) : (i - 256) % 256 = r := by omega

/-- The second group's window begins at this grid row. -/
theorem pos_1 (i r : ℕ) (h : i = 512 + r) (hr : r < 256) : baseOf i = 0 := by
  unfold baseOf gOf; omega
/-- The second group's kind of bias. -/
theorem kind_1 (i r : ℕ) (h : i = 512 + r) (hr : r < 256) : kindOf i = 1 := by
  have : gOf i = 1 := by unfold gOf; omega
  unfold kindOf; rw [this]; decide
/-- A row of the second group, counted in it. -/
theorem row_1 (i r : ℕ) (h : i = 512 + r) (hr : r < 256) : (i - 256) % 256 = r := by omega

/-- The third group's window begins at this grid row. -/
theorem pos_2 (i r : ℕ) (h : i = 768 + r) (hr : r < 256) : baseOf i = 4 := by
  unfold baseOf gOf; omega
/-- The third group's kind of bias. -/
theorem kind_2 (i r : ℕ) (h : i = 768 + r) (hr : r < 256) : kindOf i = 1 := by
  have : gOf i = 2 := by unfold gOf; omega
  unfold kindOf; rw [this]; decide
/-- A row of the third group, counted in it. -/
theorem row_2 (i r : ℕ) (h : i = 768 + r) (hr : r < 256) : (i - 256) % 256 = r := by omega

/-- The fourth group's window begins at this grid row. -/
theorem pos_3 (i r : ℕ) (h : i = 1024 + r) (hr : r < 256) : baseOf i = 8 := by
  unfold baseOf gOf; omega
/-- The fourth group's kind of bias. -/
theorem kind_3 (i r : ℕ) (h : i = 1024 + r) (hr : r < 256) : kindOf i = 1 := by
  have : gOf i = 3 := by unfold gOf; omega
  unfold kindOf; rw [this]; decide
/-- A row of the fourth group, counted in it. -/
theorem row_3 (i r : ℕ) (h : i = 1024 + r) (hr : r < 256) : (i - 256) % 256 = r := by omega

/-- The fifth group's window begins at this grid row. -/
theorem pos_4 (i r : ℕ) (h : i = 1280 + r) (hr : r < 256) : baseOf i = 12 := by
  unfold baseOf gOf; omega
/-- The fifth group's kind of bias. -/
theorem kind_4 (i r : ℕ) (h : i = 1280 + r) (hr : r < 256) : kindOf i = 1 := by
  have : gOf i = 4 := by unfold gOf; omega
  unfold kindOf; rw [this]; decide
/-- A row of the fifth group, counted in it. -/
theorem row_4 (i r : ℕ) (h : i = 1280 + r) (hr : r < 256) : (i - 256) % 256 = r := by omega

/-- The sixth group's window begins at this grid row. -/
theorem pos_5 (i r : ℕ) (h : i = 1536 + r) (hr : r < 256) : baseOf i = 16 := by
  unfold baseOf gOf; omega
/-- The sixth group's kind of bias. -/
theorem kind_5 (i r : ℕ) (h : i = 1536 + r) (hr : r < 256) : kindOf i = 1 := by
  have : gOf i = 5 := by unfold gOf; omega
  unfold kindOf; rw [this]; decide
/-- A row of the sixth group, counted in it. -/
theorem row_5 (i r : ℕ) (h : i = 1536 + r) (hr : r < 256) : (i - 256) % 256 = r := by omega

/-- The seventh group's window begins at this grid row. -/
theorem pos_6 (i r : ℕ) (h : i = 1792 + r) (hr : r < 256) : baseOf i = 20 := by
  unfold baseOf gOf; omega
/-- The seventh group's kind of bias. -/
theorem kind_6 (i r : ℕ) (h : i = 1792 + r) (hr : r < 256) : kindOf i = 1 := by
  have : gOf i = 6 := by unfold gOf; omega
  unfold kindOf; rw [this]; decide
/-- A row of the seventh group, counted in it. -/
theorem row_6 (i r : ℕ) (h : i = 1792 + r) (hr : r < 256) : (i - 256) % 256 = r := by omega

/-- The last group's window begins at this grid row. -/
theorem pos_7 (i r : ℕ) (h : i = 2048 + r) (hr : r < 256) : baseOf i = 21 := by
  unfold baseOf gOf; omega
/-- The last group's kind of bias. -/
theorem kind_7 (i r : ℕ) (h : i = 2048 + r) (hr : r < 256) : kindOf i = 2 := by
  have : gOf i = 7 := by unfold gOf; omega
  unfold kindOf; rw [this]; decide
/-- A row of the last group, counted in it. -/
theorem row_7 (i r : ℕ) (h : i = 2048 + r) (hr : r < 256) : (i - 256) % 256 = r := by omega

/-- A load of a kind's bias is a read of the bias at the kind. -/
theorem ld_bias (X : Vec Ideal S3x256x704 .f32) (kd : ℕ) (inb) (h : kd < 3) (r : Fin 256) (k : Fin 704) :
    View.ld (Val := Elt Ideal) (S := S3x256x704) X (Rect.unit ![kd, 0, 0] ![1, 256, 704] inb) (ix3 (0 : Fin 1) r k)
      = X (ix3 (⟨kd, h⟩ : Fin 3) r k) := by
  refine View.ld_unit_apply_of (S := S3x256x704) X ![kd, 0, 0] ![1, 256, 704] inb _ _ fun a => ?_
  match a with
  | ⟨0, _⟩ => rfl
  | ⟨1, _⟩ => exact (Nat.zero_add _).symm
  | ⟨2, _⟩ => exact (Nat.zero_add _).symm

/-- The block the body leaves at a step that does not build the bias: it adds the one the step before left. -/
theorem outB_at (c : Dev nD) (i : grid0.Coords) (arg2 : Memref sig .tc .vmem S2304x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1x1x16x128 .f32) (harg5 : arg5.IsWhole) (arg6 : Memref sig .tc .vmem S2304x128 .bf16) (harg6 : arg6.IsWhole) (arg7 : Memref sig .tc .vmem S3x256x704 .f32) (harg7 : arg7.IsWhole) (hc0 : ¬cond0_0 i)
    (x0 x1 x2 : Vec Ideal S2304x128 .bf16) (x3 : Vec Ideal S1x1x16x128 .f32) (xs0 : Vec Ideal S3x256x704 .f32) (y : S2304x128.Idx) :
    out0_B_4 (F := Ideal) c i arg2 harg2 arg3 harg3 arg4 harg4 arg5 harg5 arg6 harg6 arg7 harg7 hc0 x0 x1 x2 x3 xs0 y = OUT x0 x1 x2 (fun kd r k => xs0 (ix3 kd r k)) (y 0) (y 1) := by
  generalize hB : (fun (kd : Fin 3) (r : Fin 256) (k : Fin 704) => xs0 (ix3 kd r k)) = B
  frame_out
  canon_tiles x h
  · exact grp_blk x0 x1 x2 B (y 0) (y 1) 2048 1600 2 _ x h0 h1 (by decide) (by rw [pos_7 _ _ h0 x0_lt]) (kind_7 _ _ h0 x0_lt) (row_7 _ _ h0 x0_lt) (fun h r k => (ld_bias xs0 _ _ h r k).trans (congrFun (congrFun (congrFun hB _) r) k)) _ _ _
  · exact grp_blk x0 x1 x2 B (y 0) (y 1) 1792 1536 1 _ x h0 h1 (by decide) (by rw [pos_6 _ _ h0 x0_lt]) (kind_6 _ _ h0 x0_lt) (row_6 _ _ h0 x0_lt) (fun h r k => (ld_bias xs0 _ _ h r k).trans (congrFun (congrFun (congrFun hB _) r) k)) _ _ _
  · exact grp_blk x0 x1 x2 B (y 0) (y 1) 1536 1280 1 _ x h0 h1 (by decide) (by rw [pos_5 _ _ h0 x0_lt]) (kind_5 _ _ h0 x0_lt) (row_5 _ _ h0 x0_lt) (fun h r k => (ld_bias xs0 _ _ h r k).trans (congrFun (congrFun (congrFun hB _) r) k)) _ _ _
  · exact grp_blk x0 x1 x2 B (y 0) (y 1) 1280 1024 1 _ x h0 h1 (by decide) (by rw [pos_4 _ _ h0 x0_lt]) (kind_4 _ _ h0 x0_lt) (row_4 _ _ h0 x0_lt) (fun h r k => (ld_bias xs0 _ _ h r k).trans (congrFun (congrFun (congrFun hB _) r) k)) _ _ _
  · exact grp_blk x0 x1 x2 B (y 0) (y 1) 1024 768 1 _ x h0 h1 (by decide) (by rw [pos_3 _ _ h0 x0_lt]) (kind_3 _ _ h0 x0_lt) (row_3 _ _ h0 x0_lt) (fun h r k => (ld_bias xs0 _ _ h r k).trans (congrFun (congrFun (congrFun hB _) r) k)) _ _ _
  · exact grp_blk x0 x1 x2 B (y 0) (y 1) 768 512 1 _ x h0 h1 (by decide) (by rw [pos_2 _ _ h0 x0_lt]) (kind_2 _ _ h0 x0_lt) (row_2 _ _ h0 x0_lt) (fun h r k => (ld_bias xs0 _ _ h r k).trans (congrFun (congrFun (congrFun hB _) r) k)) _ _ _
  · exact grp_blk x0 x1 x2 B (y 0) (y 1) 512 256 1 _ x h0 h1 (by decide) (by rw [pos_1 _ _ h0 x0_lt]) (kind_1 _ _ h0 x0_lt) (row_1 _ _ h0 x0_lt) (fun h r k => (ld_bias xs0 _ _ h r k).trans (congrFun (congrFun (congrFun hB _) r) k)) _ _ _
  · exact grp_blk x0 x1 x2 B (y 0) (y 1) 256 256 0 _ x h0 h1 (by decide) (by rw [pos_0 _ _ h0 x0_lt]) (kind_0 _ _ h0 x0_lt) (row_0 _ _ h0 x0_lt) (fun h r k => (ld_bias xs0 _ _ h r k).trans (congrFun (congrFun (congrFun hB _) r) k)) _ _ _
  · exact ctx_blk x0 x1 x2 B (y 0) (y 1) x h0 h1 _

end Cert.Proof.Na

end
-- ==== Proof.NaBias.lean ====
/- The attention's launch: the table of biases its body fills, read at a position. -/
module
public import proofs.«01_k».proof.Proof.NaOut

@[expose] public section

set_option maxRecDepth 16384

noncomputable section

namespace Cert.Proof.Na
open Cert.NaIdeal Cert.NaIdeal.Gen Idealize.ShloMosaic Idealize.ShloMosaic.TcCoe Idealize.SL.Sem
open Idealize.ShloMosaic.Pointwise NaMath

/-- A key column lies in the window of a query column. -/
def colOk (q k : ℕ) : Prop := min (q - 8) 48 ≤ k ∧ k < min (q - 8) 48 + 16
instance (q k : ℕ) : Decidable (colOk q k) := by unfold colOk; infer_instance
/-- The mask of columns the body computes. -/
theorem mask_at : ∀ q k : Fin 64, k0_pay2 (ix2 q k) = if colOk q.val k.val then 1#1 else 0#1 := by
  decide +kernel
/-- A row of the table of relative positions lies inside it. -/
theorem inbP (ro : ℕ) (h : ro < 16) : ∀ a, (![0, 0, ro, 0] : Fin 4 → ℕ) a + (![1, 1, 1, 128] : Fin 4 → ℕ) a ≤ S1x1x16x128.size a := fun a =>
  match a with
  | ⟨0, _⟩ => Nat.le_refl 1
  | ⟨1, _⟩ => Nat.le_refl 1
  | ⟨2, _⟩ => h
  | ⟨3, _⟩ => Nat.le_refl 128
/-- A square block of biases: a row of the table, its lanes turned, masked by column. -/
def P (x3 : Vec Ideal S1x1x16x128 .f32) (ro : ℕ) (h : ro < 16) : Vec Ideal S64x64 .f32 :=
  k0_pay8 k0_pay2 k0_pay3 (View.ld x3 (Rect.unit ![0, 0, ro, 0] ![1, 1, 1, 128] (inbP ro h)))
/-- The bias of a query column and a key column at a row of the table. -/
def BL (x3 : Vec Ideal S1x1x16x128 .f32) (ro : ℕ) (q k : ℕ) : EReal :=
  if colOk q k then
    x3 (ix4 0 0 ⟨ro % 16, Nat.mod_lt _ (by decide)⟩ ⟨(k + 15 - q) % 128, Nat.mod_lt _ (by decide)⟩) * (c2 : EReal)
  else ⊥
/-- The lane the turning brings to a column. -/
theorem roll_ix (q k : ℕ) (hq : q < 64) (h : colOk q k) : (k + 128 - (113 + q) % 128) % 128 = (k + 15 - q) % 128 := by
  have h1 := h.1
  have h2 := h.2
  omega
/-- A block of biases, read at a position. -/
theorem P_at (x3 : Vec Ideal S1x1x16x128 .f32) (ro : ℕ) (h : ro < 16) (q k : Fin 64) :
    P x3 ro h (ix2 q k) = BL x3 ro q.val k.val := by
  unfold P BL
  pointwise [k0_pay8, k0_pay3]
  rw [mask_at]
  by_cases hc : colOk q.val k.val
  · simp only [hc, if_true]
    refine (rfl : _ = x3 _ * (c2 : EReal)).trans ?_
    refine congrArg (fun j => x3 j * (c2 : EReal)) ?_
    refine congrArg₂ (ix4 0 0) (Fin.ext (Nat.mod_eq_of_lt h).symm) (Fin.ext (roll_ix _ _ q.isLt hc))
  · simp only [hc, if_false]
    exact neg_inf
/-- The blocks of one row of the table of biases. -/
def rowv (x3 : Vec Ideal S1x1x16x128 .f32) (l s : ℕ) (hs : s < 8) (n : ℕ) : Vec Ideal S64x64 .f32 :=
  if h : l ≤ n ∧ n < l + 8 then P x3 (s + (n - l)) (by omega) else k0_pay3 (F := Ideal)
/-- The bias a row of the table has at a window row. -/
def ROW (x3 : Vec Ideal S1x1x16x128 .f32) (l s n q k : ℕ) : EReal :=
  if l ≤ n ∧ n < l + 8 then BL x3 (s + (n - l)) q k else ⊥
/-- A block of a row, read at a position. -/
theorem rowv_at (x3 : Vec Ideal S1x1x16x128 .f32) (l s : ℕ) (hs : s < 8) (n : ℕ) (q k : Fin 64) :
    rowv x3 l s hs n (ix2 q k) = ROW x3 l s n q.val k.val := by
  unfold rowv ROW
  by_cases h : l ≤ n ∧ n < l + 8
  · rw [dif_pos h, if_pos h]; exact P_at x3 _ _ q k
  · rw [dif_neg h, if_neg h]; unfold k0_pay3; pointwise; exact neg_inf

/-- A row of blocks as a slice of the table, read at a position. -/
theorem slice_at (v : Vec Ideal S64x704 .f32) (x : S1x64x704.Idx) :
    shapeCast S1x64x704 v shapeCasts_S64x704_S1x64x704 x = v (ix2 (x 1) (x 2)) := by
  pointwise

/-- Eleven square blocks side by side, read at a position. -/
theorem cat_at (f : Fin 11 → Vec Ideal S64x64 .f32) (x : S1x64x704.Idx) :
    shapeCast S1x64x704 (concatenate S64x704 1 [⟨S64x64, f 0⟩, ⟨S64x64, f 1⟩, ⟨S64x64, f 2⟩, ⟨S64x64, f 3⟩, ⟨S64x64, f 4⟩, ⟨S64x64, f 5⟩,
      ⟨S64x64, f 6⟩, ⟨S64x64, f 7⟩, ⟨S64x64, f 8⟩, ⟨S64x64, f 9⟩, ⟨S64x64, f 10⟩]
      concatenates_S64x64_S64x64_S64x64_S64x64_S64x64_S64x64_S64x64_S64x64_S64x64_S64x64_S64x64_S64x704_d1) shapeCasts_S64x704_S1x64x704 x
      = f ⟨(x 2).val / 64, Nat.div_lt_of_lt_mul (x 2).isLt⟩ (ix2 (x 1) ⟨(x 2).val % 64, Nat.mod_lt _ (by decide)⟩) := by
  refine (slice_at _ x).trans ?_
  refine concatenate_ofFn_apply (t := S64x704) (s₁ := S64x64) 1 f _ rfl 64 rfl _ _ rfl _ rfl ?_
  intro b hb
  match b with
  | ⟨0, _⟩ => rfl
  | ⟨1, _⟩ => exact absurd rfl hb

/-- One row of the table: the blocks of a run of eight window rows, the rest masked. -/
def rowcat (x3 : Vec Ideal S1x1x16x128 .f32) (l s : ℕ) (hs : s < 8) : Vec Ideal S1x64x704 .f32 :=
  shapeCast S1x64x704 (concatenate S64x704 1 [⟨S64x64, rowv x3 l s hs 0⟩, ⟨S64x64, rowv x3 l s hs 1⟩, ⟨S64x64, rowv x3 l s hs 2⟩, ⟨S64x64, rowv x3 l s hs 3⟩, ⟨S64x64, rowv x3 l s hs 4⟩, ⟨S64x64, rowv x3 l s hs 5⟩,
    ⟨S64x64, rowv x3 l s hs 6⟩, ⟨S64x64, rowv x3 l s hs 7⟩, ⟨S64x64, rowv x3 l s hs 8⟩, ⟨S64x64, rowv x3 l s hs 9⟩, ⟨S64x64, rowv x3 l s hs 10⟩]
    concatenates_S64x64_S64x64_S64x64_S64x64_S64x64_S64x64_S64x64_S64x64_S64x64_S64x64_S64x64_S64x704_d1) shapeCasts_S64x704_S1x64x704
/-- One row of the table, read at a position. -/
theorem row_at (x3 : Vec Ideal S1x1x16x128 .f32) (l s : ℕ) (hs : s < 8) (x : S1x64x704.Idx) :
    rowcat x3 l s hs x = ROW x3 l s ((x 2).val / 64) (x 1).val ((x 2).val % 64) :=
  (cat_at (fun n => rowv x3 l s hs n.val) x).trans (rowv_at x3 l s hs _ (x 1) _)

/-- Where, of the eleven rows of a group's window, a query row's eight begin, by the group's kind. -/
def lead (kd qr : ℕ) : ℕ := if kd = 0 then 0 else if kd = 1 then qr else 3
/-- The row of the table of relative positions the first of the eight has, by the group's kind. -/
def first (kd qr : ℕ) : ℕ := if kd = 0 then 7 - qr else if kd = 1 then 3 else 3 - qr
/-- The bias of a query of a group and a key of its window. -/
def BIAS (x3 : Vec Ideal S1x1x16x128 .f32) (kd : ℕ) (r k : ℕ) : EReal :=
  ROW x3 (lead kd (r / 64)) (first kd (r / 64)) (k / 64) (r % 64) (k % 64)

/-- A position of a piece of the table is that of the table. -/
theorem piece (x3 : Vec Ideal S1x1x16x128 .f32) (kd qr l s : ℕ) (hl : lead kd qr = l) (hs : first kd qr = s) (y : S3x256x704.Idx) (x : S1x64x704.Idx)
    (hx : (x 1).val < 64) (h0 : (y 0).val = kd + (x 0).val) (h1 : (y 1).val = 64 * qr + (x 1).val) (h2 : (y 2).val = (x 2).val) (hz : (x 0).val < 1) :
    ROW x3 l s ((x 2).val / 64) (x 1).val ((x 2).val % 64) = BIAS x3 (y 0).val (y 1).val (y 2).val := by
  have e0 : (y 0).val = kd := by omega
  have e1 : (y 1).val / 64 = qr := by omega
  have e2 : (y 1).val % 64 = (x 1).val := by omega
  unfold BIAS
  rw [e1, e2, h2, e0, hl, hs]

/-- The table of biases the body fills at a head's first block, read at a position. -/
theorem soutA_at (c : Dev nD) (i : grid0.Coords) (arg2 : Memref sig .tc .vmem S2304x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1x1x16x128 .f32) (harg5 : arg5.IsWhole) (arg6 : Memref sig .tc .vmem S2304x128 .bf16) (harg6 : arg6.IsWhole) (arg7 : Memref sig .tc .vmem S3x256x704 .f32) (harg7 : arg7.IsWhole) (hc0 : cond0_0 i)
    (x0 x1 x2 : Vec Ideal S2304x128 .bf16) (x3 : Vec Ideal S1x1x16x128 .f32) (y : S3x256x704.Idx) :
    sout0_A_0 (F := Ideal) c i arg2 harg2 arg3 harg3 arg4 harg4 arg5 harg5 arg6 harg6 arg7 harg7 hc0 x0 x1 x2 x3 y = BIAS x3 (y 0).val (y 1).val (y 2).val := by
  frame_out
  canon_tiles x h
  · exact (row_at x3 3 0 (by decide) x).trans (piece x3 2 3 3 0 rfl rfl y x x1_lt (by omega) (by omega) h2 x0_lt)
  · exact (row_at x3 3 1 (by decide) x).trans (piece x3 2 2 3 1 rfl rfl y x x1_lt (by omega) (by omega) h2 x0_lt)
  · exact (row_at x3 3 2 (by decide) x).trans (piece x3 2 1 3 2 rfl rfl y x x1_lt (by omega) (by omega) h2 x0_lt)
  · exact (row_at x3 3 3 (by decide) x).trans (piece x3 2 0 3 3 rfl rfl y x x1_lt (by omega) (by omega) h2 x0_lt)
  · exact (row_at x3 3 3 (by decide) x).trans (piece x3 1 3 3 3 rfl rfl y x x1_lt (by omega) (by omega) h2 x0_lt)
  · exact (row_at x3 2 3 (by decide) x).trans (piece x3 1 2 2 3 rfl rfl y x x1_lt (by omega) (by omega) h2 x0_lt)
  · exact (row_at x3 1 3 (by decide) x).trans (piece x3 1 1 1 3 rfl rfl y x x1_lt (by omega) (by omega) h2 x0_lt)
  · exact (row_at x3 0 3 (by decide) x).trans (piece x3 1 0 0 3 rfl rfl y x x1_lt (by omega) (by omega) h2 x0_lt)
  · exact (row_at x3 0 4 (by decide) x).trans (piece x3 0 3 0 4 rfl rfl y x x1_lt (by omega) (by omega) h2 x0_lt)
  · exact (row_at x3 0 5 (by decide) x).trans (piece x3 0 2 0 5 rfl rfl y x x1_lt (by omega) (by omega) h2 x0_lt)
  · exact (row_at x3 0 6 (by decide) x).trans (piece x3 0 1 0 6 rfl rfl y x x1_lt (by omega) (by omega) h2 x0_lt)
  · exact (row_at x3 0 7 (by decide) x).trans (piece x3 0 0 0 7 rfl rfl y x x1_lt (by omega) (by omega) h2 x0_lt)

/-- The twelve rows of the table, the last stored first. -/
def TAB (x3 : Vec Ideal S1x1x16x128 .f32) : List (View.Piece (Elt Ideal) S3x256x704 .f32) :=
  [⟨Rect.unit ![2, 192, 0] ![1, 64, 704] (by decide), rowcat x3 3 0 (by decide)⟩,
    ⟨Rect.unit ![2, 128, 0] ![1, 64, 704] (by decide), rowcat x3 3 1 (by decide)⟩,
    ⟨Rect.unit ![2, 64, 0] ![1, 64, 704] (by decide), rowcat x3 3 2 (by decide)⟩,
    ⟨Rect.unit ![2, 0, 0] ![1, 64, 704] (by decide), rowcat x3 3 3 (by decide)⟩,
    ⟨Rect.unit ![1, 192, 0] ![1, 64, 704] (by decide), rowcat x3 3 3 (by decide)⟩,
    ⟨Rect.unit ![1, 128, 0] ![1, 64, 704] (by decide), rowcat x3 2 3 (by decide)⟩,
    ⟨Rect.unit ![1, 64, 0] ![1, 64, 704] (by decide), rowcat x3 1 3 (by decide)⟩,
    ⟨Rect.unit ![1, 0, 0] ![1, 64, 704] (by decide), rowcat x3 0 3 (by decide)⟩,
    ⟨Rect.unit ![0, 192, 0] ![1, 64, 704] (by decide), rowcat x3 0 4 (by decide)⟩,
    ⟨Rect.unit ![0, 128, 0] ![1, 64, 704] (by decide), rowcat x3 0 5 (by decide)⟩,
    ⟨Rect.unit ![0, 64, 0] ![1, 64, 704] (by decide), rowcat x3 0 6 (by decide)⟩,
    ⟨Rect.unit ![0, 0, 0] ![1, 64, 704] (by decide), rowcat x3 0 7 (by decide)⟩]
/-- The twelve rows read at a position. -/
theorem TAB_at (x3 : Vec Ideal S1x1x16x128 .f32) (y : S3x256x704.Idx) :
    View.canon (Val := Elt Ideal) (TAB x3) y = BIAS x3 (y 0).val (y 1).val (y 2).val := by
  unfold TAB
  canon_tiles x h
  · exact (row_at x3 3 0 (by decide) x).trans (piece x3 2 3 3 0 rfl rfl y x x1_lt (by omega) (by omega) h2 x0_lt)
  · exact (row_at x3 3 1 (by decide) x).trans (piece x3 2 2 3 1 rfl rfl y x x1_lt (by omega) (by omega) h2 x0_lt)
  · exact (row_at x3 3 2 (by decide) x).trans (piece x3 2 1 3 2 rfl rfl y x x1_lt (by omega) (by omega) h2 x0_lt)
  · exact (row_at x3 3 3 (by decide) x).trans (piece x3 2 0 3 3 rfl rfl y x x1_lt (by omega) (by omega) h2 x0_lt)
  · exact (row_at x3 3 3 (by decide) x).trans (piece x3 1 3 3 3 rfl rfl y x x1_lt (by omega) (by omega) h2 x0_lt)
  · exact (row_at x3 2 3 (by decide) x).trans (piece x3 1 2 2 3 rfl rfl y x x1_lt (by omega) (by omega) h2 x0_lt)
  · exact (row_at x3 1 3 (by decide) x).trans (piece x3 1 1 1 3 rfl rfl y x x1_lt (by omega) (by omega) h2 x0_lt)
  · exact (row_at x3 0 3 (by decide) x).trans (piece x3 1 0 0 3 rfl rfl y x x1_lt (by omega) (by omega) h2 x0_lt)
  · exact (row_at x3 0 4 (by decide) x).trans (piece x3 0 3 0 4 rfl rfl y x x1_lt (by omega) (by omega) h2 x0_lt)
  · exact (row_at x3 0 5 (by decide) x).trans (piece x3 0 2 0 5 rfl rfl y x x1_lt (by omega) (by omega) h2 x0_lt)
  · exact (row_at x3 0 6 (by decide) x).trans (piece x3 0 1 0 6 rfl rfl y x x1_lt (by omega) (by omega) h2 x0_lt)
  · exact (row_at x3 0 7 (by decide) x).trans (piece x3 0 0 0 7 rfl rfl y x x1_lt (by omega) (by omega) h2 x0_lt)

/-- A plane of the table, read through the stores that made it. -/
theorem tab_ld {κ : Kind} (v : View sig κ .vmem S3x256x704 .f32) (x3 : Vec Ideal S1x1x16x128 .f32) (kd : ℕ) (inb) (h : kd < 3) (r : Fin 256) (k : Fin 704) :
    v.readCov (TAB x3) (Rect.unit (s := S3x256x704) ![kd, 0, 0] ![1, 256, 704] inb).toLoadRect (ix3 (0 : Fin 1) r k) = BIAS x3 kd r.val k.val := by
  rw [View.readCov_eq_canon']
  refine (TAB_at x3 _).trans ?_
  have e0 : ∀ j : Fin 3, (((Rect.unit (s := S3x256x704) ![kd, 0, 0] ![1, 256, 704] inb).toLoadRect.idx (ix3 (0 : Fin 1) r k)) j).val = (![kd, r.val, k.val] : Fin 3 → ℕ) j := fun j =>
    match j with
    | ⟨0, _⟩ => by simp [Rect.toLoadRect, LoadRect.idx]
    | ⟨1, _⟩ => by simp [Rect.toLoadRect, LoadRect.idx]
    | ⟨2, _⟩ => by simp [Rect.toLoadRect, LoadRect.idx]
  rw [e0 0, e0 1, e0 2]
  rfl

/-- A group whose largest score the body computes apart stores the same. -/
theorem split_max (v0 v1 qg : Vec Ideal S256x128 .bf16) (kw vw : Vec Ideal S704x128 .bf16) (b : Vec Ideal S1x256x704 .f32) :
    k0_pay54 (F := Ideal) v1 (k0_pay51 qg kw b) (k0_pay52 v0 qg) (k0_pay53 qg kw b) vw
      = k0_pay37 v1 (k0_pay35 qg kw b) (k0_pay36 v0 qg) vw := rfl

/-- What the body stores at a head's first block, read at a position. -/
theorem outA_at (c : Dev nD) (i : grid0.Coords) (arg2 : Memref sig .tc .vmem S2304x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1x1x16x128 .f32) (harg5 : arg5.IsWhole) (arg6 : Memref sig .tc .vmem S2304x128 .bf16) (harg6 : arg6.IsWhole) (arg7 : Memref sig .tc .vmem S3x256x704 .f32) (harg7 : arg7.IsWhole) (hc0 : cond0_0 i)
    (x0 x1 x2 : Vec Ideal S2304x128 .bf16) (x3 : Vec Ideal S1x1x16x128 .f32) (y : S2304x128.Idx) :
    out0_A_4 (F := Ideal) c i arg2 harg2 arg3 harg3 arg4 harg4 arg5 harg5 arg6 harg6 arg7 harg7 hc0 x0 x1 x2 x3 y
      = OUT x0 x1 x2 (fun kd r k => BIAS x3 kd.val r.val k.val) (y 0) (y 1) := by
  generalize hB : (fun (kd : Fin 3) (r : Fin 256) (k : Fin 704) => BIAS x3 kd.val r.val k.val) = B
  have hb : ∀ (kd : ℕ) (inb) (h : kd < 3) (r : Fin 256) (k : Fin 704),
      arg7.view.readCov (TAB x3) (Rect.unit (s := S3x256x704) ![kd, 0, 0] ![1, 256, 704] inb).toLoadRect (ix3 (0 : Fin 1) r k) = B ⟨kd, h⟩ r k :=
    fun kd inb h r k => (tab_ld arg7.view x3 kd inb h r k).trans (congrFun (congrFun (congrFun hB ⟨kd, h⟩) r) k)
  frame_out
  canon_tiles x h
  · exact grp_blk x0 x1 x2 B (y 0) (y 1) 2048 1600 2 (arg7.view.readCov (TAB x3) (Rect.unit (s := S3x256x704) ![2, 0, 0] ![1, 256, 704] (by decide)).toLoadRect) x h0 h1 (by decide) (by rw [pos_7 _ _ h0 x0_lt]) (kind_7 _ _ h0 x0_lt) (row_7 _ _ h0 x0_lt) (hb 2 _) _ _ _
  · exact grp_blk x0 x1 x2 B (y 0) (y 1) 1792 1536 1 (arg7.view.readCov (TAB x3) (Rect.unit (s := S3x256x704) ![1, 0, 0] ![1, 256, 704] (by decide)).toLoadRect) x h0 h1 (by decide) (by rw [pos_6 _ _ h0 x0_lt]) (kind_6 _ _ h0 x0_lt) (row_6 _ _ h0 x0_lt) (hb 1 _) _ _ _
  · exact (congrFun (split_max _ _ _ _ _ _) x).trans (grp_blk x0 x1 x2 B (y 0) (y 1) 1536 1280 1 (arg7.view.readCov (TAB x3) (Rect.unit (s := S3x256x704) ![1, 0, 0] ![1, 256, 704] (by decide)).toLoadRect) x h0 h1 (by decide) (by rw [pos_5 _ _ h0 x0_lt]) (kind_5 _ _ h0 x0_lt) (row_5 _ _ h0 x0_lt) (hb 1 _) _ _ _)
  · exact grp_blk x0 x1 x2 B (y 0) (y 1) 1280 1024 1 (arg7.view.readCov (TAB x3) (Rect.unit (s := S3x256x704) ![1, 0, 0] ![1, 256, 704] (by decide)).toLoadRect) x h0 h1 (by decide) (by rw [pos_4 _ _ h0 x0_lt]) (kind_4 _ _ h0 x0_lt) (row_4 _ _ h0 x0_lt) (hb 1 _) _ _ _
  · exact grp_blk x0 x1 x2 B (y 0) (y 1) 1024 768 1 (arg7.view.readCov (TAB x3) (Rect.unit (s := S3x256x704) ![1, 0, 0] ![1, 256, 704] (by decide)).toLoadRect) x h0 h1 (by decide) (by rw [pos_3 _ _ h0 x0_lt]) (kind_3 _ _ h0 x0_lt) (row_3 _ _ h0 x0_lt) (hb 1 _) _ _ _
  · exact grp_blk x0 x1 x2 B (y 0) (y 1) 768 512 1 (arg7.view.readCov (TAB x3) (Rect.unit (s := S3x256x704) ![1, 0, 0] ![1, 256, 704] (by decide)).toLoadRect) x h0 h1 (by decide) (by rw [pos_2 _ _ h0 x0_lt]) (kind_2 _ _ h0 x0_lt) (row_2 _ _ h0 x0_lt) (hb 1 _) _ _ _
  · exact grp_blk x0 x1 x2 B (y 0) (y 1) 512 256 1 (arg7.view.readCov (TAB x3) (Rect.unit (s := S3x256x704) ![1, 0, 0] ![1, 256, 704] (by decide)).toLoadRect) x h0 h1 (by decide) (by rw [pos_1 _ _ h0 x0_lt]) (kind_1 _ _ h0 x0_lt) (row_1 _ _ h0 x0_lt) (hb 1 _) _ _ _
  · exact grp_blk x0 x1 x2 B (y 0) (y 1) 256 256 0 (arg7.view.readCov (TAB x3) (Rect.unit (s := S3x256x704) ![0, 0, 0] ![1, 256, 704] (by decide)).toLoadRect) x h0 h1 (by decide) (by rw [pos_0 _ _ h0 x0_lt]) (kind_0 _ _ h0 x0_lt) (row_0 _ _ h0 x0_lt) (hb 0 _) _ _ _
  · exact ctx_blk x0 x1 x2 B (y 0) (y 1) x h0 h1 _

end Cert.Proof.Na
end
-- ==== Proof.NaBlk.lean ====
/- The attention's launch: the blocks of its grid steps, read from the arguments. -/
module
public import proofs.«01_k».proof.Proof.NaBias
public import Idealize.ShloMosaic.Lib.StableHlo.RunRead
public import Idealize.ShloMosaic.Lib.KernelVsHost

@[expose] public section

set_option maxRecDepth 16384

noncomputable section

namespace Cert.Proof.Na
open Cert.NaIdeal Cert.NaIdeal.Gen Idealize.ShloMosaic Idealize.ShloMosaic.TcCoe Idealize.SL.Sem
open Idealize.ShloMosaic.Pointwise NaMath

variable (m : (ℓ : Loc nD τ sig) → Buf (Elt Ideal) ℓ)

/-- The block that window 0 holds at grid step `t`. -/
theorem idx0 : ∀ t : Fin cfg0.N, win0_0.index t = ![t.val % 8, 48 + t.val / 8] := (by decide +kernel : ∀ t : Fin grid0.N, _)
/-- The block that window 1 holds at grid step `t`. -/
theorem idx1 : ∀ t : Fin cfg0.N, win0_1.index t = ![t.val % 8, 60 + t.val / 8] := (by decide +kernel : ∀ t : Fin grid0.N, _)
/-- The block that window 2 holds at grid step `t`. -/
theorem idx2 : ∀ t : Fin cfg0.N, win0_2.index t = ![t.val % 8, 72 + t.val / 8] := (by decide +kernel : ∀ t : Fin grid0.N, _)
/-- The block that window 3 holds at grid step `t`. -/
theorem idx3 : ∀ t : Fin cfg0.N, win0_3.index t = ![0, t.val / 8, 0, 0] := (by decide +kernel : ∀ t : Fin grid0.N, _)
/-- The block that window 4 writes at grid step `t`. -/
theorem idx4 : ∀ t : Fin cfg0.N, win0_4.index t = ![t.val % 8, t.val / 8] := (by decide +kernel : ∀ t : Fin grid0.N, _)

/-- A read of the queries' block is a read of the projections. -/
theorem iblk0 (c : Dev nD) (t : Fin cfg0.N) (i : Fin 2304) (d : Fin 128) (n : Fin 18432) (k : Fin 23040)
    (hn : n.val = 2304 * (t.val % 8) + i.val) (hk : k.val = 6144 + 128 * (t.val / 8) + d.val) :
    iblk m c 0 t (ix2 i d) = m ((c : Thread nD τ).loc main_arg0) (ix2 n k) := by
  blk_simp [iblk]
  entry_read
  pointwise
  have e := idx0 t
  refine congrArg (m ((c : Thread nD τ).loc main_arg0)) (funext fun a => Fin.ext ?_)
  match a with
  | ⟨0, _⟩ => show win0_0.index t 0 * 2304 + 1 * i.val = n.val; rw [e, hn]; show t.val % 8 * 2304 + 1 * i.val = _; omega
  | ⟨1, _⟩ => show win0_0.index t 1 * 128 + 1 * d.val = k.val; rw [e, hk]; show (48 + t.val / 8) * 128 + 1 * d.val = _; omega

/-- A read of the keys' block is a read of the projections. -/
theorem iblk1 (c : Dev nD) (t : Fin cfg0.N) (i : Fin 2304) (d : Fin 128) (n : Fin 18432) (k : Fin 23040)
    (hn : n.val = 2304 * (t.val % 8) + i.val) (hk : k.val = 7680 + 128 * (t.val / 8) + d.val) :
    iblk m c 1 t (ix2 i d) = m ((c : Thread nD τ).loc main_arg0) (ix2 n k) := by
  blk_simp [iblk]
  entry_read
  pointwise
  have e := idx1 t
  refine congrArg (m ((c : Thread nD τ).loc main_arg0)) (funext fun a => Fin.ext ?_)
  match a with
  | ⟨0, _⟩ => show win0_1.index t 0 * 2304 + 1 * i.val = n.val; rw [e, hn]; show t.val % 8 * 2304 + 1 * i.val = _; omega
  | ⟨1, _⟩ => show win0_1.index t 1 * 128 + 1 * d.val = k.val; rw [e, hk]; show (60 + t.val / 8) * 128 + 1 * d.val = _; omega

/-- A read of the values' block is a read of the projections. -/
theorem iblk2 (c : Dev nD) (t : Fin cfg0.N) (i : Fin 2304) (d : Fin 128) (n : Fin 18432) (k : Fin 23040)
    (hn : n.val = 2304 * (t.val % 8) + i.val) (hk : k.val = 9216 + 128 * (t.val / 8) + d.val) :
    iblk m c 2 t (ix2 i d) = m ((c : Thread nD τ).loc main_arg0) (ix2 n k) := by
  blk_simp [iblk]
  entry_read
  pointwise
  have e := idx2 t
  refine congrArg (m ((c : Thread nD τ).loc main_arg0)) (funext fun a => Fin.ext ?_)
  match a with
  | ⟨0, _⟩ => show win0_2.index t 0 * 2304 + 1 * i.val = n.val; rw [e, hn]; show t.val % 8 * 2304 + 1 * i.val = _; omega
  | ⟨1, _⟩ => show win0_2.index t 1 * 128 + 1 * d.val = k.val; rw [e, hk]; show (72 + t.val / 8) * 128 + 1 * d.val = _; omega

/-- The padded table of position biases, inside the table, is the table. -/
theorem padded (c : Dev nD) (h : Fin 12) (r : Fin 15) (k : Fin 31) (j : S4x12x16x128.Idx)
    (h0 : (j 0).val = 0) (h1 : (j 1).val = h.val) (h2 : (j 2).val = r.val) (h3 : (j 3).val = k.val) :
    V m c main_v0 j = m ((c : Thread nD τ).loc main_arg1) (ix4 (0 : Fin 4) h r k) := by
  unfold V
  after_reads_simp
  refine pad_apply_of_inside ![0, 0, 0, 0] ![0, 0, 1, 97] ![0, 0, 0, 0] (m ((c : Thread nD τ).loc main_arg1)) _ pads_S4x12x15x31_S4x12x16x128_000_000_010_0970 h_S_ j _ fun a => ?_
  match a with
  | ⟨0, _⟩ => exact h0
  | ⟨1, _⟩ => show (j 1).val = 0 + h.val * 1; omega
  | ⟨2, _⟩ => show (j 2).val = 0 + r.val * 1; omega
  | ⟨3, _⟩ => show (j 3).val = 0 + k.val * 1; omega

/-- A read of the block of position biases, inside the table, is a read of the table. -/
theorem iblk3 (c : Dev nD) (t : Fin cfg0.N) (h : Fin 12) (hh : h.val = t.val / 8) (r : Fin 15) (k : Fin 31) (r' : Fin 16) (k' : Fin 128) (hr : r'.val = r.val)
    (hk : k'.val = k.val) :
    iblk m c 3 t (ix4 (0 : Fin 1) (0 : Fin 1) r' k') = m ((c : Thread nD τ).loc main_arg1) (ix4 (0 : Fin 4) h r k) := by
  have e := idx3 t
  refine padded m c h r k _ ?_ ?_ ?_ ?_
  · show win0_3.index t 0 * 1 + 1 * 0 = 0; rw [e]; rfl
  · show win0_3.index t 1 * 1 + 1 * 0 = h.val; rw [e, hh]; show t.val / 8 * 1 + 1 * 0 = _; omega
  · show win0_3.index t 2 * 16 + 1 * r'.val = r.val; rw [e, hr]; show 0 * 16 + 1 * r.val = _; omega
  · show win0_3.index t 3 * 128 + 1 * k'.val = k.val; rw [e, hk]; show 0 * 128 + 1 * k.val = _; omega

/-- The block of position biases is that of the step before, while the head stays. -/
theorem iblk3_prev (c : Dev nD) (t u : Fin cfg0.N) (h : t.val / 8 = u.val / 8) : iblk m c 3 t = iblk m c 3 u := by
  funext x
  blk_simp [iblk]
  have e : win0_3.index t = win0_3.index u := by rw [idx3, idx3, h]
  refine congrArg _ (funext fun a => Fin.ext ?_)
  show win0_3.index t a * _ + 1 * (x a).val = win0_3.index u a * _ + 1 * (x a).val
  rw [e]

/-- What the scratch holds after each step: the table of the step's head. -/
theorem scratch (c : Dev nD) : ∀ (n : ℕ) (hn : n < cfg0.N) (y : S3x256x704.Idx),
    (outsAt0 m c n hn).2 y = BIAS (iblk m c 3 ⟨n, hn⟩) (y 0).val (y 1).val (y 2).val := by
  intro n
  induction n with
  | zero =>
    intro hn y
    refine (congrFun (congrArg Prod.snd (outsAt0_A m c ⟨0, hn⟩ (Nat.zero_mod 8))) y).trans ?_
    dsimp only
    rw [soutA_at]
  | succ n ih =>
    intro hn y
    by_cases h0 : (n + 1) % 8 = 0
    · rw [outsAt0_A m c ⟨n + 1, hn⟩ h0]
      dsimp only
      rw [soutA_at]
    · rw [outsAt0_B m c ⟨n + 1, hn⟩ h0]
      refine (ih (Nat.lt_of_succ_lt hn) y).trans ?_
      rw [iblk3_prev m c ⟨n, Nat.lt_of_succ_lt hn⟩ ⟨n + 1, hn⟩ (by show n / 8 = (n + 1) / 8; omega)]

/-- What each step stores, read at a position. -/
theorem out_at (c : Dev nD) (t : Fin cfg0.N) (y : S2304x128.Idx) :
    (outsAt0 m c t.val t.isLt).1 y = OUT (iblk m c 0 t) (iblk m c 1 t) (iblk m c 2 t) (fun kd r k => BIAS (iblk m c 3 t) kd.val r.val k.val) (y 0) (y 1) := by
  by_cases h0 : t.val % 8 = 0
  · rw [outsAt0_A m c t h0]
    dsimp only
    rw [outA_at]
  · rw [outsAt0_B m c t h0]
    have hp : t.val - 1 < cfg0.N := lt_of_le_of_lt (Nat.sub_le _ _) t.isLt
    dsimp only
    rw [outB_at]
    have e : (fun (kd : Fin 3) (r : Fin 256) (k : Fin 704) => (outsAt0 m c (t.val - 1) hp).2 (ix3 kd r k))
        = fun kd r k => BIAS (iblk m c 3 t) kd.val r.val k.val := by
      funext kd r k
      refine (scratch m c (t.val - 1) hp _).trans ?_
      rw [iblk3_prev m c ⟨t.val - 1, hp⟩ t (by show (t.val - 1) / 8 = t.val / 8; omega)]
      rfl
    exact congrArg (fun B => OUT _ _ _ B (y 0) (y 1)) e

end Cert.Proof.Na
end
-- ==== Proof.NaRef.lean ====
/- The attention's reference, read at a position. -/
module
public import proofs.«01_k».proof.Defs
public import proofs.«01_k».proof.Proof.Gen.NaRefIdeal.Read
public import Idealize.ShloMosaic.Lib.Pointwise
public import Idealize.ShloMosaic.Lib.Claim
public import proofs.«01_k».proof.Proof.NaMath

@[expose] public section

set_option maxRecDepth 16384

noncomputable section

namespace Cert.Proof.NaRef
open Cert.NaRefIdeal Idealize.ShloMosaic Idealize.ShloMosaic.TcCoe Idealize.SL.Sem
open Idealize.ShloMosaic.Pointwise NaRefIdeal.Read NaMath

/-- The table of grid rows in a window. -/
theorem rowok : ∀ r s : Fin 32, val_main_v54 (F := Ideal) (ix2 r s) = if min (r.val - 4) 24 ≤ s.val ∧ s.val < min (r.val - 4) 24 + 8 then 1#1 else 0#1 := by
  decide +kernel
/-- The table of grid columns in a window. -/
theorem colok : ∀ r s : Fin 64, val_main_v65 (F := Ideal) (ix2 r s) = if min (r.val - 8) 48 ≤ s.val ∧ s.val < min (r.val - 8) 48 + 16 then 1#1 else 0#1 := by
  decide +kernel
/-- The table of row distances. -/
theorem rowoff : ∀ r s : Fin 32, min (val_main_v90 (F := Ideal) (ix2 r s) : BitVec 32).toInt.toNat 14 = min (s.val + 7 - r.val) 14 := by
  decide +kernel
/-- The table of column distances. -/
theorem coloff : ∀ r s : Fin 64, min (val_main_v97 (F := Ideal) (ix2 r s) : BitVec 32).toInt.toNat 30 = min (s.val + 15 - r.val) 30 := by
  decide +kernel

/-- Rows of a table taken by a list of row numbers. -/
theorem gather_row (x : FVec Ideal S12x15x31 .f32) (idx : IVec S32x32x1 32) (h : Fin 12) (r s : Fin 32) (k : Fin 31) :
    Host.gather gather_S12x15x31_S32x32x1_S12x32x32x31_03_1_n_n_1_2_12131 x idx (ix4 h r s k)
      = x (ix3 h (⟨min (idx (ix3 r s (0 : Fin 1))).toInt.toNat 14, by omega⟩ : Fin 15) k) := by
  unfold Host.gather
  congr 1
  funext a
  refine Fin.ext ?_
  match a with
  | ⟨0, _⟩ => show 0 + 0 + h.val = h.val; omega
  | ⟨1, _⟩ =>
    have hsi : GatherDims.siIdx gather_S12x15x31_S32x32x1_S12x32x32x31_03_1_n_n_1_2_12131 (ix4 h r s k) (0 : Fin 1) = ix3 r s (0 : Fin 1) := by
      funext b; refine Fin.ext ?_
      match b with
      | ⟨0, _⟩ => rfl
      | ⟨1, _⟩ => rfl
      | ⟨2, _⟩ => rfl
    show min (idx (GatherDims.siIdx gather_S12x15x31_S32x32x1_S12x32x32x31_03_1_n_n_1_2_12131 (ix4 h r s k) (0 : Fin 1))).toInt.toNat 14 + 0 + 0 = min (idx (ix3 r s (0 : Fin 1))).toInt.toNat 14
    rw [hsi]; rfl
  | ⟨2, _⟩ => show 0 + 0 + k.val = k.val; omega

/-- Columns of a table taken by a list of column numbers. -/
theorem gather_col (x : FVec Ideal S12x32x32x31 .f32) (idx : IVec S64x64x1 32) (h : Fin 12) (r s : Fin 32) (p q : Fin 64) :
    Host.gather gather_S12x32x32x31_S64x64x1_S12x32x32x64x64_012_3_n_n_3_2_1232321 x idx (ix5 h r s p q)
      = x (ix4 h r s (⟨min (idx (ix3 p q (0 : Fin 1))).toInt.toNat 30, by omega⟩ : Fin 31)) := by
  unfold Host.gather
  congr 1
  funext a
  refine Fin.ext ?_
  match a with
  | ⟨0, _⟩ => show 0 + 0 + h.val = h.val; omega
  | ⟨1, _⟩ => show 0 + 0 + r.val = r.val; omega
  | ⟨2, _⟩ => show 0 + 0 + s.val = s.val; omega
  | ⟨3, _⟩ =>
    have hsi : GatherDims.siIdx gather_S12x32x32x31_S64x64x1_S12x32x32x64x64_012_3_n_n_3_2_1232321 (ix5 h r s p q) (0 : Fin 1) = ix3 p q (0 : Fin 1) := by
      funext b; refine Fin.ext ?_
      match b with
      | ⟨0, _⟩ => rfl
      | ⟨1, _⟩ => rfl
      | ⟨2, _⟩ => rfl
    show min (idx (GatherDims.siIdx gather_S12x32x32x31_S64x64x1_S12x32x32x64x64_012_3_n_n_3_2_1232321 (ix5 h r s p q) (0 : Fin 1))).toInt.toNat 30 + 0 + 0 = min (idx (ix3 p q (0 : Fin 1))).toInt.toNat 30
    rw [hsi]; rfl

/-- A query's entry. -/
def qa (x0 : Vec Ideal S18432x23040 .bf16) (b : Fin 8) (i : Fin 2304) (h : Fin 12) (d : Fin 128) : EReal :=
  x0 (ix2 (⟨b.val * 2304 + i.val, by omega⟩ : Fin 18432) (⟨6144 + (h.val * 128 + d.val), by omega⟩ : Fin 23040))
/-- A key's entry. -/
def ka (x0 : Vec Ideal S18432x23040 .bf16) (b : Fin 8) (i : Fin 2304) (h : Fin 12) (d : Fin 128) : EReal :=
  x0 (ix2 (⟨b.val * 2304 + i.val, by omega⟩ : Fin 18432) (⟨7680 + (h.val * 128 + d.val), by omega⟩ : Fin 23040))
/-- A value's entry. -/
def va (x0 : Vec Ideal S18432x23040 .bf16) (b : Fin 8) (i : Fin 2304) (h : Fin 12) (d : Fin 128) : EReal :=
  x0 (ix2 (⟨b.val * 2304 + i.val, by omega⟩ : Fin 18432) (⟨9216 + (h.val * 128 + d.val), by omega⟩ : Fin 23040))
/-- The score of a query and a key, without a bias. -/
def sc (x0 : Vec Ideal S18432x23040 .bf16) (b : Fin 8) (h : Fin 12) (i k : Fin 2304) : EReal :=
  ∑ d : Fin 128, Ideal.div (qa x0 b i h d) (Ideal.sqrt (Ideal.ofBits .f32 0x43000000#32)) * ka x0 b k h d

/-- The queries divided by the square root of their length. -/
theorem q_at (x0 : Vec Ideal S18432x23040 .bf16) (b : Fin 8) (i : Fin 2304) (h : Fin 12) (d : Fin 128) :
    val_main_v6 (F := Ideal) x0 (ix4 b i h d) = Ideal.div (qa x0 b i h d) (Ideal.sqrt (Ideal.ofBits .f32 0x43000000#32)) := by
  unfold qa
  pointwise [val_main_v0, val_main_v1, val_main_v2, val_main_v3, val_main_v4, val_main_v5, val_main_v6, val_main_cst]
/-- The keys. -/
theorem k_at (x0 : Vec Ideal S18432x23040 .bf16) (b : Fin 8) (i : Fin 2304) (h : Fin 12) (d : Fin 128) :
    val_main_v8 (F := Ideal) x0 (ix4 b i h d) = ka x0 b i h d := by
  unfold ka
  pointwise [val_main_v0, val_main_v1, val_main_v7, val_main_v8]
/-- The values. -/
theorem v_at (x0 : Vec Ideal S18432x23040 .bf16) (b : Fin 8) (i : Fin 2304) (h : Fin 12) (d : Fin 128) :
    val_main_v10 (F := Ideal) x0 (ix4 b i h d) = va x0 b i h d := by
  unfold va
  pointwise [val_main_v0, val_main_v1, val_main_v9, val_main_v10]

/-- A context row as a row of the slab. -/
abbrev cx (k : Fin 256) : Fin 2304 := ⟨k.val, by omega⟩
/-- A latent row as a row of the slab. -/
abbrev lt (k : Fin 2048) : Fin 2304 := ⟨256 + k.val, by omega⟩

/-- The context's scores. -/
theorem cs_at (x0 : Vec Ideal S18432x23040 .bf16) (b : Fin 8) (h : Fin 12) (q k : Fin 256) :
    val_main_v14 (F := Ideal) x0 (ix4 b h q k) = sc x0 b h (cx q) (cx k) := by
  unfold sc
  pointwise [val_main_v14, val_main_v13, val_main_v11]
  simp only [q_at, k_at]

/-- The latents' scores of the context. -/
theorem ls_at (x0 : Vec Ideal S18432x23040 .bf16) (b : Fin 8) (h : Fin 12) (r : Fin 32) (c : Fin 64) (k : Fin 256) :
    val_main_v114 (F := Ideal) x0 (ix5 b h r c k) = sc x0 b h (lt ⟨r.val * 64 + c.val, by omega⟩) (cx k) := by
  unfold sc
  pointwise [val_main_v114, val_main_v108, val_main_v29, val_main_v11]
  simp only [q_at, k_at]

/-- The latents' scores of the latents, before the bias. -/
theorem ll_at (x0 : Vec Ideal S18432x23040 .bf16) (b : Fin 8) (h : Fin 12) (r : Fin 32) (c : Fin 64) (k : Fin 2048) :
    val_main_v109 (F := Ideal) x0 (ix5 b h r c k) = sc x0 b h (lt ⟨r.val * 64 + c.val, by omega⟩) (lt k) := by
  unfold sc
  pointwise [val_main_v109, val_main_v108, val_main_v29, val_main_v30]
  simp only [q_at, k_at]

/-- The bias, read at a position. -/
theorem bias_at (x1 : Vec Ideal S4x12x15x31 .f32) (h : Fin 12) (r : Fin 32) (c : Fin 64) (k : Fin 2048) :
    val_main_v101 (F := Ideal) x1 (ix4 h r c k)
      = x1 (ix4 (0 : Fin 4) h (⟨min (k.val / 64 + 7 - r.val) 14, by omega⟩ : Fin 15) (⟨min (k.val % 64 + 15 - c.val) 30, by omega⟩ : Fin 31)) := by
  have e1 : ∀ r s : Fin 32, val_main_v91 (F := Ideal) (ix3 r s (0 : Fin 1)) = val_main_v90 (F := Ideal) (ix2 r s) := by
    intro r s; pointwise [val_main_v91]
  have e2 : ∀ r s : Fin 64, val_main_v98 (F := Ideal) (ix3 r s (0 : Fin 1)) = val_main_v97 (F := Ideal) (ix2 r s) := by
    intro r s; pointwise [val_main_v98]
  have e3 : ∀ (k : Fin 15) (l : Fin 31), val_main_v33 (F := Ideal) x1 (ix3 h k l) = x1 (ix4 (0 : Fin 4) h k l) := by
    intro k l; pointwise [val_main_v33, val_main_v32]
  pointwise [val_main_v101, val_main_v100, val_main_v99]
  refine (gather_col _ _ _ _ _ _ _).trans ?_
  refine (gather_row _ _ _ _ _ _).trans ?_
  refine (e3 _ _).trans ?_
  refine congrArg x1 ?_
  refine congrArg₂ (ix4 (0 : Fin 4) h) (Fin.ext ?_) (Fin.ext ?_)
  · exact (congrArg (fun z : BitVec 32 => min z.toInt.toNat 14) (e1 _ _)).trans (rowoff _ _)
  · exact (congrArg (fun z : BitVec 32 => min z.toInt.toNat 30) (e2 _ _)).trans (coloff _ _)

/-- The conjunction of two table entries. -/
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq] <;> rfl

/-- The mask, read at a position. -/
theorem valid_at (r : Fin 32) (c : Fin 64) (k : Fin 2048) :
    val_main_v107 (F := Ideal) (ix3 r c k) = if (min (r.val - 4) 24 ≤ k.val / 64 ∧ k.val / 64 < min (r.val - 4) 24 + 8)
      ∧ (min (c.val - 8) 48 ≤ k.val % 64 ∧ k.val % 64 < min (c.val - 8) 48 + 16) then 1#1 else 0#1 := by
  pointwise [val_main_v107, val_main_v106, val_main_v105, val_main_v104, val_main_v103, val_main_v102]
  exact (congrArg₂ IntOp.andi (rowok _ _) (colok _ _)).trans (andi_ite _ _)

end Cert.Proof.NaRef
end
-- ==== Proof.NaRefB.lean ====
/- The attention's reference: its two softmaxes, and its whole result at a position. -/
module
public import proofs.«01_k».proof.Proof.NaRef

@[expose] public section

set_option maxRecDepth 16384

noncomputable section

namespace Cert.Proof.NaRef
open Cert.NaRefIdeal Idealize.ShloMosaic Idealize.ShloMosaic.TcCoe Idealize.SL.Sem
open Idealize.ShloMosaic.Pointwise NaRefIdeal.Read NaMath

/-- The reference's least number is the least value. -/
theorem least : Ideal.ofBits .f32 0xFF800000#32 = (⊥ : EReal) := by simp [Ideal.ofBits, Ideal.ieee]
/-- A maximum guarded by the least number is the maximum. -/
theorem guard {n : ℕ} (u : Fin n → EReal) :
    max (Ideal.ofBits .f32 0xFF800000#32) (Finset.fold max (Ideal.ofBits .f32 0xFF800000#32) u Finset.univ) = top u := by
  rw [least]; exact max_eq_right bot_le

/-- The maximum of two arrays at a position. -/
theorem max_at {s : Shape} (x y : FVec Ideal s .f32) (i : s.Idx) : maximumf x y i = max (x i) (y i) := rfl

/-- The context's scores of one query. -/
def cu (x0 : Vec Ideal S18432x23040 .bf16) (b : Fin 8) (h : Fin 12) (i : Fin 256) : Fin 256 → EReal := fun k => sc x0 b h (cx i) (cx k)

/-- The fold of the context's scores. -/
theorem cfold_at (x0 : Vec Ideal S18432x23040 .bf16) (b : Fin 8) (h : Fin 12) (i : Fin 256) :
    val_main_v15 (F := Ideal) x0 (ix3 b h i) = Finset.fold max (Ideal.ofBits .f32 0xFF800000#32) (fun k => val_main_v14 (F := Ideal) x0 (ix4 b h i k)) Finset.univ := by
  pointwise [val_main_v15, val_main_cst_0]
/-- The least number, at every query of the context. -/
theorem cleast_at (b : Fin 8) (h : Fin 12) (i : Fin 256) : val_main_v16 (F := Ideal) (ix3 b h i) = Ideal.ofBits .f32 0xFF800000#32 := by
  pointwise [val_main_v16, val_main_cst_1]
/-- The context's greatest score. -/
theorem cmax_at (x0 : Vec Ideal S18432x23040 .bf16) (b : Fin 8) (h : Fin 12) (i : Fin 256) :
    val_main_v17 (F := Ideal) x0 (ix3 b h i) = top (cu x0 b h i) := by
  refine (max_at (val_main_v16 (F := Ideal)) (val_main_v15 (F := Ideal) x0) _).trans ?_
  rw [cleast_at, cfold_at]
  simp only [cs_at]
  exact guard (cu x0 b h i)
/-- The context's exponentials. -/
theorem cexp_at (x0 : Vec Ideal S18432x23040 .bf16) (b : Fin 8) (h : Fin 12) (i k : Fin 256) :
    val_main_v21 (F := Ideal) x0 (ix4 b h i k) = Ideal.exp (cu x0 b h i k - top (cu x0 b h i)) := by
  pointwise [val_main_v21, val_main_v20, val_main_v19, val_main_v18]
  simp only [cs_at, cmax_at]
  rfl
/-- The context's weights. -/
theorem cprob_at (x0 : Vec Ideal S18432x23040 .bf16) (b : Fin 8) (h : Fin 12) (i k : Fin 256) :
    val_main_v25 (F := Ideal) x0 (ix4 b h i k)
      = Ideal.div (Ideal.exp (cu x0 b h i k - top (cu x0 b h i))) (∑ j, Ideal.exp (cu x0 b h i j - top (cu x0 b h i))) := by
  pointwise [val_main_v25, val_main_v24, val_main_v23, val_main_v22, val_main_cst_2]
  simp only [cexp_at]
/-- The context's attention. -/
theorem ctx_at (x0 : Vec Ideal S18432x23040 .bf16) (b : Fin 8) (i : Fin 256) (h : Fin 12) (d : Fin 128) :
    val_main_v27 (F := Ideal) x0 (ix4 b i h d) = ctxR (cu x0 b h i) (fun k => va x0 b (cx k) h d) := by
  unfold ctxR
  pointwise [val_main_v27, val_main_v26, val_main_v12]
  simp only [cprob_at, v_at]

/-- Whether a latent lies in another's window. -/
abbrev ok (r : Fin 32) (c : Fin 64) (k : Fin 2048) : Prop := (min (r.val - 4) 24 ≤ k.val / 64 ∧ k.val / 64 < min (r.val - 4) 24 + 8)
      ∧ (min (c.val - 8) 48 ≤ k.val % 64 ∧ k.val % 64 < min (c.val - 8) 48 + 16)
/-- The latent of a grid row and column, as a row of the slab. -/
abbrev rc (r : Fin 32) (c : Fin 64) : Fin 2304 := lt ⟨r.val * 64 + c.val, by omega⟩
/-- A latent's score of another: its bias added in the window, the least value outside. -/
def loc (x0 : Vec Ideal S18432x23040 .bf16) (x1 : Vec Ideal S4x12x15x31 .f32) (b : Fin 8) (h : Fin 12) (r : Fin 32) (c : Fin 64) (k : Fin 2048) : EReal :=
  if ok r c k then sc x0 b h (rc r c) (lt k)
    + x1 (ix4 (0 : Fin 4) h (⟨min (k.val / 64 + 7 - r.val) 14, by omega⟩ : Fin 15) (⟨min (k.val % 64 + 15 - c.val) 30, by omega⟩ : Fin 31)) else ⊥
/-- A latent's scores: of the latents, then of the context. -/
def lu (x0 : Vec Ideal S18432x23040 .bf16) (x1 : Vec Ideal S4x12x15x31 .f32) (b : Fin 8) (h : Fin 12) (r : Fin 32) (c : Fin 64) : Fin (2048 + 256) → EReal :=
  fun j => if hj : j.val < 2048 then loc x0 x1 b h r c ⟨j.val, hj⟩ else sc x0 b h (rc r c) (cx ⟨j.val - 2048, by omega⟩)

/-- Selecting by a decided bit. -/
theorem sel_ite (p : Prop) [Decidable p] (x y : EReal) (hy : y = ⊥) :
    Scalar.select (if p then 1#1 else 0#1 : BitVec 1) x y = if p then x else ⊥ := by
  subst hy
  by_cases hp : p <;> simp [hp, Scalar.select]

/-- The latents' scores of the latents. -/
theorem loc_at (x0 : Vec Ideal S18432x23040 .bf16) (x1 : Vec Ideal S4x12x15x31 .f32) (b : Fin 8) (h : Fin 12) (r : Fin 32) (c : Fin 64) (k : Fin 2048) :
    val_main_v113 (F := Ideal) x0 x1 (ix5 b h r c k) = loc x0 x1 b h r c k := by
  unfold loc
  pointwise [val_main_v113, val_main_call4_v1, val_main_call4_v0, val_main_call4_v2, val_main_v112, val_main_v111, val_main_v110, val_main_cst_22]
  simp only [ll_at, bias_at, valid_at]
  exact sel_ite _ _ _ least

/-- The latents' scores, the two kinds one after the other. -/
theorem lu_at (x0 : Vec Ideal S18432x23040 .bf16) (x1 : Vec Ideal S4x12x15x31 .f32) (b : Fin 8) (h : Fin 12) (r : Fin 32) (c : Fin 64) (k : Fin 2304) :
    val_main_v115 (F := Ideal) x0 x1 (ix5 b h r c k) = lu x0 x1 b h r c k := by
  unfold lu
  pointwise [val_main_v115]
  simp only [loc_at, ls_at]
/-- The fold of a latent's scores. -/
theorem lfold_at (x0 : Vec Ideal S18432x23040 .bf16) (x1 : Vec Ideal S4x12x15x31 .f32) (b : Fin 8) (h : Fin 12) (r : Fin 32) (c : Fin 64) :
    val_main_v116 (F := Ideal) x0 x1 (ix4 b h r c) = Finset.fold max (Ideal.ofBits .f32 0xFF800000#32) (fun k => val_main_v115 (F := Ideal) x0 x1 (ix5 b h r c k)) Finset.univ := by
  pointwise [val_main_v116, val_main_cst_23]
/-- The least number, at every latent. -/
theorem lleast_at (b : Fin 8) (h : Fin 12) (r : Fin 32) (c : Fin 64) : val_main_v117 (F := Ideal) (ix4 b h r c) = Ideal.ofBits .f32 0xFF800000#32 := by
  pointwise [val_main_v117, val_main_cst_24]
/-- A latent's greatest score. -/
theorem lmax_at (x0 : Vec Ideal S18432x23040 .bf16) (x1 : Vec Ideal S4x12x15x31 .f32) (b : Fin 8) (h : Fin 12) (r : Fin 32) (c : Fin 64) :
    val_main_v118 (F := Ideal) x0 x1 (ix4 b h r c) = top (lu x0 x1 b h r c) := by
  refine (max_at (val_main_v117 (F := Ideal)) (val_main_v116 (F := Ideal) x0 x1) _).trans ?_
  rw [lleast_at, lfold_at]
  simp only [lu_at]
  exact guard (lu x0 x1 b h r c)
/-- The latents' exponentials. -/
theorem lexp_at (x0 : Vec Ideal S18432x23040 .bf16) (x1 : Vec Ideal S4x12x15x31 .f32) (b : Fin 8) (h : Fin 12) (r : Fin 32) (c : Fin 64) (k : Fin 2304) :
    val_main_v122 (F := Ideal) x0 x1 (ix5 b h r c k) = Ideal.exp (lu x0 x1 b h r c k - top (lu x0 x1 b h r c)) := by
  pointwise [val_main_v122, val_main_v121, val_main_v120, val_main_v119]
  simp only [lu_at, lmax_at]
/-- The latents' weights. -/
theorem lprob_at (x0 : Vec Ideal S18432x23040 .bf16) (x1 : Vec Ideal S4x12x15x31 .f32) (b : Fin 8) (h : Fin 12) (r : Fin 32) (c : Fin 64) (k : Fin 2304) :
    val_main_v126 (F := Ideal) x0 x1 (ix5 b h r c k)
      = Ideal.div (Ideal.exp (lu x0 x1 b h r c k - top (lu x0 x1 b h r c))) (∑ j : Fin (2048 + 256), Ideal.exp (lu x0 x1 b h r c j - top (lu x0 x1 b h r c))) := by
  pointwise [val_main_v126, val_main_v125, val_main_v124, val_main_v123, val_main_cst_25]
  simp only [lexp_at]
/-- The latents' attention. -/
theorem lat_at (x0 : Vec Ideal S18432x23040 .bf16) (x1 : Vec Ideal S4x12x15x31 .f32) (b : Fin 8) (r : Fin 32) (c : Fin 64) (h : Fin 12) (d : Fin 128) :
    val_main_v133 (F := Ideal) x0 x1 (ix5 b r c h d)
      = attR (lu x0 x1 b h r c) (fun k : Fin 2048 => va x0 b (lt k) h d) (fun k : Fin 256 => va x0 b (cx k) h d) := by
  unfold attR
  pointwise [val_main_v133, val_main_v132, val_main_v131, val_main_v130, val_main_v129, val_main_v128, val_main_v127, val_main_v31, val_main_v12]
  simp only [lprob_at, v_at]
  rfl

/-- The result at a context row. -/
theorem res_ctx (x0 : Vec Ideal S18432x23040 .bf16) (x1 : Vec Ideal S4x12x15x31 .f32) (b : Fin 8) (i : Fin 256) (h : Fin 12) (d : Fin 128) :
    val_main_v137 (F := Ideal) x0 x1 (ix2 (⟨b.val * 2304 + i.val, by omega⟩ : Fin 18432) (⟨h.val * 128 + d.val, by omega⟩ : Fin 1536))
      = ctxR (cu x0 b h i) (fun k => va x0 b (cx k) h d) := by
  refine Eq.trans ?_ (ctx_at x0 b i h d)
  pointwise [val_main_v137, val_main_v136, val_main_v135, val_main_v28]
  rw [dif_pos (show (b.val * 2304 + i.val) % 2304 < 256 by omega)]
  refine congrArg (fun i => val_main_v27 (F := Ideal) x0 (ix4 b i h d)) (Fin.ext ?_)
  show (b.val * 2304 + i.val) % 2304 = i.val
  omega
/-- The result at a latent row. -/
theorem res_lat (x0 : Vec Ideal S18432x23040 .bf16) (x1 : Vec Ideal S4x12x15x31 .f32) (b : Fin 8) (r : Fin 32) (c : Fin 64) (h : Fin 12) (d : Fin 128) :
    val_main_v137 (F := Ideal) x0 x1 (ix2 (⟨b.val * 2304 + (256 + (r.val * 64 + c.val)), by omega⟩ : Fin 18432) (⟨h.val * 128 + d.val, by omega⟩ : Fin 1536))
      = attR (lu x0 x1 b h r c) (fun k : Fin 2048 => va x0 b (lt k) h d) (fun k : Fin 256 => va x0 b (cx k) h d) := by
  refine Eq.trans ?_ (lat_at x0 x1 b r c h d)
  pointwise [val_main_v137, val_main_v136, val_main_v135, val_main_v134]
  rw [dif_neg (show ¬ (b.val * 2304 + (256 + (r.val * 64 + c.val))) % 2304 < 256 by omega)]
  refine congrArg₂ (fun r c => val_main_v133 (F := Ideal) x0 x1 (ix5 b r c h d)) (Fin.ext ?_) (Fin.ext ?_)
  · show ((b.val * 2304 + (256 + (r.val * 64 + c.val))) % 2304 - 256) / 64 = r.val
    omega
  · show ((b.val * 2304 + (256 + (r.val * 64 + c.val))) % 2304 - 256) % 64 = c.val
    omega

end Cert.Proof.NaRef
end
-- ==== Proof.NaMatch.lean ====
/- The attention's block and its reference: the same value at every position, where the scores are real. -/
module
public import proofs.«01_k».proof.Proof.NaRefB
public import proofs.«01_k».proof.Proof.NaBias

@[expose] public section

set_option maxRecDepth 16384

noncomputable section

namespace Cert.Proof.Na
open Idealize.ShloMosaic Idealize.ShloMosaic.TcCoe Idealize.SL.Sem
open Idealize.ShloMosaic.Pointwise NaMath

/-- The reference's divisor is the square root of 128. -/
theorem root : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee]; norm_cast; norm_num
  rw [e, Ideal.sqrt_coe, if_neg (by norm_num)]
/-- Dividing a query by the reference's divisor. -/
theorem div_root (x : EReal) : Ideal.div x (Ideal.sqrt (Ideal.ofBits .f32 0x43000000#32)) = x * ((1 / Real.sqrt 128 : ℝ) : EReal) := by
  rw [root, Ideal.div_coe (by positivity)]
/-- A score of the kernel is the reference's score, scaled to base two. -/
theorem score (x0 : Vec Ideal Cert.NaRefIdeal.S18432x23040 .bf16) (b : Fin 8) (h : Fin 12) (i k : Fin 2304) :
    (∑ d : Fin 128, NaRef.qa x0 b i h d * NaRef.ka x0 b k h d) * sc = NaRef.sc x0 b h i k * (c2 : EReal) := by
  unfold NaRef.sc
  simp only [div_root]
  exact dot_scaled _ _
/-- A real score. -/
theorem score_fin (x0 : Vec Ideal Cert.NaRefIdeal.S18432x23040 .bf16) (b : Fin 8) (h : Fin 12) (i k : Fin 2304)
    (hq : ∀ i d, Fin' (NaRef.qa x0 b i h d)) (hk : ∀ i d, Fin' (NaRef.ka x0 b i h d)) : Fin' (NaRef.sc x0 b h i k) := by
  unfold NaRef.sc
  refine Fin'.sum _ _ fun d => ?_
  rw [div_root]
  exact ((hq i d).mul ⟨_, rfl⟩).mul (hk k d)

/-- The least value, scaled to base two. -/
theorem bot_c2 : (⊥ : EReal) * (c2 : EReal) = ⊥ := EReal.bot_mul_of_pos (by exact_mod_cast c2_pos)

/-- The group of a latent's grid row. -/
theorem gOf_rc (r c : ℕ) (hc : c < 64) : gOf (256 + (r * 64 + c)) = r / 4 := by unfold gOf; omega
/-- The first of the eight rows a query sees, in its group's window. -/
theorem lead_row : ∀ r : Fin 32, min (4 * (r.val / 4) - 4) 21 + lead (if r.val / 4 = 0 then 0 else if r.val / 4 = 7 then 2 else 1) (r.val % 4) = min (r.val - 4) 24 := by
  unfold lead; decide
/-- The row of the table of a window row. -/
theorem first_row : ∀ (r : Fin 32) (n : Fin 11), lead (if r.val / 4 = 0 then 0 else if r.val / 4 = 7 then 2 else 1) (r.val % 4) ≤ n.val →
    n.val < lead (if r.val / 4 = 0 then 0 else if r.val / 4 = 7 then 2 else 1) (r.val % 4) + 8 →
    first (if r.val / 4 = 0 then 0 else if r.val / 4 = 7 then 2 else 1) (r.val % 4) + (n.val - lead (if r.val / 4 = 0 then 0 else if r.val / 4 = 7 then 2 else 1) (r.val % 4))
      = min (4 * (r.val / 4) - 4) 21 + n.val + 7 - r.val
    ∧ min (4 * (r.val / 4) - 4) 21 + n.val + 7 - r.val < 15 := by
  unfold first lead; decide
/-- The rows a query sees lie in its group's window. -/
theorem in_window : ∀ r : Fin 32, min (4 * (r.val / 4) - 4) 21 ≤ min (r.val - 4) 24 ∧ min (r.val - 4) 24 + 8 ≤ min (4 * (r.val / 4) - 4) 21 + 11 := by
  decide

/-- The kernel's bias of a query and a key of its window. -/
theorem bias_eq (x1 : Vec Ideal Cert.NaRefIdeal.S4x12x15x31 .f32) (x3 : Vec Ideal Cert.NaIdeal.S1x1x16x128 .f32) (h : Fin 12)
    (h3 : ∀ (r : Fin 15) (k : Fin 31) (r' : Fin 16) (k' : Fin 128), r'.val = r.val → k'.val = k.val → x3 (ix4 (0 : Fin 1) (0 : Fin 1) r' k') = x1 (ix4 (0 : Fin 4) h r k))
    (r : Fin 32) (c : Fin 64) (i : ℕ) (hi : i = 256 + (r.val * 64 + c.val)) (k : Fin 704) (K : Fin 2048) (hK : K.val = 64 * baseOf i + k.val) :
    BIAS x3 (kindOf i) ((i - 256) % 256) k.val
      = if NaRef.ok r c K then x1 (ix4 (0 : Fin 4) h (⟨min (K.val / 64 + 7 - r.val) 14, by omega⟩ : Fin 15) (⟨min (K.val % 64 + 15 - c.val) 30, by omega⟩ : Fin 31)) * (c2 : EReal) else ⊥ := by
  have hg : gOf i = r.val / 4 := by rw [hi]; exact gOf_rc _ _ c.isLt
  have hb : baseOf i = min (4 * (r.val / 4) - 4) 21 := by unfold baseOf; rw [hg]
  have hkd : kindOf i = if r.val / 4 = 0 then 0 else if r.val / 4 = 7 then 2 else 1 := by unfold kindOf; rw [hg]
  have hq : (i - 256) % 256 / 64 = r.val % 4 := by omega
  have hc : (i - 256) % 256 % 64 = c.val := by omega
  have hK1 : K.val / 64 = baseOf i + k.val / 64 := by omega
  have hK2 : K.val % 64 = k.val % 64 := by omega
  have hl := lead_row r
  have hn : k.val / 64 < 11 := by omega
  have hf := first_row r ⟨k.val / 64, hn⟩
  unfold BIAS ROW
  rw [hkd, hq, hc]
  rw [hb] at hK1
  dsimp only at hf
  generalize lead (if r.val / 4 = 0 then 0 else if r.val / 4 = 7 then 2 else 1) (r.val % 4) = l at hl hf ⊢
  generalize first (if r.val / 4 = 0 then 0 else if r.val / 4 = 7 then 2 else 1) (r.val % 4) = f at hf ⊢
  unfold BL
  by_cases h1 : l ≤ k.val / 64 ∧ k.val / 64 < l + 8
  · rw [if_pos h1]
    obtain ⟨f1, f2⟩ := hf h1.1 h1.2
    by_cases h2 : colOk c.val (k.val % 64)
    · have h2' := h2
      unfold colOk at h2'
      rw [if_pos h2, if_pos (by unfold NaRef.ok; omega)]
      refine congrArg (· * (c2 : EReal)) (h3 _ _ _ _ ?_ ?_)
      · show (f + (k.val / 64 - l)) % 16 = min (K.val / 64 + 7 - r.val) 14
        omega
      · show (k.val % 64 + 15 - c.val) % 128 = min (K.val % 64 + 15 - c.val) 30
        have := c.isLt
        omega
    · have h2' := h2
      unfold colOk at h2'
      rw [if_neg h2, if_neg (by unfold NaRef.ok; omega)]
  · rw [if_neg h1, if_neg (by unfold NaRef.ok; omega)]

variable (x0 : Vec Ideal Cert.NaRefIdeal.S18432x23040 .bf16) (x1 : Vec Ideal Cert.NaRefIdeal.S4x12x15x31 .f32) (b : Fin 8) (h : Fin 12)
  (X0 X1 X2 : Vec Ideal Cert.NaIdeal.S2304x128 .bf16) (x3 : Vec Ideal Cert.NaIdeal.S1x1x16x128 .f32)

/-- The blocks at a context row: the reference's value. -/
theorem match_ctx (hX0 : ∀ i d, X0 (ix2 i d) = NaRef.qa x0 b i h d) (hX1 : ∀ i d, X1 (ix2 i d) = NaRef.ka x0 b i h d)
    (hX2 : ∀ i d, X2 (ix2 i d) = NaRef.va x0 b i h d)
    (hq : ∀ i d, Fin' (NaRef.qa x0 b i h d)) (hk : ∀ i d, Fin' (NaRef.ka x0 b i h d))
    (B : Fin 3 → Fin 256 → Fin 704 → EReal) (i : Fin 2304) (d : Fin 128) (i' : Fin 256) (hi : i = NaRef.cx i') :
    OUT X0 X1 X2 B i d = ctxR (NaRef.cu x0 b h i') (fun k => NaRef.va x0 b (NaRef.cx k) h d) := by
  subst hi
  rw [OUT, if_pos i'.isLt]
  simp only [hX0, hX1, hX2]
  exact ctx_eq (by decide) _ _ _ (fun k => score x0 b h _ _) (fun k => score_fin x0 b h _ _ hq hk)

/-- The blocks at a latent row: the reference's value. -/
theorem match_lat (hX0 : ∀ i d, X0 (ix2 i d) = NaRef.qa x0 b i h d) (hX1 : ∀ i d, X1 (ix2 i d) = NaRef.ka x0 b i h d)
    (hX2 : ∀ i d, X2 (ix2 i d) = NaRef.va x0 b i h d)
    (h3 : ∀ (r : Fin 15) (k : Fin 31) (r' : Fin 16) (k' : Fin 128), r'.val = r.val → k'.val = k.val → x3 (ix4 (0 : Fin 1) (0 : Fin 1) r' k') = x1 (ix4 (0 : Fin 4) h r k))
    (hq : ∀ i d, Fin' (NaRef.qa x0 b i h d)) (hk : ∀ i d, Fin' (NaRef.ka x0 b i h d)) (hr : ∀ r k, Fin' (x1 (ix4 (0 : Fin 4) h r k)))
    (i : Fin 2304) (d : Fin 128) (r : Fin 32) (c : Fin 64) (hi : i = NaRef.rc r c) :
    OUT X0 X1 X2 (fun kd r k => BIAS x3 kd.val r.val k.val) i d
      = attR (NaRef.lu x0 x1 b h r c) (fun k : Fin 2048 => NaRef.va x0 b (NaRef.lt k) h d) (fun k : Fin 256 => NaRef.va x0 b (NaRef.cx k) h d) := by
  have hv : i.val = 256 + (r.val * 64 + c.val) := congrArg Fin.val hi
  have hg : gOf i.val = r.val / 4 := by rw [hv]; exact gOf_rc _ _ c.isLt
  have hb : baseOf i.val = min (4 * (r.val / 4) - 4) 21 := by unfold baseOf; rw [hg]
  have hw := in_window r
  rw [OUT, if_neg (by omega)]
  simp only [hX0, hX1, hX2]
  have hl : ∀ j : Fin 2048, NaRef.lu x0 x1 b h r c (Fin.castAdd 256 j) = NaRef.loc x0 x1 b h r c j := fun j => dif_pos j.isLt
  have hcx : ∀ k : Fin 256, NaRef.lu x0 x1 b h r c (Fin.natAdd 2048 k) = NaRef.sc x0 b h i (NaRef.cx k) := fun k => by
    rw [hi]
    refine (dif_neg (show ¬ 2048 + k.val < 2048 by omega)).trans ?_
    exact congrArg (NaRef.sc x0 b h (NaRef.rc r c)) (Fin.ext (Nat.add_sub_cancel_left 2048 k.val))
  refine att_eq (64 * baseOf i.val) (by omega) (by decide) (NaRef.lu x0 x1 b h r c) _ _ (fun k : Fin 2048 => NaRef.va x0 b (NaRef.lt k) h d) _ ?_ ?_ ?_ ?_ ?_
  · intro k
    rw [hl, score]
    rw [bias_eq x1 x3 h h3 r c i.val hv k ⟨64 * baseOf i.val + k.val, by have := k.isLt; omega⟩ rfl]
    unfold NaRef.loc
    rw [← hi]
    split_ifs with ho
    · exact (add_mul _ c2_pos.le).symm
    · rw [bot_c2, EReal.add_bot]
  · intro k
    rw [hcx, score]
  · intro j
    refine Fin.addCases (fun j => ?_) (fun k => ?_) j
    · rw [hl]
      unfold NaRef.loc
      split_ifs with ho
      · obtain ⟨y, hy⟩ := (score_fin x0 b h (NaRef.rc r c) (NaRef.lt j) hq hk).add (hr ⟨min (j.val / 64 + 7 - r.val) 14, by omega⟩ ⟨min (j.val % 64 + 15 - c.val) 30, by omega⟩)
        rw [hy]; exact EReal.coe_ne_top y
      · exact bot_ne_top
    · rw [hcx]
      obtain ⟨y, hy⟩ := score_fin x0 b h i (NaRef.cx k) hq hk
      rw [hy]; exact EReal.coe_ne_top y
  · intro k
    rw [hcx]
    obtain ⟨y, hy⟩ := score_fin x0 b h i (NaRef.cx k) hq hk
    rw [hy]; exact EReal.coe_ne_bot y
  · intro j hj
    rw [hl]
    unfold NaRef.loc
    refine if_neg ?_
    unfold NaRef.ok
    omega

end Cert.Proof.Na
end
-- ==== Proof.Na.lean ====
/- The attention: launched on the same arguments, the kernel and the reference agree where the queries, keys, values and
   biases they read are real. -/
module
public import proofs.«01_k».proof.Proof.NaBlk
public import proofs.«01_k».proof.Proof.NaMatch
public import Idealize.ShloMosaic.Lib.Affine
public import Idealize.ShloMosaic.Lib.ReduceAll

@[expose] public section

set_option maxRecDepth 16384

noncomputable section

namespace Cert.Proof.Na
open Cert.NaIdeal Cert.NaIdeal.Gen Idealize.ShloMosaic Idealize.ShloMosaic.TcCoe Idealize.SL.Sem
open Idealize.ShloMosaic.Pointwise NaMath

/-- The side conditions of the precondition's operations. -/
instance preFacts : Cert.Pre_finite_scores.Facts :=
  { slices_S18432x23040_S18432x3072_0_6144 := by decide
    bcast_S_S18432x3072 := by decide
    reducesTo_S18432x3072_S_d0_1 := by decide
    h_S_ := by decide
    slices_S4x12x15x31_S1x12x15x31_0_0_0_0 := by decide
    shapeCasts_S1x12x15x31_S12x15x31 := by decide
    bcast_S_S12x15x31 := by decide
    reducesTo_S12x15x31_S_d0_1_2 := by decide }

/-- A number whose size is below infinity is real. -/
theorem fin_of_olt (x w : EReal) (hw : w = (⊤ : EReal)) (h : Ideal.cmp .olt (max x (-x)) w = 1#1) : Fin' x := by
  subst hw
  induction x using EReal.rec with
  | bot => exact absurd h (by simp [Ideal.cmp])
  | coe r => exact ⟨r, rfl⟩
  | top => exact absurd h (by simp [Ideal.cmp])

/-- The precondition, at every entry it is about. -/
theorem pre_fin [hP : Cert.Pre_finite_scores.Facts] (p : FVec Ideal Cert.Pre_finite_scores.S18432x23040 .bf16) (rpb : FVec Ideal Cert.Pre_finite_scores.S4x12x15x31 .f32)
    (h : Cert.Pre_finite_scores.fn (F := Ideal) p rpb = fun _ => 1#1) :
    (∀ (n : Fin 18432) (k : Fin 23040), 6144 ≤ k.val → k.val < 9216 → Fin' (p (ix2 n k)))
      ∧ ∀ (a : Fin 12) (r : Fin 15) (k : Fin 31), Fin' (rpb (ix4 (0 : Fin 4) a r k)) := by
  have e := congrFun h ix0
  dsimp only [Cert.Pre_finite_scores.fn] at e
  obtain ⟨e1, e2⟩ := IntOp.andi_eq_one.1 e
  constructor
  · intro n k h1 h2
    have q := Host.reduce_andi_all _ _ _ _ _ e1 (ix2 n (⟨k.val - 6144, by omega⟩ : Fin 3072))
    refine fin_of_olt _ (Ideal.ofBits .bf16 0x7F80#16) (by simp [Ideal.ofBits, Ideal.ieee]) ?_
    refine Eq.trans ?_ q
    symm
    pointwise
    rw [show (⟨6144 + (k.val - 6144), by omega⟩ : Fin 23040) = k from Fin.ext (by show 6144 + (k.val - 6144) = k.val; omega)]
    rfl
  · intro a r k
    have q := Host.reduce_andi_all _ _ _ _ _ e2 (ix3 a r k)
    refine fin_of_olt _ (Ideal.ofBits .f32 0x7F800000#32) (by simp [Ideal.ofBits, Ideal.ieee]) ?_
    refine Eq.trans ?_ q
    symm
    pointwise
    rfl

/-- A head's column of the projections. -/
theorem col_lt (t : Fin cfg0.N) : t.val / 8 < 12 := by
  have h : t.val < 96 := lt_of_lt_of_eq t.isLt (by decide)
  omega

variable (m : (ℓ : Loc nD τ sig) → Buf (Elt Ideal) ℓ)

/-- A position of a step's block is that position of the result. -/
theorem emb_eq (t : Fin cfg0.N) (y : S2304x128.Idx) (n : Fin 18432) (k : Fin 1536) (hn : n.val = t.val % 8 * 2304 + (y 0).val) (hk : k.val = t.val / 8 * 128 + (y 1).val) :
    (win0_4.blk t).view.emb y = ix2 n k := by
  have e := idx4 t
  funext a
  refine Fin.ext ?_
  match a with
  | ⟨0, _⟩ =>
    show win0_4.index t 0 * 2304 + 1 * (y 0).val = n.val
    rw [e, hn]
    show t.val % 8 * 2304 + 1 * (y 0).val = _
    rw [Nat.one_mul]
  | ⟨1, _⟩ =>
    show win0_4.index t 1 * 128 + 1 * (y 1).val = k.val
    rw [e, hk]
    show t.val / 8 * 128 + 1 * (y 1).val = _
    rw [Nat.one_mul]

/-- The kernel's result is the reference's function of the arguments. -/
theorem final (c : Dev nD) (hp : ∀ (n : Fin 18432) (k : Fin 23040), 6144 ≤ k.val → k.val < 9216 → Fin' (m ((c : Thread nD τ).loc main_arg0) (ix2 n k)))
    (hr : ∀ (a : Fin 12) (r : Fin 15) (k : Fin 31), Fin' (m ((c : Thread nD τ).loc main_arg1) (ix4 (0 : Fin 4) a r k))) :
    (dats m 0 c).arrAt 4 cfg0.N = NaRefIdeal.Read.val_main_v137 (F := Ideal) (m ((c : Thread nD τ).loc main_arg0)) (m ((c : Thread nD τ).loc main_arg1)) := by
  refine (dats m 0 c).arrAt_eq_of_covers 4 _ (by decide +kernel) fun t hf y => ?_
  blk_simp
  rw [after0_4, out_at]
  generalize hb : (⟨t.val % 8, Nat.mod_lt _ (by decide)⟩ : Fin 8) = b
  generalize hh : (⟨t.val / 8, col_lt t⟩ : Fin 12) = h
  have hb' : b.val = t.val % 8 := congrArg Fin.val hb.symm
  have hh' : h.val = t.val / 8 := congrArg Fin.val hh.symm
  have hX0 : ∀ (i : Fin 2304) (d : Fin 128), iblk m c 0 t (ix2 i d) = NaRef.qa (m ((c : Thread nD τ).loc main_arg0)) b i h d :=
    fun i d => iblk0 m c t i d _ _ (by show b.val * 2304 + i.val = _; omega) (by show 6144 + (h.val * 128 + d.val) = _; omega)
  have hX1 : ∀ (i : Fin 2304) (d : Fin 128), iblk m c 1 t (ix2 i d) = NaRef.ka (m ((c : Thread nD τ).loc main_arg0)) b i h d :=
    fun i d => iblk1 m c t i d _ _ (by show b.val * 2304 + i.val = _; omega) (by show 7680 + (h.val * 128 + d.val) = _; omega)
  have hX2 : ∀ (i : Fin 2304) (d : Fin 128), iblk m c 2 t (ix2 i d) = NaRef.va (m ((c : Thread nD τ).loc main_arg0)) b i h d :=
    fun i d => iblk2 m c t i d _ _ (by show b.val * 2304 + i.val = _; omega) (by show 9216 + (h.val * 128 + d.val) = _; omega)
  have hq : ∀ (i : Fin 2304) (d : Fin 128), Fin' (NaRef.qa (m ((c : Thread nD τ).loc main_arg0)) b i h d) :=
    fun i d => hp _ _ (by show 6144 ≤ 6144 + (h.val * 128 + d.val); omega) (by show 6144 + (h.val * 128 + d.val) < 9216; omega)
  have hk : ∀ (i : Fin 2304) (d : Fin 128), Fin' (NaRef.ka (m ((c : Thread nD τ).loc main_arg0)) b i h d) :=
    fun i d => hp _ _ (by show 6144 ≤ 7680 + (h.val * 128 + d.val); omega) (by show 7680 + (h.val * 128 + d.val) < 9216; omega)
  have y0 : (y 0).val < 2304 := (y 0).isLt
  have y1 : (y 1).val < 128 := (y 1).isLt
  by_cases hi : (y 0).val < 256
  · refine (match_ctx (m ((c : Thread nD τ).loc main_arg0)) b h _ _ _ hX0 hX1 hX2 hq hk _ (y 0) (y 1) ⟨(y 0).val, hi⟩ (Fin.ext rfl)).trans ?_
    refine (NaRef.res_ctx (m ((c : Thread nD τ).loc main_arg0)) (m ((c : Thread nD τ).loc main_arg1)) b ⟨(y 0).val, hi⟩ h (y 1)).symm.trans ?_
    exact congrArg (NaRefIdeal.Read.val_main_v137 (F := Ideal) (m ((c : Thread nD τ).loc main_arg0)) (m ((c : Thread nD τ).loc main_arg1)))
      (emb_eq t y _ _ (by show b.val * 2304 + (y 0).val = _; omega) (by show h.val * 128 + (y 1).val = _; omega)).symm
  · have hr' : ((y 0).val - 256) / 64 < 32 := by omega
    have hc' : ((y 0).val - 256) % 64 < 64 := Nat.mod_lt _ (by decide)
    refine (match_lat (m ((c : Thread nD τ).loc main_arg0)) (m ((c : Thread nD τ).loc main_arg1)) b h _ _ _ _ hX0 hX1 hX2 (fun r k r' k' e1 e2 => iblk3 m c t h hh' r k r' k' e1 e2) hq hk (hr h) (y 0) (y 1)
      ⟨_, hr'⟩ ⟨_, hc'⟩ (Fin.ext (by show (y 0).val = 256 + (((y 0).val - 256) / 64 * 64 + ((y 0).val - 256) % 64); omega))).trans ?_
    refine (NaRef.res_lat (m ((c : Thread nD τ).loc main_arg0)) (m ((c : Thread nD τ).loc main_arg1)) b ⟨_, hr'⟩ ⟨_, hc'⟩ h (y 1)).symm.trans ?_
    exact congrArg (NaRefIdeal.Read.val_main_v137 (F := Ideal) (m ((c : Thread nD τ).loc main_arg0)) (m ((c : Thread nD τ).loc main_arg1)))
      (emb_eq t y _ _ (by show b.val * 2304 + (256 + (((y 0).val - 256) / 64 * 64 + ((y 0).val - 256) % 64)) = _; omega) (by show h.val * 128 + (y 1).val = _; omega)).symm

/-- Launched on the same arguments, the kernel and the reference both end with the reference's function of them. -/
theorem alg [hP : Cert.Pre_finite_scores.Facts] : Cert.algebraic_NaIdeal_NaRefIdeal_pre_finite_scores := by
  intro m g m' g' hpre hagree
  refine ⟨fun c => NaRefIdeal.Read.val_main_v137 (F := Ideal) (m ((c : Thread nD τ).loc main_arg0)) (m ((c : Thread nD τ).loc main_arg1)), ?_, ?_⟩
  · exact (θ_run defs _ _).mono (fun r h c => ⟨(h c).1.trans (final m c (pre_fin _ _ (hpre c)).1 (pre_fin _ _ (hpre c)).2), (h c).2⟩) (Value.run_blocks m g)
  · refine (θ_run _ _ _).mono (fun r h c => ⟨(h c).1.trans ?_, (h c).2⟩) (NaRefIdeal.Value.run m' g')
    refine (NaRefIdeal.Read.val_main_v137_eq (F := Ideal) _).trans ?_
    exact congrArg₂ (NaRefIdeal.Read.val_main_v137 (F := Ideal)) (hagree c).1 (hagree c).2

end Cert.Proof.Na
end
-- ==== Proof.Conv.lean ====
/- The convolution branch. -/
module

public import proofs.«01_k».proof.Defs
public import proofs.«01_k».proof.Proof.Gen.ConvIdeal.Value
public import proofs.«01_k».proof.Proof.Gen.ConvRefIdeal.Read
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

namespace Cert.Proof.Conv

open Cert.ConvIdeal Cert.ConvIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val / 4, t.val % 4] := (by decide +kernel : ∀ t : Fin grid0.N, _)
/-- The block that window 1 holds at grid step `t`. -/
theorem idx1 : ∀ t : Fin cfg0.N, win0_1.index t = ![t.val / 4, 4 + t.val % 4] := (by decide +kernel : ∀ t : Fin grid0.N, _)
/-- The block that window 2 holds at grid step `t`. -/
theorem idx2 : ∀ t : Fin cfg0.N, win0_2.index t = ![t.val / 4, 8 + t.val % 4] := (by decide +kernel : ∀ t : Fin grid0.N, _)
/-- The block that window 3 holds at grid step `t`. -/
theorem idx3 : ∀ t : Fin cfg0.N, win0_3.index t = ![0, t.val % 4] := (by decide +kernel : ∀ t : Fin grid0.N, _)
/-- The block that window 4 holds at grid step `t`. -/
theorem idx4 : ∀ t : Fin cfg0.N, win0_4.index t = ![t.val / 4, t.val % 4] := (by decide +kernel : ∀ t : Fin grid0.N, _)

/-- A read of window 0's block is a read of the projected array at column offset 0. -/
theorem rd0 (c : Dev nD) (t : Fin cfg0.N) (y : S2304x256.Idx) (k : S18432x23040.Idx)
    (h0 : (k 0).val = 2304 * (t.val / 4) + (y 0).val) (h1 : (k 1).val = 0 + (256 * (t.val % 4) + (y 1).val)) :
    iblk m c 0 t y = m ((c : Thread nD τ).loc main_arg0) k := by
  blk_simp [iblk]
  have e := idx0 t
  refine congrArg (m ((c : Thread nD τ).loc main_arg0)) (funext fun a => Fin.ext ?_)
  match a with
  | ⟨0, _⟩ => show win0_0.index t 0 * 2304 + 1 * (y 0).val = (k 0).val; rw [e, h0]; show (t.val / 4) * 2304 + 1 * (y 0).val = _; omega
  | ⟨1, _⟩ => show win0_0.index t 1 * 256 + 1 * (y 1).val = (k 1).val; rw [e, h1]; show (t.val % 4) * 256 + 1 * (y 1).val = _; omega

/-- A read of window 1's block is a read of the projected array at column offset 1024. -/
theorem rd1 (c : Dev nD) (t : Fin cfg0.N) (y : S2304x256.Idx) (k : S18432x23040.Idx)
    (h0 : (k 0).val = 2304 * (t.val / 4) + (y 0).val) (h1 : (k 1).val = 1024 + (256 * (t.val % 4) + (y 1).val)) :
    iblk m c 1 t y = m ((c : Thread nD τ).loc main_arg0) k := by
  blk_simp [iblk]
  have e := idx1 t
  refine congrArg (m ((c : Thread nD τ).loc main_arg0)) (funext fun a => Fin.ext ?_)
  match a with
  | ⟨0, _⟩ => show win0_1.index t 0 * 2304 + 1 * (y 0).val = (k 0).val; rw [e, h0]; show (t.val / 4) * 2304 + 1 * (y 0).val = _; omega
  | ⟨1, _⟩ => show win0_1.index t 1 * 256 + 1 * (y 1).val = (k 1).val; rw [e, h1]; show (4 + t.val % 4) * 256 + 1 * (y 1).val = _; omega

/-- A read of window 2's block is a read of the projected array at column offset 2048. -/
theorem rd2 (c : Dev nD) (t : Fin cfg0.N) (y : S2304x256.Idx) (k : S18432x23040.Idx)
    (h0 : (k 0).val = 2304 * (t.val / 4) + (y 0).val) (h1 : (k 1).val = 2048 + (256 * (t.val % 4) + (y 1).val)) :
    iblk m c 2 t y = m ((c : Thread nD τ).loc main_arg0) k := by
  blk_simp [iblk]
  have e := idx2 t
  refine congrArg (m ((c : Thread nD τ).loc main_arg0)) (funext fun a => Fin.ext ?_)
  match a with
  | ⟨0, _⟩ => show win0_2.index t 0 * 2304 + 1 * (y 0).val = (k 0).val; rw [e, h0]; show (t.val / 4) * 2304 + 1 * (y 0).val = _; omega
  | ⟨1, _⟩ => show win0_2.index t 1 * 256 + 1 * (y 1).val = (k 1).val; rw [e, h1]; show (8 + t.val % 4) * 256 + 1 * (y 1).val = _; omega

/-- A read of the filter's block is a read of the filter. -/
theorem rd3 (c : Dev nD) (t : Fin cfg0.N) (k : Fin 3) (y : Fin 256) (n : Fin 1024) (h1 : n.val = 256 * (t.val % 4) + y.val) :
    iblk m c 3 t (ix2 k y) = m ((c : Thread nD τ).loc main_arg1) (ix3 (0 : Fin 4) k n) := by
  blk_simp [iblk]
  entry_read
  pointwise
  have e := idx3 t
  refine congrArg (m ((c : Thread nD τ).loc main_arg1)) (funext fun a => Fin.ext ?_)
  match a with
  | ⟨0, _⟩ => rfl
  | ⟨1, _⟩ => show win0_3.index t 0 * 3 + 1 * k.val = k.val; rw [e]; show 0 * 3 + 1 * k.val = k.val; omega
  | ⟨2, _⟩ => show win0_3.index t 1 * 256 + 1 * y.val = n.val; rw [e, h1]; show (t.val % 4) * 256 + 1 * y.val = _; omega

/-- A choice on two word tests of a row is the choice on the row itself. -/
theorem pick (p a b : ℕ) (hp : p < 2304) (ha : a < 2304) (hb : b < 2304) (x y : EReal) :
    Scalar.select (IntOp.ori (IntOp.cmpi .eq (BitVec.ofNat 32 p) (BitVec.ofNat 32 a))
      (IntOp.cmpi .eq (BitVec.ofNat 32 p) (BitVec.ofNat 32 b))) x y = if p = a ∨ p = b then x else y := by
  have e : ∀ n : ℕ, n < 2304 → IntOp.cmpi .eq (BitVec.ofNat 32 p) (BitVec.ofNat 32 n) = BitVec.ofBool (decide (p = n)) := by
    intro n hn
    rw [WordCmp.cmpi_eq_ofNat (by omega) (by omega)]
  rw [e a ha, e b hb]
  have f : ∀ u v : Bool, Scalar.select (IntOp.ori (BitVec.ofBool u) (BitVec.ofBool v)) x y = if u = true ∨ v = true then x else y := by
    intro u v
    cases u <;> cases v <;> simp [Scalar.select, IntOp.ori]
  rw [f]
  simp only [decide_eq_true_eq]

/-- The row of the whole array that row `y` of a block is. -/
theorem row_eq (t : Fin cfg0.N) (y : ((cfg0.win 4).xblock (cfg0.grid.coords t)).Idx) :
    ((((View.whole main_v2).slice (win0_4.rect t)).emb y) 0).val = 2304 * (t.val / 4) + (y 0).val := by
  show win0_4.index t 0 * 2304 + 1 * (y 0).val = _
  rw [idx4]
  show t.val / 4 * 2304 + 1 * (y 0).val = _
  rw [Nat.mul_comm, Nat.one_mul]

/-- The column of the whole array that column `y` of a block is. -/
theorem col_eq (t : Fin cfg0.N) (y : ((cfg0.win 4).xblock (cfg0.grid.coords t)).Idx) :
    ((((View.whole main_v2).slice (win0_4.rect t)).emb y) 1).val = 256 * (t.val % 4) + (y 1).val := by
  show win0_4.index t 1 * 256 + 1 * (y 1).val = _
  rw [idx4]
  show t.val % 4 * 256 + 1 * (y 1).val = _
  rw [Nat.mul_comm, Nat.one_mul]

/-- A block has 2304 rows. -/
theorem row_lt (t : Fin cfg0.N) (y : ((cfg0.win 4).xblock (cfg0.grid.coords t)).Idx) : (y 0).val < 2304 := (y 0).isLt

/-- The row within the slab. -/
theorem row_mod (t : Fin cfg0.N) (y : ((cfg0.win 4).xblock (cfg0.grid.coords t)).Idx) :
    ((((View.whole main_v2).slice (win0_4.rect t)).emb y) 0).val % 2304 = (y 0).val := by
  rw [row_eq, Nat.mul_add_mod, Nat.mod_eq_of_lt (row_lt t y)]

/-- The slab. -/
theorem row_div (t : Fin cfg0.N) (y : ((cfg0.win 4).xblock (cfg0.grid.coords t)).Idx) :
    ((((View.whole main_v2).slice (win0_4.rect t)).emb y) 0).val / 2304 = t.val / 4 := by
  rw [row_eq, Nat.mul_add_div (by decide), Nat.div_eq_of_lt (row_lt t y), Nat.add_zero]

/-- The row before, in its slab. -/
theorem before_lo {e T p : ℕ} (hd : e / 2304 = T) (hm : e % 2304 = p) (hp : p < 2304) (h : ¬e % 2304 < 1) :
    e / 2304 * 2304 + (e % 2304 - 1) = 2304 * T + (p + 2304 - 1) % 2304 := by omega

/-- The row after, in its slab. -/
theorem after_lo {e T p : ℕ} (hd : e / 2304 = T) (hm : e % 2304 = p) (h : e % 2304 < 255) :
    e / 2304 * 2304 + (1 + e % 2304) = 2304 * T + (p + 2304 - 2303) % 2304 := by omega

/-- A latent row itself. -/
theorem at_hi {e T p : ℕ} (hd : e / 2304 = T) (hm : e % 2304 = p) (h : ¬p < 256) :
    e / 2304 * 2304 + (256 + (e % 2304 - 256)) = 2304 * T + p := by omega

/-- The latent row before, in its slab. -/
theorem before_hi {e T p : ℕ} (hd : e / 2304 = T) (hm : e % 2304 = p) (hp : p < 2304) (h : ¬p < 256) (h' : ¬e % 2304 - 256 < 1) :
    e / 2304 * 2304 + (256 + (e % 2304 - 256 - 1)) = 2304 * T + (p + 2304 - 1) % 2304 := by omega

/-- The latent row after, in its slab. -/
theorem after_hi {e T p : ℕ} (hd : e / 2304 = T) (hm : e % 2304 = p) (hp : p < 2304) (h : ¬p < 256) (h' : e % 2304 - 256 < 2047) :
    e / 2304 * 2304 + (256 + (1 + (e % 2304 - 256))) = 2304 * T + (p + 2304 - 2303) % 2304 := by omega

/-- The three products of the filter, with the two tests on the row read as tests of the row. -/
theorem comb (A B C D B' C' D' B'' C'' D'' : EReal) (p : ℕ) (hp : p < 2304) :
    A * (Scalar.select (IntOp.ori (IntOp.cmpi .eq (BitVec.ofNat 32 p) 0#32) (IntOp.cmpi .eq (BitVec.ofNat 32 p) 256#32)) 0 (B * C * D)
        + B' * C' * D'
        + Scalar.select (IntOp.ori (IntOp.cmpi .eq (BitVec.ofNat 32 p) 255#32) (IntOp.cmpi .eq (BitVec.ofNat 32 p) 2303#32)) 0 (B'' * C'' * D''))
      = A * ((if p = 0 ∨ p = 256 then 0 else B * C * D) + B' * C' * D' + if p = 255 ∨ p = 2303 then 0 else B'' * C'' * D'') := by
  rw [pick p 0 256 hp (by omega) (by omega), pick p 255 2303 hp (by omega) (by omega)]

/-- A product that is zero at the sequence's first row, on either side. -/
theorem edge_lo {P Q : Prop} [Decidable P] [Decidable Q] {X D : EReal} {Z : ¬Q → EReal} (hPQ : P ↔ Q)
    (h : ∀ q : ¬Q, X = Z q * D) : (if P then 0 else X) = (if q : Q then 0 else Z q) * D := by
  by_cases q : Q
  · rw [if_pos (hPQ.mpr q), dif_pos q, zero_mul]
  · rw [if_neg (fun p => q (hPQ.mp p)), dif_neg q, h q]

/-- A product that is zero at the sequence's last row, on either side. -/
theorem edge_hi {P Q : Prop} [Decidable P] [Decidable Q] {X D : EReal} {Z : Q → EReal} (hPQ : P ↔ ¬Q)
    (h : ∀ q : Q, X = Z q * D) : (if P then 0 else X) = (if q : Q then Z q else 0) * D := by
  by_cases q : Q
  · rw [if_neg (fun p => hPQ.mp p q), dif_pos q, h q]
  · rw [if_pos (hPQ.mpr q), dif_neg q, zero_mul]

/-- The first context row. -/
theorem first_lo {e p : ℕ} (hm : e % 2304 = p) (h : p < 256) : p = 0 ∨ p = 256 ↔ e % 2304 < 1 := by omega
/-- The last context row. -/
theorem last_lo {e p : ℕ} (hm : e % 2304 = p) (h : p < 256) : p = 255 ∨ p = 2303 ↔ ¬e % 2304 < 255 := by omega
/-- The first latent row. -/
theorem first_hi {e p : ℕ} (hm : e % 2304 = p) (h : ¬p < 256) : p = 0 ∨ p = 256 ↔ e % 2304 - 256 < 1 := by omega
/-- The last latent row. -/
theorem last_hi {e p : ℕ} (hm : e % 2304 = p) (hp : p < 2304) (h : ¬p < 256) : p = 255 ∨ p = 2303 ↔ ¬e % 2304 - 256 < 2047 := by omega

set_option maxHeartbeats 2000000 in
/-- The output array after the grid, element by element. -/
theorem final (c : Dev nD) : (dats m 0 c).arrAt 4 cfg0.N
    = ConvRefIdeal.Read.val_main_v67 (F := Ideal) (m ((c : Thread nD τ).loc main_arg0)) (m ((c : Thread nD τ).loc main_arg1)) := by
  refine (dats m 0 c).arrAt_eq_of_covers 4 _ (by decide +kernel) fun t hf y => ?_
  blk_simp
  rw [after0_4]; frame_out
  pointwise [k0_pay1, k0_pay2, ConvRefIdeal.Read.val_main_v0, ConvRefIdeal.Read.val_main_v1, ConvRefIdeal.Read.val_main_v2, ConvRefIdeal.Read.val_main_v3, ConvRefIdeal.Read.val_main_v4, ConvRefIdeal.Read.val_main_v5, ConvRefIdeal.Read.val_main_v6, ConvRefIdeal.Read.val_main_v7, ConvRefIdeal.Read.val_main_v8, ConvRefIdeal.Read.val_main_v9, ConvRefIdeal.Read.val_main_v10, ConvRefIdeal.Read.val_main_v11, ConvRefIdeal.Read.val_main_cst, ConvRefIdeal.Read.val_main_v12, ConvRefIdeal.Read.val_main_v13, ConvRefIdeal.Read.val_main_v14, ConvRefIdeal.Read.val_main_v15, ConvRefIdeal.Read.val_main_v16, ConvRefIdeal.Read.val_main_v17, ConvRefIdeal.Read.val_main_v18, ConvRefIdeal.Read.val_main_v19, ConvRefIdeal.Read.val_main_v20, ConvRefIdeal.Read.val_main_v21, ConvRefIdeal.Read.val_main_v22, ConvRefIdeal.Read.val_main_v23, ConvRefIdeal.Read.val_main_v24, ConvRefIdeal.Read.val_main_v25, ConvRefIdeal.Read.val_main_v26, ConvRefIdeal.Read.val_main_v27, ConvRefIdeal.Read.val_main_v28, ConvRefIdeal.Read.val_main_v29, ConvRefIdeal.Read.val_main_v30, ConvRefIdeal.Read.val_main_v31, ConvRefIdeal.Read.val_main_v32, ConvRefIdeal.Read.val_main_v33, ConvRefIdeal.Read.val_main_v34, ConvRefIdeal.Read.val_main_v35, ConvRefIdeal.Read.val_main_v36, ConvRefIdeal.Read.val_main_v37, ConvRefIdeal.Read.val_main_v38, ConvRefIdeal.Read.val_main_v39, ConvRefIdeal.Read.val_main_v40, ConvRefIdeal.Read.val_main_v41, ConvRefIdeal.Read.val_main_cst_0, ConvRefIdeal.Read.val_main_v42, ConvRefIdeal.Read.val_main_v43, ConvRefIdeal.Read.val_main_v44, ConvRefIdeal.Read.val_main_v45, ConvRefIdeal.Read.val_main_v46, ConvRefIdeal.Read.val_main_v47, ConvRefIdeal.Read.val_main_v48, ConvRefIdeal.Read.val_main_v49, ConvRefIdeal.Read.val_main_v50, ConvRefIdeal.Read.val_main_v51, ConvRefIdeal.Read.val_main_v52, ConvRefIdeal.Read.val_main_v53, ConvRefIdeal.Read.val_main_v54, ConvRefIdeal.Read.val_main_v55, ConvRefIdeal.Read.val_main_v56, ConvRefIdeal.Read.val_main_v57, ConvRefIdeal.Read.val_main_v58, ConvRefIdeal.Read.val_main_v59, ConvRefIdeal.Read.val_main_v60, ConvRefIdeal.Read.val_main_v61, ConvRefIdeal.Read.val_main_v62, ConvRefIdeal.Read.val_main_v63, ConvRefIdeal.Read.val_main_v64, ConvRefIdeal.Read.val_main_v65, ConvRefIdeal.Read.val_main_v66, ConvRefIdeal.Read.val_main_v67]
  refine (comb _ _ _ _ _ _ _ _ _ _ (y 0).val (row_lt t y)).trans ?_
  have hr := row_eq t y
  have hc := col_eq t y
  have hp := row_lt t y
  have hd := row_div t y
  have hm := row_mod t y
  by_cases h : (y 0).val < 256
  · rw [dif_pos (hm.trans_lt h)]
    refine congrArg₂ (· * ·) (rd1 m c t _ _ ?_ ?_) (congrArg₂ (· + ·) (congrArg₂ (· + ·) (edge_lo ?_ fun q => ?_) ?_) (edge_hi ?_ fun q => ?_))
    · exact hr
    · exact congrArg (1024 + ·) hc
    · exact first_lo hm h
    · refine congrArg₂ (· * ·) (congrArg₂ (· * ·) (rd2 m c t _ _ ?_ ?_) (rd0 m c t _ _ ?_ ?_)) (rd3 m c t 0 _ _ ?_)
      · exact before_lo hd hm hp q
      · exact congrArg (2048 + ·) hc
      · exact before_lo hd hm hp q
      · exact hc.trans (Nat.zero_add _).symm
      · exact hc
    · refine congrArg₂ (· * ·) (congrArg₂ (· * ·) (rd2 m c t _ _ ?_ ?_) (rd0 m c t _ _ ?_ ?_)) (rd3 m c t 1 _ _ ?_)
      · exact hr
      · exact congrArg (2048 + ·) hc
      · exact hr
      · exact hc.trans (Nat.zero_add _).symm
      · exact hc
    · exact last_lo hm h
    · refine congrArg₂ (· * ·) (congrArg₂ (· * ·) (rd2 m c t _ _ ?_ ?_) (rd0 m c t _ _ ?_ ?_)) (rd3 m c t 2 _ _ ?_)
      · exact after_lo hd hm q
      · exact congrArg (2048 + ·) hc
      · exact after_lo hd hm q
      · exact hc.trans (Nat.zero_add _).symm
      · exact hc
  · rw [dif_neg (fun h' => h (hm.symm.trans_lt h'))]
    refine congrArg₂ (· * ·) (rd1 m c t _ _ ?_ ?_) (congrArg₂ (· + ·) (congrArg₂ (· + ·) (edge_lo ?_ fun q => ?_) ?_) (edge_hi ?_ fun q => ?_))
    · exact at_hi hd hm h
    · exact congrArg (1024 + ·) hc
    · exact first_hi hm h
    · refine congrArg₂ (· * ·) (congrArg₂ (· * ·) (rd2 m c t _ _ ?_ ?_) (rd0 m c t _ _ ?_ ?_)) (rd3 m c t 0 _ _ ?_)
      · exact before_hi hd hm hp h q
      · exact congrArg (2048 + ·) hc
      · exact before_hi hd hm hp h q
      · exact hc.trans (Nat.zero_add _).symm
      · exact hc
    · refine congrArg₂ (· * ·) (congrArg₂ (· * ·) (rd2 m c t _ _ ?_ ?_) (rd0 m c t _ _ ?_ ?_)) (rd3 m c t 1 _ _ ?_)
      · exact at_hi hd hm h
      · exact congrArg (2048 + ·) hc
      · exact at_hi hd hm h
      · exact hc.trans (Nat.zero_add _).symm
      · exact hc
    · exact last_hi hm hp h
    · refine congrArg₂ (· * ·) (congrArg₂ (· * ·) (rd2 m c t _ _ ?_ ?_) (rd0 m c t _ _ ?_ ?_)) (rd3 m c t 2 _ _ ?_)
      · exact after_hi hd hm hp h q
      · exact congrArg (2048 + ·) hc
      · exact after_hi hd hm hp h q
      · exact hc.trans (Nat.zero_add _).symm
      · exact hc

/-- Launched on the same arguments, the kernel and the reference both end with the reference's function of them. -/
theorem alg : Cert.algebraic_ConvIdeal_ConvRefIdeal := by
  intro m g m' g' _ hagree
  refine ⟨fun c => ConvRefIdeal.Read.val_main_v67 (F := Ideal) (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (ConvRefIdeal.Value.run m' g')
    refine (ConvRefIdeal.Read.val_main_v67_eq (F := Ideal) _ _ ).trans ?_
    rw [(hagree c).1, (hagree c).2]

end Cert.Proof.Conv

end
-- ==== Proof.InProj.lean ====
/- The wide input projection: the launch's result array as one function of the argument arrays, and that function as the
   reference's (the token rows times the weight's columns, three runs of columns laid side by side). -/
module

public import proofs.«01_k».proof.Defs
public import proofs.«01_k».proof.Proof.Gen.InProjIdeal.Value
public import proofs.«01_k».proof.Proof.Gen.InProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Proof.InProj

open Cert.InProjIdeal Cert.InProjIdeal.Gen Idealize.ShloMosaic Idealize.ShloMosaic.TcCoe Idealize.SL.Sem
open Idealize.ShloMosaic.Pointwise

variable (m : (ℓ : Loc nD τ sig) → Buf (Elt Ideal) ℓ)

/-- The column of the weight that column `n` of the result is of: the first 3072, then 3072 from 4608 on, then the rest
    from 7712 on. -/
def col (n : ℕ) : ℕ := n + (if 3072 ≤ n then 1536 else 0) + (if 6144 ≤ n then 32 else 0)

/-- A packed column lies within the whole weight. -/
theorem col_lt {n : ℕ} (h : n < 23040) : col n < 24608 := by unfold col; split_ifs <;> omega

/-- The result array as one function of the tokens and the weight. -/
def G (a : Vec Ideal S18432x4096 .bf16) (w : Vec Ideal S4x4096x24608 .f32) : Vec Ideal S18432x23040 .bf16 := fun i =>
  ∑ k : Fin 4096, a (ix2 (i 0) k) * w (ix3 (0 : Fin 4) k ⟨col (i 1).val, col_lt (i 1).isLt⟩)

/-- A block of 512 columns of the result lies in one run, so its columns of the weight are consecutive. -/
theorem col_block (b r : ℕ) (hb : b < 45) (hr : r < 512) : col (b * 512 + r) = col (512 * b) + r := by
  unfold col; split_ifs <;> omega

/-- The first three slabs keep their columns. -/
theorem col_lo {n : ℕ} (h : n < 3072) : n = col n := by unfold col; split_ifs <;> omega
/-- The middle columns skip the query and key columns. -/
theorem col_mid {n : ℕ} (h : ¬n < 3072) (h' : n - 3072 < 3072) : 4608 + (n - 3072) = col n := by unfold col; split_ifs <;> omega
/-- The last columns skip the decay columns too. -/
theorem col_hi {n : ℕ} (h : ¬n < 3072) (h' : ¬n - 3072 < 3072) : 7712 + (n - 3072 - 3072) = col n := by
  unfold col; split_ifs <;> omega

/-- The block that window 0 holds at grid step `t`. -/
theorem idx0 : ∀ t : Fin cfg0.N, win0_0.index t = ![t.val / 45, 0] := (by decide +kernel : ∀ t : Fin grid0.N, _)
/-- The block that window 1 holds at grid step `t`. -/
theorem idx1 : ∀ t : Fin cfg0.N, win0_1.index t = ![0, col (512 * (t.val % 45)), 0] := (by decide +kernel : ∀ t : Fin grid0.N, _)
/-- The block that window 2 holds at grid step `t`. -/
theorem idx2 : ∀ t : Fin cfg0.N, win0_2.index t = ![t.val / 45, t.val % 45] := (by decide +kernel : ∀ t : Fin grid0.N, _)

/-- A weight block's entry is the entry of the whole weight at its packed column. -/
theorem iblk1 (c : Dev nD) (t : Fin cfg0.N) (q : Fin 512) (k : Fin 4096) (n : Fin 24608) (hn : n.val = col (512 * (t.val % 45)) + q.val) :
    iblk m c 1 t (ix3 (0 : Fin 1) q k) = m ((c : Thread nD τ).loc main_arg1) (ix3 (0 : Fin 4) k n) := by
  blk_simp [iblk]
  entry_read
  pointwise
  have e := idx1 t
  refine congrArg (m ((c : Thread nD τ).loc main_arg1)) (funext fun a => Fin.ext ?_)
  match a with
  | ⟨0, _⟩ => show win0_1.index t 0 + 1 * 0 = 0; rw [e]; rfl
  | ⟨1, _⟩ => show win0_1.index t 2 + 1 * k.val = k.val; rw [e]; show 0 + 1 * k.val = k.val; omega
  | ⟨2, _⟩ => show win0_1.index t 1 + 1 * q.val = n.val; rw [e, hn]; show col _ + 1 * q.val = _; omega

/-- The output array after the grid, element by element. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G]
  reads_congr
  · blk_ext! [iblk, V, idx0, idx2]
  · refine iblk1 m c t _ _ _ ?_
    blk_simp [idx2]
    exact col_block _ _ (Nat.mod_lt _ (by decide)) (y 1).isLt

/-- The reference's result is the same function of the arguments. -/
theorem ref (a : Vec Ideal S18432x4096 .bf16) (w : Vec Ideal S4x4096x24608 .f32) :
    InProjRefIdeal.Read.val_main_v8 (F := Ideal) a w = G a w := by
  funext i
  unfold G
  pointwise [InProjRefIdeal.Read.val_main_v8, InProjRefIdeal.Read.val_main_v7, InProjRefIdeal.Read.val_main_v6, InProjRefIdeal.Read.val_main_v5, InProjRefIdeal.Read.val_main_v4, InProjRefIdeal.Read.val_main_v3, InProjRefIdeal.Read.val_main_v2, InProjRefIdeal.Read.val_main_v1, InProjRefIdeal.Read.val_main_v0]
  by_cases h1 : (i 1).val < 3072
  · rw [dif_pos h1]
    exact Finset.sum_congr rfl fun k _ => congrArg (a _ * ·) (congrArg (fun n => w (ix3 0 k n)) (Fin.ext (col_lo h1)))
  rw [dif_neg h1]
  by_cases h2 : (i 1).val - 3072 < 3072
  · rw [dif_pos h2]
    exact Finset.sum_congr rfl fun k _ => congrArg (a _ * ·) (congrArg (fun n => w (ix3 0 k n)) (Fin.ext (col_mid h1 h2)))
  · rw [dif_neg h2]
    exact Finset.sum_congr rfl fun k _ => congrArg (a _ * ·) (congrArg (fun n => w (ix3 0 k n)) (Fin.ext (col_hi h1 h2)))

/-- The claim for the wide input projection: launched on the same arguments, the kernel and the reference both end with
    `G` of them. -/
theorem alg : Cert.algebraic_InProjIdeal_InProjRefIdeal := by
  intro m g m' g' _ hagree
  refine ⟨fun c => G (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (InProjRefIdeal.Value.run m' g')
    rw [InProjRefIdeal.Read.val_main_v8_eq, (hagree c).1, (hagree c).2]
    exact ref _ _

end Cert.Proof.InProj

end
-- ==== Proof.Common.lean ====
/- What several of the launches share: the sigmoid written with `tanh` against the sigmoid written with `exp`, and the
   named words read as real numbers. -/
module

public import Idealize.ShloMosaic.PureOps.Ideal
public import Idealize.ShloMosaic.PureOps.Ideal.Laws
public import Idealize.ShloMosaic.Lib.IdealHost
public import Idealize.ShloMosaic.Lib.WordCmp

@[expose] public section

noncomputable section

namespace Cert.Proof.Common

open Idealize.ShloMosaic

/-- The printed word of one half is one half. -/
theorem half_eq : Ideal.ofBits .f32 1056964608#32 = ((1 / 2 : ℝ) : EReal) := by
  simp [Ideal.ofBits, Ideal.ieee, -EReal.coe_mul]
  norm_num

/-- Over the reals, half of the hyperbolic tangent of half, plus half, is the sigmoid. -/
theorem real_sigmoid (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  have h3 : 0 < 1 + b * b := by positivity
  have h4 : 0 < a + b := by positivity
  field_simp
  nlinarith

/-- The sigmoid as the kernel spells it and as the reference spells it agree at every extended real. -/
theorem sigmoid (x : EReal) :
    Ideal.ofBits .f32 1056964608#32 * Ideal.tanh (Ideal.ofBits .f32 1056964608#32 * x) + Ideal.ofBits .f32 1056964608#32
      = Ideal.div 1 (1 + Ideal.exp (-x)) := by
  rw [half_eq]
  show _ = Ideal.logistic x
  induction x with
  | bot =>
    rw [EReal.coe_mul_bot_of_pos (by norm_num), Ideal.tanh_bot, Ideal.logistic_bot]
    have : ((1 / 2 : ℝ) : EReal) * -1 = ((-(1 / 2) : ℝ) : EReal) := by
      rw [show (-1 : EReal) = ((-1 : ℝ) : EReal) by simp, ← EReal.coe_mul]; norm_num
    rw [this, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, ← EReal.coe_mul, ← EReal.coe_add, Ideal.logistic_coe, real_sigmoid]

/-- The row at which block `n` of 1152 rows starts within its slab of 2304 rows, as the launches compute it in words. -/
theorem slab_start (n : ℕ) (hn : n < 16) :
    Scalar.select
          (Scalar.andi
            (Scalar.xori
              (Scalar.cmpi .slt (Scalar.remsi (Scalar.muli (BitVec.ofNat 32 n) 1152#32)
                (Scalar.select (Scalar.cmpi .eq 2304#32 0#32) 1#32 2304#32)) 0#32)
              (Scalar.cmpi .slt (Scalar.select (Scalar.cmpi .eq 2304#32 0#32) 1#32 2304#32) 0#32))
            (Scalar.cmpi .ne (Scalar.remsi (Scalar.muli (BitVec.ofNat 32 n) 1152#32)
              (Scalar.select (Scalar.cmpi .eq 2304#32 0#32) 1#32 2304#32)) 0#32))
          (Scalar.addi (Scalar.remsi (Scalar.muli (BitVec.ofNat 32 n) 1152#32)
            (Scalar.select (Scalar.cmpi .eq 2304#32 0#32) 1#32 2304#32))
            (Scalar.select (Scalar.cmpi .eq 2304#32 0#32) 1#32 2304#32))
          (Scalar.remsi (Scalar.muli (BitVec.ofNat 32 n) 1152#32)
            (Scalar.select (Scalar.cmpi .eq 2304#32 0#32) 1#32 2304#32)) = BitVec.ofNat 32 (1152 * (n % 2)) := by
  have h : ∀ i : Fin 16, (fun n : ℕ => Scalar.select
          (Scalar.andi
            (Scalar.xori
              (Scalar.cmpi .slt (Scalar.remsi (Scalar.muli (BitVec.ofNat 32 n) 1152#32)
                (Scalar.select (Scalar.cmpi .eq 2304#32 0#32) 1#32 2304#32)) 0#32)
              (Scalar.cmpi .slt (Scalar.select (Scalar.cmpi .eq 2304#32 0#32) 1#32 2304#32) 0#32))
            (Scalar.cmpi .ne (Scalar.remsi (Scalar.muli (BitVec.ofNat 32 n) 1152#32)
              (Scalar.select (Scalar.cmpi .eq 2304#32 0#32) 1#32 2304#32)) 0#32))
          (Scalar.addi (Scalar.remsi (Scalar.muli (BitVec.ofNat 32 n) 1152#32)
            (Scalar.select (Scalar.cmpi .eq 2304#32 0#32) 1#32 2304#32))
            (Scalar.select (Scalar.cmpi .eq 2304#32 0#32) 1#32 2304#32))
          (Scalar.remsi (Scalar.muli (BitVec.ofNat 32 n) 1152#32)
            (Scalar.select (Scalar.cmpi .eq 2304#32 0#32) 1#32 2304#32)) = BitVec.ofNat 32 (1152 * (n % 2))) i.val := by decide +kernel
  exact h ⟨n, hn⟩

/-- The choice the launches make on a word test of the row within the slab is the choice on the row itself: the first 256
    rows of a slab are context. -/
theorem slab_pick {α : Type} (n r : ℕ) (hn : n < 16) (hr : r < 1152) (a b : α) :
    Scalar.select (IntOp.cmpi .slt (IntOp.addi (BitVec.ofNat 32 r)
        (Scalar.select
          (Scalar.andi
            (Scalar.xori
              (Scalar.cmpi .slt (Scalar.remsi (Scalar.muli (BitVec.ofNat 32 n) 1152#32)
                (Scalar.select (Scalar.cmpi .eq 2304#32 0#32) 1#32 2304#32)) 0#32)
              (Scalar.cmpi .slt (Scalar.select (Scalar.cmpi .eq 2304#32 0#32) 1#32 2304#32) 0#32))
            (Scalar.cmpi .ne (Scalar.remsi (Scalar.muli (BitVec.ofNat 32 n) 1152#32)
              (Scalar.select (Scalar.cmpi .eq 2304#32 0#32) 1#32 2304#32)) 0#32))
          (Scalar.addi (Scalar.remsi (Scalar.muli (BitVec.ofNat 32 n) 1152#32)
            (Scalar.select (Scalar.cmpi .eq 2304#32 0#32) 1#32 2304#32))
            (Scalar.select (Scalar.cmpi .eq 2304#32 0#32) 1#32 2304#32))
          (Scalar.remsi (Scalar.muli (BitVec.ofNat 32 n) 1152#32)
            (Scalar.select (Scalar.cmpi .eq 2304#32 0#32) 1#32 2304#32)))) 256#32) a b
      = if (1152 * n + r) % 2304 < 256 then a else b := by
  rw [slab_start n hn]
  have e : IntOp.addi (BitVec.ofNat 32 r) (BitVec.ofNat 32 (1152 * (n % 2))) = BitVec.ofNat 32 (r + 1152 * (n % 2)) :=
    (BitVec.ofNat_add r _).symm
  rw [e, WordCmp.cmpi_slt_ofNat (by omega) (by omega)]
  have q : (1152 * n + r) % 2304 = r + 1152 * (n % 2) := by omega
  rw [q]
  by_cases hh : r + 1152 * (n % 2) < 256
  · rw [if_pos hh, decide_eq_true hh]; rfl
  · rw [if_neg hh, decide_eq_false hh]; rfl

/-- Two blocks of 1152 rows lie in each slab of 2304 rows. -/
theorem slab_of (t r : ℕ) (hr : r < 1152) : (1152 * (t / 8) + r) / 2304 = t / 16 := by omega

end Cert.Proof.Common

end
-- ==== Proof.FfnUp.lean ====
/- The feed-forward layer going up. -/
module

public import proofs.«01_k».proof.Defs
public import proofs.«01_k».proof.Proof.Gen.FfnUpIdeal.Value
public import proofs.«01_k».proof.Proof.Gen.FfnUpRefIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

namespace Cert.Proof.FfnUp

open Cert.FfnUpIdeal Cert.FfnUpIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val / 6, 0] := (by decide +kernel : ∀ t : Fin grid0.N, _)
/-- The block that window 1 holds at grid step `t`. -/
theorem idx1 : ∀ t : Fin cfg0.N, win0_1.index t = ![0, 0, 0, t.val % 6] := (by decide +kernel : ∀ t : Fin grid0.N, _)
/-- The block that window 2 holds at grid step `t`. -/
theorem idx2 : ∀ t : Fin cfg0.N, win0_2.index t = ![0, 0, 0, 6 + t.val % 6] := (by decide +kernel : ∀ t : Fin grid0.N, _)
/-- The block that window 3 holds at grid step `t`. -/
theorem idx3 : ∀ t : Fin cfg0.N, win0_3.index t = ![t.val / 6, t.val % 6] := (by decide +kernel : ∀ t : Fin grid0.N, _)

/-- The output array after the grid, element by element. -/
theorem final (c : Dev nD) : (dats m 0 c).arrAt 3 cfg0.N
    = FfnUpRefIdeal.Read.val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay1, FfnUpRefIdeal.Read.val_main_v0, FfnUpRefIdeal.Read.val_main_v1, FfnUpRefIdeal.Read.val_main_v2, FfnUpRefIdeal.Read.val_main_v3, FfnUpRefIdeal.Read.val_main_v4, FfnUpRefIdeal.Read.val_main_v5, FfnUpRefIdeal.Read.val_main_call0_v0, FfnUpRefIdeal.Read.val_main_call0_v1, FfnUpRefIdeal.Read.val_main_call0_cst, FfnUpRefIdeal.Read.val_main_call0_v2, FfnUpRefIdeal.Read.val_main_call0_v3, FfnUpRefIdeal.Read.val_main_call0_cst_0, FfnUpRefIdeal.Read.val_main_call0_v4, FfnUpRefIdeal.Read.val_main_call0_v5, FfnUpRefIdeal.Read.val_main_v6, FfnUpRefIdeal.Read.val_main_v7, FfnUpRefIdeal.Read.val_main_v8]
  rw [Common.sigmoid]
  reads_congr
  · blk_ext! [iblk, V, idx0, idx3]
  · blk_simp [iblk]; entry_read; pointwise; blk_ext! [idx1, idx3]
  · blk_simp [iblk]; entry_read; pointwise; blk_ext! [idx2, idx3]

/-- Launched on the same arguments, the kernel and the reference both end with the reference's function of them. -/
theorem alg : Cert.algebraic_FfnUpIdeal_FfnUpRefIdeal := by
  intro m g m' g' _ hagree
  refine ⟨fun c => FfnUpRefIdeal.Read.val_main_v8 (F := Ideal) (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (FfnUpRefIdeal.Value.run m' g')
    rw [FfnUpRefIdeal.Read.val_main_v8_eq, (hagree c).1, (hagree c).2]

end Cert.Proof.FfnUp

end
-- ==== Proof.FfnDown.lean ====
/- The feed-forward layer going down. -/
module

public import proofs.«01_k».proof.Defs
public import proofs.«01_k».proof.Proof.Gen.FfnDownIdeal.Value
public import proofs.«01_k».proof.Proof.Gen.FfnDownRefIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

namespace Cert.Proof.FfnDown

open Cert.FfnDownIdeal Cert.FfnDownIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val / 8, 0] := (by decide +kernel : ∀ t : Fin grid0.N, _)
/-- The block that window 1 holds at grid step `t`. -/
theorem idx1 : ∀ t : Fin cfg0.N, win0_1.index t = ![0, 0, t.val % 8] := (by decide +kernel : ∀ t : Fin grid0.N, _)
/-- The block that window 2 holds at grid step `t`. -/
theorem idx2 : ∀ t : Fin cfg0.N, win0_2.index t = ![t.val / 8, t.val % 8] := (by decide +kernel : ∀ t : Fin grid0.N, _)
/-- The block that window 3 holds at grid step `t`. -/
theorem idx3 : ∀ t : Fin cfg0.N, win0_3.index t = ![0, 0, 16 + t.val % 8] := (by decide +kernel : ∀ t : Fin grid0.N, _)
/-- The block that window 4 holds at grid step `t`. -/
theorem idx4 : ∀ t : Fin cfg0.N, win0_4.index t = ![1 + t.val / 16, 0, 16 + t.val % 8] := (by decide +kernel : ∀ t : Fin grid0.N, _)
/-- The block that window 5 holds at grid step `t`. -/
theorem idx5 : ∀ t : Fin cfg0.N, win0_5.index t = ![t.val / 8, t.val % 8] := (by decide +kernel : ∀ t : Fin grid0.N, _)

/-- The first coordinate of a grid point. -/
theorem coord0 : ∀ t : Fin cfg0.N, (grid0.coords t 0).val = t.val / 8 :=
  (by decide +kernel : ∀ t : Fin grid0.N, (grid0.coords t 0).val = t.val / 8)

/-- There are sixteen blocks of rows. -/
theorem row_block_lt (t : Fin cfg0.N) : t.val / 8 < 16 := by
  rw [← coord0]
  exact (grid0.coords t 0).isLt

/-- The row of the whole array that row `y` of a block is. -/
theorem row_eq (t : Fin cfg0.N) (y : ((cfg0.win 5).xblock (cfg0.grid.coords t)).Idx) :
    ((((View.whole main_v2).slice (win0_5.rect t)).emb y) 0).val = 1152 * (t.val / 8) + (y 0).val := by
  show win0_5.index t 0 * 1152 + 1 * (y 0).val = _
  rw [idx5]
  show t.val / 8 * 1152 + 1 * (y 0).val = _
  rw [Nat.mul_comm, Nat.one_mul]

/-- A block has 1152 rows. -/
theorem row_lt (t : Fin cfg0.N) (y : ((cfg0.win 5).xblock (cfg0.grid.coords t)).Idx) : (y 0).val < 1152 := (y 0).isLt

/-- The gate of a latent row, read from the array of gates: the row of the slab's own time step. -/
theorem iblk4 (c : Dev nD) (t : Fin cfg0.N) (q : Fin 512) (s : Fin 9) (n : Fin 36864) (hs : s.val = 1 + t.val / 16)
    (hn : n.val = 512 * (16 + t.val % 8) + q.val) :
    iblk m c 4 t (ix3 (0 : Fin 1) 0 q) = m ((c : Thread nD τ).loc main_arg3) (ix3 s 0 n) := by
  blk_simp [iblk]
  have e := idx4 t
  refine congrArg (m ((c : Thread nD τ).loc main_arg3)) (funext fun a => Fin.ext ?_)
  match a with
  | ⟨0, _⟩ => show win0_4.index t 0 * 1 + 1 * 0 = s.val; rw [e, hs]; show (1 + t.val / 16) * 1 + 1 * 0 = _; omega
  | ⟨1, _⟩ => show win0_4.index t 1 * 1 + 1 * 0 = 0; rw [e]; rfl
  | ⟨2, _⟩ => show win0_4.index t 2 * 512 + 1 * q.val = n.val; rw [e, hn]; show (16 + t.val % 8) * 512 + 1 * q.val = _; omega

set_option maxHeartbeats 1000000 in
/-- The output array after the grid, element by element. -/
theorem final (c : Dev nD) : (dats m 0 c).arrAt 5 cfg0.N
    = FfnDownRefIdeal.Read.val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  pointwise [k0_pay1, k0_pay2, FfnDownRefIdeal.Read.val_main_v0, FfnDownRefIdeal.Read.val_main_v1, FfnDownRefIdeal.Read.val_main_v2, FfnDownRefIdeal.Read.val_main_v3, FfnDownRefIdeal.Read.val_main_v4, FfnDownRefIdeal.Read.val_main_v5, FfnDownRefIdeal.Read.val_main_v6, FfnDownRefIdeal.Read.val_main_v7, FfnDownRefIdeal.Read.val_main_v8, FfnDownRefIdeal.Read.val_main_v9, FfnDownRefIdeal.Read.val_main_v10, FfnDownRefIdeal.Read.val_main_v11, FfnDownRefIdeal.Read.val_main_cst, FfnDownRefIdeal.Read.val_main_v12, FfnDownRefIdeal.Read.val_main_v13, FfnDownRefIdeal.Read.val_main_v14, FfnDownRefIdeal.Read.val_main_v15, FfnDownRefIdeal.Read.val_main_v16, FfnDownRefIdeal.Read.val_main_v17, FfnDownRefIdeal.Read.val_main_v18, FfnDownRefIdeal.Read.val_main_v19]
  simp only [coord0]
  simp only [Common.slab_pick _ _ (row_block_lt t) (row_lt t y)]
  by_cases h : (1152 * (t.val / 8) + (y 0).val) % 2304 < 256
  · have h' := h
    rw [← row_eq] at h'
    simp only [if_pos h, dif_pos h']
    reads_congr
    · blk_ext! [iblk, V, idx2, idx5]
    · blk_ext! [iblk, V, idx3, idx5]
    · blk_ext! [iblk, V, idx0, idx5]
    · blk_simp [iblk]; entry_read; pointwise; blk_ext! [idx1, idx5]
  · have h' := h
    rw [← row_eq] at h'
    simp only [if_neg h, dif_neg h']
    reads_congr
    · blk_ext! [iblk, V, idx2, idx5]
    · refine iblk4 m c t _ _ _ ?_ ?_
      · exact (congrArg (fun n => 1 + n / 2304) (row_eq t y)).trans (congrArg (1 + ·) (Common.slab_of _ _ (row_lt t y)))
      · blk_simp [idx5]
        show 8192 + (t.val % 8 * 512 + (y 1).val) = _
        omega
    · blk_ext! [iblk, V, idx0, idx5]
    · blk_simp [iblk]; entry_read; pointwise; blk_ext! [idx1, idx5]

/-- Launched on the same arguments, the kernel and the reference both end with the reference's function of them. -/
theorem alg : Cert.algebraic_FfnDownIdeal_FfnDownRefIdeal := by
  intro m g m' g' _ hagree
  refine ⟨fun c => FfnDownRefIdeal.Read.val_main_v19 (F := Ideal) (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (FfnDownRefIdeal.Value.run m' g')
    refine (FfnDownRefIdeal.Read.val_main_v19_eq (F := Ideal) _ _ _ _ ).trans ?_
    rw [(hagree c).1, (hagree c).2.1, (hagree c).2.2.1, (hagree c).2.2.2]

end Cert.Proof.FfnDown

end
-- ==== Proof.OutProj.lean ====
/- The output projection. -/
module

public import proofs.«01_k».proof.Defs
public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

namespace Cert.Proof.OutProj

open Cert.OutProjIdeal Cert.OutProjIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val / 8, 0] := (by decide +kernel : ∀ t : Fin grid0.N, _)
/-- The block that window 1 holds at grid step `t`. -/
theorem idx1 : ∀ t : Fin cfg0.N, win0_1.index t = ![0, 0, t.val % 8] := (by decide +kernel : ∀ t : Fin grid0.N, _)
/-- The block that window 2 holds at grid step `t`. -/
theorem idx2 : ∀ t : Fin cfg0.N, win0_2.index t = ![t.val / 8, t.val % 8] := (by decide +kernel : ∀ t : Fin grid0.N, _)
/-- The block that window 3 holds at grid step `t`. -/
theorem idx3 : ∀ t : Fin cfg0.N, win0_3.index t = ![0, 0, 40 + t.val % 8] := (by decide +kernel : ∀ t : Fin grid0.N, _)
/-- The block that window 4 holds at grid step `t`. -/
theorem idx4 : ∀ t : Fin cfg0.N, win0_4.index t = ![1 + t.val / 16, 0, 40 + t.val % 8] := (by decide +kernel : ∀ t : Fin grid0.N, _)
/-- The block that window 5 holds at grid step `t`. -/
theorem idx5 : ∀ t : Fin cfg0.N, win0_5.index t = ![t.val / 8, t.val % 8] := (by decide +kernel : ∀ t : Fin grid0.N, _)

/-- The first coordinate of a grid point. -/
theorem coord0 : ∀ t : Fin cfg0.N, (grid0.coords t 0).val = t.val / 8 :=
  (by decide +kernel : ∀ t : Fin grid0.N, (grid0.coords t 0).val = t.val / 8)

/-- There are sixteen blocks of rows. -/
theorem row_block_lt (t : Fin cfg0.N) : t.val / 8 < 16 := by
  rw [← coord0]
  exact (grid0.coords t 0).isLt

/-- The row of the whole array that row `y` of a block is. -/
theorem row_eq (t : Fin cfg0.N) (y : ((cfg0.win 5).xblock (cfg0.grid.coords t)).Idx) :
    ((((View.whole main_v1).slice (win0_5.rect t)).emb y) 0).val = 1152 * (t.val / 8) + (y 0).val := by
  show win0_5.index t 0 * 1152 + 1 * (y 0).val = _
  rw [idx5]
  show t.val / 8 * 1152 + 1 * (y 0).val = _
  rw [Nat.mul_comm, Nat.one_mul]

/-- A block has 1152 rows. -/
theorem row_lt (t : Fin cfg0.N) (y : ((cfg0.win 5).xblock (cfg0.grid.coords t)).Idx) : (y 0).val < 1152 := (y 0).isLt

/-- The gate of a latent row, read from the array of gates: the row of the slab's own time step. -/
theorem iblk4 (c : Dev nD) (t : Fin cfg0.N) (q : Fin 512) (s : Fin 9) (n : Fin 36864) (hs : s.val = 1 + t.val / 16)
    (hn : n.val = 512 * (40 + t.val % 8) + q.val) :
    iblk m c 4 t (ix3 (0 : Fin 1) 0 q) = m ((c : Thread nD τ).loc main_arg3) (ix3 s 0 n) := by
  blk_simp [iblk]
  have e := idx4 t
  refine congrArg (m ((c : Thread nD τ).loc main_arg3)) (funext fun a => Fin.ext ?_)
  match a with
  | ⟨0, _⟩ => show win0_4.index t 0 * 1 + 1 * 0 = s.val; rw [e, hs]; show (1 + t.val / 16) * 1 + 1 * 0 = _; omega
  | ⟨1, _⟩ => show win0_4.index t 1 * 1 + 1 * 0 = 0; rw [e]; rfl
  | ⟨2, _⟩ => show win0_4.index t 2 * 512 + 1 * q.val = n.val; rw [e, hn]; show (40 + t.val % 8) * 512 + 1 * q.val = _; omega

set_option maxHeartbeats 1000000 in
/-- The output array after the grid, element by element. -/
theorem final (c : Dev nD) : (dats m 0 c).arrAt 5 cfg0.N
    = OutProjRefIdeal.Read.val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  pointwise [k0_pay1, k0_pay2, OutProjRefIdeal.Read.val_main_v0, OutProjRefIdeal.Read.val_main_v1, OutProjRefIdeal.Read.val_main_v2, OutProjRefIdeal.Read.val_main_v3, OutProjRefIdeal.Read.val_main_v4, OutProjRefIdeal.Read.val_main_v5, OutProjRefIdeal.Read.val_main_v6, OutProjRefIdeal.Read.val_main_v7, OutProjRefIdeal.Read.val_main_v8, OutProjRefIdeal.Read.val_main_v9, OutProjRefIdeal.Read.val_main_v10, OutProjRefIdeal.Read.val_main_v11, OutProjRefIdeal.Read.val_main_v12, OutProjRefIdeal.Read.val_main_v13, OutProjRefIdeal.Read.val_main_v14, OutProjRefIdeal.Read.val_main_v15, OutProjRefIdeal.Read.val_main_v16, OutProjRefIdeal.Read.val_main_v17]
  simp only [coord0]
  simp only [Common.slab_pick _ _ (row_block_lt t) (row_lt t y)]
  by_cases h : (1152 * (t.val / 8) + (y 0).val) % 2304 < 256
  · have h' := h
    rw [← row_eq] at h'
    simp only [if_pos h, dif_pos h']
    reads_congr
    · blk_ext! [iblk, V, idx2, idx5]
    · blk_ext! [iblk, V, idx3, idx5]
    · blk_ext! [iblk, V, idx0, idx5]
    · blk_ext! [iblk, V, idx1, idx5]
  · have h' := h
    rw [← row_eq] at h'
    simp only [if_neg h, dif_neg h']
    reads_congr
    · blk_ext! [iblk, V, idx2, idx5]
    · refine iblk4 m c t _ _ _ ?_ ?_
      · exact (congrArg (fun n => 1 + n / 2304) (row_eq t y)).trans (congrArg (1 + ·) (Common.slab_of _ _ (row_lt t y)))
      · blk_simp [idx5]
        show 20480 + (t.val % 8 * 512 + (y 1).val) = _
        omega
    · blk_ext! [iblk, V, idx0, idx5]
    · blk_ext! [iblk, V, idx1, idx5]

/-- Launched on the same arguments, the kernel and the reference both end with the reference's function of them. -/
theorem alg : Cert.algebraic_OutProjIdeal_OutProjRefIdeal := by
  intro m g m' g' _ hagree
  refine ⟨fun c => OutProjRefIdeal.Read.val_main_v17 (F := Ideal) (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (OutProjRefIdeal.Value.run m' g')
    refine (OutProjRefIdeal.Read.val_main_v17_eq (F := Ideal) _ _ _ _ ).trans ?_
    rw [(hagree c).1, (hagree c).2.1, (hagree c).2.2.1, (hagree c).2.2.2]

end Cert.Proof.OutProj

end
-- ==== Proof.Branch.lean ====
/- The branch projections. -/
module

public import proofs.«01_k».proof.Defs
public import proofs.«01_k».proof.Proof.Gen.BranchIdeal.Value
public import proofs.«01_k».proof.Proof.Gen.BranchRefIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

namespace Cert.Proof.Branch

open Cert.BranchIdeal Cert.BranchIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val / 8, 0] := (by decide +kernel : ∀ t : Fin grid0.N, _)
/-- The block that window 1 holds at grid step `t`. -/
theorem idx1 : ∀ t : Fin cfg0.N, win0_1.index t = ![t.val / 8, 0] := (by decide +kernel : ∀ t : Fin grid0.N, _)
/-- The block that window 2 holds at grid step `t`. -/
theorem idx2 : ∀ t : Fin cfg0.N, win0_2.index t = ![t.val / 8, 0] := (by decide +kernel : ∀ t : Fin grid0.N, _)
/-- The block that window 3 holds at grid step `t`. -/
theorem idx3 : ∀ t : Fin cfg0.N, win0_3.index t = ![0, 0, t.val % 8] := (by decide +kernel : ∀ t : Fin grid0.N, _)
/-- The block that window 4 holds at grid step `t`. -/
theorem idx4 : ∀ t : Fin cfg0.N, win0_4.index t = ![0, 0, t.val % 8] := (by decide +kernel : ∀ t : Fin grid0.N, _)
/-- The block that window 5 holds at grid step `t`. -/
theorem idx5 : ∀ t : Fin cfg0.N, win0_5.index t = ![0, 0, t.val % 8] := (by decide +kernel : ∀ t : Fin grid0.N, _)
/-- The block that window 6 holds at grid step `t`. -/
theorem idx6 : ∀ t : Fin cfg0.N, win0_6.index t = ![t.val / 8, 21 + t.val % 8] := (by decide +kernel : ∀ t : Fin grid0.N, _)
/-- The block that window 7 holds at grid step `t`. -/
theorem idx7 : ∀ t : Fin cfg0.N, win0_7.index t = ![t.val / 8, 29 + t.val % 8] := (by decide +kernel : ∀ t : Fin grid0.N, _)
/-- The block that window 8 holds at grid step `t`. -/
theorem idx8 : ∀ t : Fin cfg0.N, win0_8.index t = ![t.val / 8, 37 + t.val % 8] := (by decide +kernel : ∀ t : Fin grid0.N, _)
/-- The block that window 9 holds at grid step `t`. -/
theorem idx9 : ∀ t : Fin cfg0.N, win0_9.index t = ![t.val / 8, t.val % 8] := (by decide +kernel : ∀ t : Fin grid0.N, _)

set_option maxHeartbeats 4000000 in
/-- The output array after the grid, element by element. -/
theorem final (c : Dev nD) : (dats m 0 c).arrAt 9 cfg0.N
    = BranchRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]; frame_out
  pointwise [k0_pay1, k0_pay2, k0_pay3, k0_pay4, k0_pay5, k0_pay6, BranchRefIdeal.Read.val_main_v0, BranchRefIdeal.Read.val_main_v1, BranchRefIdeal.Read.val_main_v2, BranchRefIdeal.Read.val_main_v3, BranchRefIdeal.Read.val_main_v4, BranchRefIdeal.Read.val_main_v5, BranchRefIdeal.Read.val_main_v6, BranchRefIdeal.Read.val_main_v7, BranchRefIdeal.Read.val_main_cst, BranchRefIdeal.Read.val_main_v8, BranchRefIdeal.Read.val_main_v9, BranchRefIdeal.Read.val_main_cst_0, BranchRefIdeal.Read.val_main_v10, BranchRefIdeal.Read.val_main_v11, BranchRefIdeal.Read.val_main_v12, BranchRefIdeal.Read.val_main_v13, BranchRefIdeal.Read.val_main_v14, BranchRefIdeal.Read.val_main_v15, BranchRefIdeal.Read.val_main_v16, BranchRefIdeal.Read.val_main_v17, BranchRefIdeal.Read.val_main_v18, BranchRefIdeal.Read.val_main_cst_1, BranchRefIdeal.Read.val_main_v19, BranchRefIdeal.Read.val_main_v20, BranchRefIdeal.Read.val_main_cst_2, BranchRefIdeal.Read.val_main_v21, BranchRefIdeal.Read.val_main_v22, BranchRefIdeal.Read.val_main_v23, BranchRefIdeal.Read.val_main_v24, BranchRefIdeal.Read.val_main_v25, BranchRefIdeal.Read.val_main_v26, BranchRefIdeal.Read.val_main_v27, BranchRefIdeal.Read.val_main_v28, BranchRefIdeal.Read.val_main_v29, BranchRefIdeal.Read.val_main_v30, BranchRefIdeal.Read.val_main_cst_3, BranchRefIdeal.Read.val_main_v31, BranchRefIdeal.Read.val_main_v32, BranchRefIdeal.Read.val_main_cst_4, BranchRefIdeal.Read.val_main_v33, BranchRefIdeal.Read.val_main_v34, BranchRefIdeal.Read.val_main_v35, BranchRefIdeal.Read.val_main_v36, BranchRefIdeal.Read.val_main_v37, BranchRefIdeal.Read.val_main_v38, BranchRefIdeal.Read.val_main_v39, BranchRefIdeal.Read.val_main_v40, BranchRefIdeal.Read.val_main_v41]
  rw [Common.sigmoid, Common.sigmoid, Common.sigmoid]
  reads_congr
  all_goals blk_ext! [iblk, V, idx0, idx1, idx2, idx3, idx4, idx5, idx6, idx7, idx8, idx9]

/-- Launched on the same arguments, the kernel and the reference both end with the reference's function of them. -/
theorem alg : Cert.algebraic_BranchIdeal_BranchRefIdeal := by
  intro m g m' g' _ hagree
  refine ⟨fun c => BranchRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (BranchRefIdeal.Value.run m' g')
    rw [BranchRefIdeal.Read.val_main_v41_eq, (hagree c).1, (hagree c).2.1, (hagree c).2.2.1, (hagree c).2.2.2.1, (hagree c).2.2.2.2.1, (hagree c).2.2.2.2.2.1, (hagree c).2.2.2.2.2.2]

end Cert.Proof.Branch

end
-- ==== Proof.FinalNorm.lean ====
/- The final normalisation. -/
module

public import proofs.«01_k».proof.Defs
public import proofs.«01_k».proof.Proof.Gen.FinalNormIdeal.Value
public import proofs.«01_k».proof.Proof.Gen.FinalNormRefIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

namespace Cert.Proof.FinalNorm

open Cert.FinalNormIdeal Cert.FinalNormIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val / 8, 1 + t.val % 8, 0] := (by decide +kernel : ∀ t : Fin grid0.N, _)
/-- The block that window 1 holds at grid step `t`. -/
theorem idx1 : ∀ t : Fin cfg0.N, win0_1.index t = ![0, 0] := (by decide +kernel : ∀ t : Fin grid0.N, _)
/-- The block that window 2 holds at grid step `t`. -/
theorem idx2 : ∀ t : Fin cfg0.N, win0_2.index t = ![t.val / 8, t.val % 8, 0] := (by decide +kernel : ∀ t : Fin grid0.N, _)

/-- A block's result: each row divided by its root mean square, times the weights. -/
def H (x0 : Vec Ideal S1x256x4096 .f32) (x1 : Vec Ideal S1x4096 .f32) (i : Fin 256) (j : Fin 4096) : EReal :=
  x0 (ix3 (0 : Fin 1) i j) * Ideal.rsqrt ((∑ k : Fin 4096, x0 (ix3 (0 : Fin 1) i k) * x0 (ix3 (0 : Fin 1) i k)) * Ideal.ofBits .f32 0x39800000#32
    + Ideal.ofBits .f32 0x358637BD#32) * x1 (ix2 (0 : Fin 1) j)

/-- The same row and column give the same result. -/
theorem row_congr (x0 : Vec Ideal S1x256x4096 .f32) (x1 : Vec Ideal S1x4096 .f32) {i i' : Fin 256} {j j' : Fin 4096}
    (hi : i = i') (hj : j = j') : H x0 x1 i j = H x0 x1 i' j' := by rw [hi, hj]

/-- The sixteen strips of rows the body stores make up the block `H`. -/
theorem out_at (x0 : Vec Ideal S1x256x4096 .f32) (x1 : Vec Ideal S1x4096 .f32) (y : S1x256x4096.Idx) :
    out0_2 x0 x1 y = H x0 x1 (y 1) (y 2) := by
  canon_tiles x h
  all_goals
    open_payloads
    pointwise [H]
    refine row_congr x0 x1 (Fin.ext ?_) (Fin.ext ?_)
    · simpa using h1.symm
    · exact h2.symm

/-- The printed word of 4096. -/
theorem width_eq : Ideal.ofBits .f32 1166016512#32 = ((4096 : ℝ) : EReal) := by
  simp [Ideal.ofBits, Ideal.ieee, -EReal.coe_mul]
  norm_num

/-- The printed word of one over 4096. -/
theorem inv_width_eq : Ideal.ofBits .f32 964689920#32 = ((1 / 4096 : ℝ) : EReal) := by
  simp [Ideal.ofBits, Ideal.ieee, -EReal.coe_mul]
  norm_num

/-- The mean as a quotient is the mean as a product with one over the width. -/
theorem mean (x : EReal) :
    x * Ideal.ofBits .f32 964689920#32 = Ideal.div x (Ideal.ofBits .f32 1166016512#32) := by
  rw [width_eq, inv_width_eq, Ideal.div_coe (by norm_num)]

/-- A read of the residual stream's block is a read of the residual stream, past the slab's context rows. -/
theorem iblk0 (c : Dev nD) (t : Fin cfg0.N) (i : Fin 256) (k : Fin 4096) (n : Fin 18432)
    (hn : n.val = 2304 * (t.val / 8) + (256 + (256 * (t.val % 8) + i.val))) :
    iblk m c 0 t (ix3 (0 : Fin 1) i k) = m ((c : Thread nD τ).loc main_arg0) (ix2 n k) := by
  blk_simp [iblk]
  entry_read
  pointwise
  have e := idx0 t
  refine congrArg (m ((c : Thread nD τ).loc main_arg0)) (funext fun a => Fin.ext ?_)
  match a with
  | ⟨0, _⟩ =>
    show (win0_0.index t 0 * 1 + 1 * 0) * 2304 + (win0_0.index t 1 * 256 + 1 * i.val) = n.val
    rw [e, hn]; show (t.val / 8 * 1 + 1 * 0) * 2304 + ((1 + t.val % 8) * 256 + 1 * i.val) = _; omega
  | ⟨1, _⟩ => show win0_0.index t 2 * 4096 + 1 * k.val = k.val; rw [e]; show 0 * 4096 + 1 * k.val = k.val; omega

/-- The row of the residual stream a row of the result comes from. -/
theorem row_eq (t : Fin cfg0.N) (y : ((cfg0.win 2).xblock (cfg0.grid.coords t)).Idx) :
    ((((View.whole main_v2).slice (win0_2.rect t)).emb y) 0).val * 2304 + (256 + ((((View.whole main_v2).slice (win0_2.rect t)).emb y) 1).val)
      = 2304 * (t.val / 8) + (256 + (256 * (t.val % 8) + (y 1).val)) := by
  have h0 : (y 0).val = 0 := Nat.lt_one_iff.mp (y 0).isLt
  show (win0_2.index t 0 * 1 + 1 * (y 0).val) * 2304 + (256 + (win0_2.index t 1 * 256 + 1 * (y 1).val)) = _
  rw [idx2, h0]
  show (t.val / 8 * 1 + 1 * 0) * 2304 + (256 + (t.val % 8 * 256 + 1 * (y 1).val)) = _
  generalize (y 1).val = q
  omega

/-- That row lies in the residual stream. -/
theorem src_lt (t : Fin cfg0.N) (y : ((cfg0.win 2).xblock (cfg0.grid.coords t)).Idx) :
    2304 * (t.val / 8) + (256 + (256 * (t.val % 8) + (y 1).val)) < 18432 := by
  have h : t.val / 8 < 8 := (by decide +kernel : ∀ t : Fin grid0.N, t.val / 8 < 8) t
  have h1 : (y 1).val < 256 := (y 1).isLt
  generalize (y 1).val = q at *
  omega

set_option maxHeartbeats 1000000 in
/-- The output array after the grid, element by element. -/
theorem final (c : Dev nD) : (dats m 0 c).arrAt 2 cfg0.N
    = FinalNormRefIdeal.Read.val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_at]
  pointwise [H, FinalNormRefIdeal.Read.val_main_v0, FinalNormRefIdeal.Read.val_main_v1, FinalNormRefIdeal.Read.val_main_v2, FinalNormRefIdeal.Read.val_main_v3, FinalNormRefIdeal.Read.val_main_v4, FinalNormRefIdeal.Read.val_main_v5, FinalNormRefIdeal.Read.val_main_v6, FinalNormRefIdeal.Read.val_main_v7, FinalNormRefIdeal.Read.val_main_v8, FinalNormRefIdeal.Read.val_main_v9, FinalNormRefIdeal.Read.val_main_v10, FinalNormRefIdeal.Read.val_main_v11, FinalNormRefIdeal.Read.val_main_v12, FinalNormRefIdeal.Read.val_main_v13, FinalNormRefIdeal.Read.val_main_v14, FinalNormRefIdeal.Read.val_main_cst, FinalNormRefIdeal.Read.val_main_cst_0, FinalNormRefIdeal.Read.val_main_cst_1]
  rw [mean]
  reads_congr
  · have hk : ((((View.whole main_v2).slice (win0_2.rect t)).emb y) 2) = y 2 := by
      refine Fin.ext ?_
      show win0_2.index t 2 * 4096 + 1 * (y 2).val = (y 2).val
      rw [idx2]
      show 0 * 4096 + 1 * (y 2).val = (y 2).val
      rw [Nat.zero_mul, Nat.zero_add, Nat.one_mul]
    refine (iblk0 m c t (y 1) (y 2) ⟨_, lt_of_eq_of_lt (row_eq t y) (src_lt t y)⟩ (row_eq t y)).trans ?_
    exact congrArg (fun k => m ((c : Thread nD τ).loc main_arg0) (ix2 _ k)) hk.symm
  · refine iblk0 m c t _ _ _ ?_
    exact row_eq t y
  · blk_simp [iblk]; entry_read; pointwise; blk_ext! [idx1, idx2]

/-- Launched on the same arguments, the kernel and the reference both end with the reference's function of them. -/
theorem alg : Cert.algebraic_FinalNormIdeal_FinalNormRefIdeal := by
  intro m g m' g' _ hagree
  refine ⟨fun c => FinalNormRefIdeal.Read.val_main_v14 (F := Ideal) (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (FinalNormRefIdeal.Value.run m' g')
    refine (FinalNormRefIdeal.Read.val_main_v14_eq (F := Ideal) _ _).trans ?_
    rw [(hagree c).1, (hagree c).2]

end Cert.Proof.FinalNorm

end
-- ==== Proof.QkProj.lean ====
/- The packed query and key projection: the rows of the packed weight traced to the rows of the transposed weight that they are
   slices of (or to zero), the launch's result array as one function of the argument arrays, and that function as the
   reference's. -/
module

public import proofs.«01_k».proof.Defs
public import proofs.«01_k».proof.Proof.Gen.QkProjIdeal.Value
public import proofs.«01_k».proof.Proof.Gen.QkProjRefIdeal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Proof.QkProj

open Cert.QkProjIdeal Cert.QkProjIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val / 4, 0] := (by decide +kernel : ∀ t : Fin grid0.N, _)
/-- The block that window 1 holds at grid step `t`. -/
theorem idx1 : ∀ t : Fin cfg0.N, win0_1.index t = ![0, 512 * (t.val % 4), 0] := (by decide +kernel : ∀ t : Fin grid0.N, _)
/-- The block that window 2 holds at grid step `t`. -/
theorem idx2 : ∀ t : Fin cfg0.N, win0_2.index t = ![t.val / 4, t.val % 4] := (by decide +kernel : ∀ t : Fin grid0.N, _)

/-- The first 688 rows of the packed weight. -/
def C1 (w : Vec Ideal S4x24608x4096 .f32) : Vec Ideal S4x688x4096 .f32 :=
  concatenate S4x688x4096 1
    [⟨S4x48x4096, extractStridedSlice S4x48x4096 ![0, 3072, 0] w slices_S4x24608x4096_S4x48x4096_0_3072_0⟩,
      ⟨S4x48x4096, extractStridedSlice S4x48x4096 ![0, 3168, 0] w slices_S4x24608x4096_S4x48x4096_0_3168_0⟩,
      ⟨S4x32x4096, extractStridedSlice S4x32x4096 ![0, 7680, 0] w slices_S4x24608x4096_S4x32x4096_0_7680_0⟩,
      ⟨S4x48x4096, extractStridedSlice S4x48x4096 ![0, 3120, 0] w slices_S4x24608x4096_S4x48x4096_0_3120_0⟩,
      ⟨S4x48x4096, extractStridedSlice S4x48x4096 ![0, 3216, 0] w slices_S4x24608x4096_S4x48x4096_0_3216_0⟩,
      ⟨S4x32x4096, broadcastInDim S4x32x4096 ![] bcast_S_S4x32x4096 (constant (F := Ideal) S_ .f32 0x00000000#32)⟩,
      ⟨S4x48x4096, extractStridedSlice S4x48x4096 ![0, 3264, 0] w slices_S4x24608x4096_S4x48x4096_0_3264_0⟩,
      ⟨S4x48x4096, extractStridedSlice S4x48x4096 ![0, 3360, 0] w slices_S4x24608x4096_S4x48x4096_0_3360_0⟩,
      ⟨S4x32x4096, broadcastInDim S4x32x4096 ![] bcast_S_S4x32x4096 (constant (F := Ideal) S_ .f32 0x00000000#32)⟩,
      ⟨S4x48x4096, extractStridedSlice S4x48x4096 ![0, 3312, 0] w slices_S4x24608x4096_S4x48x4096_0_3312_0⟩,
      ⟨S4x48x4096, extractStridedSlice S4x48x4096 ![0, 3408, 0] w slices_S4x24608x4096_S4x48x4096_0_3408_0⟩,
      ⟨S4x32x4096, broadcastInDim S4x32x4096 ![] bcast_S_S4x32x4096 (constant (F := Ideal) S_ .f32 0x00000000#32)⟩,
      ⟨S4x48x4096, extractStridedSlice S4x48x4096 ![0, 3456, 0] w slices_S4x24608x4096_S4x48x4096_0_3456_0⟩,
      ⟨S4x48x4096, extractStridedSlice S4x48x4096 ![0, 3552, 0] w slices_S4x24608x4096_S4x48x4096_0_3552_0⟩,
      ⟨S4x32x4096, broadcastInDim S4x32x4096 ![] bcast_S_S4x32x4096 (constant (F := Ideal) S_ .f32 0x00000000#32)⟩,
      ⟨S4x48x4096, extractStridedSlice S4x48x4096 ![0, 3504, 0] w slices_S4x24608x4096_S4x48x4096_0_3504_0⟩]
    concatenates_S4x48x4096_S4x48x4096_S4x32x4096_S4x48x4096_S4x48x4096_S4x32x4096_S4x48x4096_S4x48x4096_S4x32x4096_S4x48x4096_S4x48x4096_S4x32x4096_S4x48x4096_S4x48x4096_S4x32x4096_S4x48x4096_S4x688x4096_d1
/-- The next 688 rows of the packed weight. -/
def C2 (w : Vec Ideal S4x24608x4096 .f32) : Vec Ideal S4x688x4096 .f32 :=
  concatenate S4x688x4096 1
    [⟨S4x48x4096, extractStridedSlice S4x48x4096 ![0, 3600, 0] w slices_S4x24608x4096_S4x48x4096_0_3600_0⟩,
      ⟨S4x32x4096, broadcastInDim S4x32x4096 ![] bcast_S_S4x32x4096 (constant (F := Ideal) S_ .f32 0x00000000#32)⟩,
      ⟨S4x48x4096, extractStridedSlice S4x48x4096 ![0, 3648, 0] w slices_S4x24608x4096_S4x48x4096_0_3648_0⟩,
      ⟨S4x48x4096, extractStridedSlice S4x48x4096 ![0, 3744, 0] w slices_S4x24608x4096_S4x48x4096_0_3744_0⟩,
      ⟨S4x32x4096, broadcastInDim S4x32x4096 ![] bcast_S_S4x32x4096 (constant (F := Ideal) S_ .f32 0x00000000#32)⟩,
      ⟨S4x48x4096, extractStridedSlice S4x48x4096 ![0, 3696, 0] w slices_S4x24608x4096_S4x48x4096_0_3696_0⟩,
      ⟨S4x48x4096, extractStridedSlice S4x48x4096 ![0, 3792, 0] w slices_S4x24608x4096_S4x48x4096_0_3792_0⟩,
      ⟨S4x32x4096, broadcastInDim S4x32x4096 ![] bcast_S_S4x32x4096 (constant (F := Ideal) S_ .f32 0x00000000#32)⟩,
      ⟨S4x48x4096, extractStridedSlice S4x48x4096 ![0, 3840, 0] w slices_S4x24608x4096_S4x48x4096_0_3840_0⟩,
      ⟨S4x48x4096, extractStridedSlice S4x48x4096 ![0, 3936, 0] w slices_S4x24608x4096_S4x48x4096_0_3936_0⟩,
      ⟨S4x32x4096, broadcastInDim S4x32x4096 ![] bcast_S_S4x32x4096 (constant (F := Ideal) S_ .f32 0x00000000#32)⟩,
      ⟨S4x48x4096, extractStridedSlice S4x48x4096 ![0, 3888, 0] w slices_S4x24608x4096_S4x48x4096_0_3888_0⟩,
      ⟨S4x48x4096, extractStridedSlice S4x48x4096 ![0, 3984, 0] w slices_S4x24608x4096_S4x48x4096_0_3984_0⟩,
      ⟨S4x32x4096, broadcastInDim S4x32x4096 ![] bcast_S_S4x32x4096 (constant (F := Ideal) S_ .f32 0x00000000#32)⟩,
      ⟨S4x48x4096, extractStridedSlice S4x48x4096 ![0, 4032, 0] w slices_S4x24608x4096_S4x48x4096_0_4032_0⟩,
      ⟨S4x48x4096, extractStridedSlice S4x48x4096 ![0, 4128, 0] w slices_S4x24608x4096_S4x48x4096_0_4128_0⟩]
    concatenates_S4x48x4096_S4x32x4096_S4x48x4096_S4x48x4096_S4x32x4096_S4x48x4096_S4x48x4096_S4x32x4096_S4x48x4096_S4x48x4096_S4x32x4096_S4x48x4096_S4x48x4096_S4x32x4096_S4x48x4096_S4x48x4096_S4x688x4096_d1
/-- The last 672 rows of the packed weight. -/
def C3 (w : Vec Ideal S4x24608x4096 .f32) : Vec Ideal S4x672x4096 .f32 :=
  concatenate S4x672x4096 1
    [⟨S4x32x4096, broadcastInDim S4x32x4096 ![] bcast_S_S4x32x4096 (constant (F := Ideal) S_ .f32 0x00000000#32)⟩,
      ⟨S4x48x4096, extractStridedSlice S4x48x4096 ![0, 4080, 0] w slices_S4x24608x4096_S4x48x4096_0_4080_0⟩,
      ⟨S4x48x4096, extractStridedSlice S4x48x4096 ![0, 4176, 0] w slices_S4x24608x4096_S4x48x4096_0_4176_0⟩,
      ⟨S4x32x4096, broadcastInDim S4x32x4096 ![] bcast_S_S4x32x4096 (constant (F := Ideal) S_ .f32 0x00000000#32)⟩,
      ⟨S4x48x4096, extractStridedSlice S4x48x4096 ![0, 4224, 0] w slices_S4x24608x4096_S4x48x4096_0_4224_0⟩,
      ⟨S4x48x4096, extractStridedSlice S4x48x4096 ![0, 4320, 0] w slices_S4x24608x4096_S4x48x4096_0_4320_0⟩,
      ⟨S4x32x4096, broadcastInDim S4x32x4096 ![] bcast_S_S4x32x4096 (constant (F := Ideal) S_ .f32 0x00000000#32)⟩,
      ⟨S4x48x4096, extractStridedSlice S4x48x4096 ![0, 4272, 0] w slices_S4x24608x4096_S4x48x4096_0_4272_0⟩,
      ⟨S4x48x4096, extractStridedSlice S4x48x4096 ![0, 4368, 0] w slices_S4x24608x4096_S4x48x4096_0_4368_0⟩,
      ⟨S4x32x4096, broadcastInDim S4x32x4096 ![] bcast_S_S4x32x4096 (constant (F := Ideal) S_ .f32 0x00000000#32)⟩,
      ⟨S4x48x4096, extractStridedSlice S4x48x4096 ![0, 4416, 0] w slices_S4x24608x4096_S4x48x4096_0_4416_0⟩,
      ⟨S4x48x4096, extractStridedSlice S4x48x4096 ![0, 4512, 0] w slices_S4x24608x4096_S4x48x4096_0_4512_0⟩,
      ⟨S4x32x4096, broadcastInDim S4x32x4096 ![] bcast_S_S4x32x4096 (constant (F := Ideal) S_ .f32 0x00000000#32)⟩,
      ⟨S4x48x4096, extractStridedSlice S4x48x4096 ![0, 4464, 0] w slices_S4x24608x4096_S4x48x4096_0_4464_0⟩,
      ⟨S4x48x4096, extractStridedSlice S4x48x4096 ![0, 4560, 0] w slices_S4x24608x4096_S4x48x4096_0_4560_0⟩,
      ⟨S4x32x4096, broadcastInDim S4x32x4096 ![] bcast_S_S4x32x4096 (constant (F := Ideal) S_ .f32 0x00000000#32)⟩]
    concatenates_S4x32x4096_S4x48x4096_S4x48x4096_S4x32x4096_S4x48x4096_S4x48x4096_S4x32x4096_S4x48x4096_S4x48x4096_S4x32x4096_S4x48x4096_S4x48x4096_S4x32x4096_S4x48x4096_S4x48x4096_S4x32x4096_S4x672x4096_d1
/-- The packed weight. -/
def CC (w : Vec Ideal S4x24608x4096 .f32) : Vec Ideal S4x2048x4096 .f32 :=
  concatenate S4x2048x4096 1 [⟨S4x688x4096, C1 w⟩, ⟨S4x688x4096, C2 w⟩, ⟨S4x672x4096, C3 w⟩] concatenates_S4x688x4096_S4x688x4096_S4x672x4096_S4x2048x4096_d1

set_option maxRecDepth 1000000 in
set_option maxHeartbeats 2000000 in
/-- The region finds the packed weight. -/
theorem packed (c : Dev nD) : (V m c main_v52 : Vec Ideal S4x2048x4096 .f32)
    = CC (transpose S4x24608x4096 [0, 2, 1] (m ((c : Thread nD τ).loc main_arg1)) transposes_S4x4096x24608_S4x24608x4096_0_2_1) := by
  unfold V
  after_reads_simp [Matrix.cons_val]

  rfl

/-- The column of the whole weight that a packed column is of; past the end where it is zero. -/
def src (n : ℕ) : ℕ :=
  if n % 256 < 48 then 3072 + 768 * (n / 1024) + 192 * (n % 1024 / 256) + n % 256
  else if n % 256 < 96 then 3072 + 768 * (n / 1024) + 192 * (n % 1024 / 256) + 48 + n % 256
  else if n % 256 < 128 then (if n < 256 then 7584 + n else 24608)
  else if n % 256 < 176 then 3072 + 768 * (n / 1024) + 192 * (n % 1024 / 256) + n % 256 - 80
  else if n % 256 < 224 then 3072 + 768 * (n / 1024) + 192 * (n % 1024 / 256) + n % 256 - 32
  else 24608
/-- The packed weight, by its columns. -/
def W (f : Fin 24608 → EReal) (n : ℕ) : EReal := if h : src n < 24608 then f ⟨src n, h⟩ else 0
/-- A packed column that is a column of the whole weight. -/
theorem W_eq (f : Fin 24608 → EReal) (n : ℕ) (N : Fin 24608) (h : src n = N.val) : f N = W f n := by
  unfold W
  rw [dif_pos (h ▸ N.isLt)]
  exact congrArg f (Fin.ext h.symm)
/-- A packed column that is zero. -/
theorem W_zero (f : Fin 24608 → EReal) (n : ℕ) (h : src n = 24608) : 0 = W f n := by
  unfold W
  rw [dif_neg (by omega)]

/-- Reading a concatenation along the rows, one piece at a time: the first piece agrees with a function of the row, and the
    rest agree with it past the piece. -/
theorem step {R P : ℕ} (l : Fin 4) (n : Fin R) (k : Fin 4096) (G : ℕ → EReal) (o : ℕ) (x : Shape.Idx ⟨3, ![4, P, 4096]⟩ → EReal)
    (q : (s : Shape) × (s.Idx → EReal)) (xs : List ((s : Shape) × (s.Idx → EReal))) (h1 : ∀ i : Fin P, x (ix3 l i k) = G (o + i.val))
    (h2 : ∀ hs c hc, concatenateAt ⟨3, ![4, R, 4096]⟩ 1 (ix3 l n k) (q :: xs) hs c hc = G (o + P + c)) (hs) (c : ℕ) (hc) :
    concatenateAt ⟨3, ![4, R, 4096]⟩ 1 (ix3 l n k) (⟨⟨3, ![4, P, 4096]⟩, x⟩ :: q :: xs) hs c hc = G (o + c) := by
  rw [concatenateAt_cons]
  split_ifs with h
  · refine Eq.trans (congrArg x (funext fun b => ?_)) (h1 ⟨c, h⟩)
    fin_cases b <;> rfl
  · refine (h2 _ _ _).trans (congrArg G ?_)
    have h : ¬ c < P := h
    show o + P + (c - P) = o + c
    omega
/-- The last piece. -/
theorem last {R P : ℕ} (l : Fin 4) (n : Fin R) (k : Fin 4096) (G : ℕ → EReal) (o : ℕ) (x : Shape.Idx ⟨3, ![4, P, 4096]⟩ → EReal)
    (h1 : ∀ i : Fin P, x (ix3 l i k) = G (o + i.val)) (hs) (c : ℕ) (hc) :
    concatenateAt ⟨3, ![4, R, 4096]⟩ 1 (ix3 l n k) [⟨⟨3, ![4, P, 4096]⟩, x⟩] hs c hc = G (o + c) := by
  have e : c < P := by simpa [axisSizes] using hc
  rw [concatenateAt_singleton]
  refine Eq.trans (congrArg x (funext fun b => ?_)) (h1 ⟨c, e⟩)
  fin_cases b <;> rfl
/-- A slice of rows, read at a row. -/
theorem slice_at {P : ℕ} (w : Vec Ideal S4x24608x4096 .f32) (off : ℕ) (pr) (l : Fin 4) (i : Fin P) (k : Fin 4096) (h : off + i.val < 24608) :
    extractStridedSlice ⟨3, ![4, P, 4096]⟩ ![0, off, 0] w pr (ix3 l i k) = w (ix3 l ⟨off + i.val, h⟩ k) := by
  rw [Pointwise.extractStridedSlice_apply]
  refine congrArg w (funext fun b => ?_)
  fin_cases b
  · exact Fin.ext (Nat.zero_add _)
  · rfl
  · exact Fin.ext (Nat.zero_add _)
/-- A slice of 48 rows is the packed rows from `o` on. -/
theorem piece (w : Vec Ideal S4x24608x4096 .f32) (off o : ℕ) (pr) (l : Fin 4) (k : Fin 4096) (h0 : off + 48 ≤ 24608)
    (h : ∀ i < 48, src (o + i) = off + i) (i : Fin 48) :
    extractStridedSlice S4x48x4096 ![0, off, 0] w pr (ix3 l i k) = W (fun N => w (ix3 l N k)) (o + i.val) :=
  (slice_at w off pr l i k (by omega)).trans (W_eq (fun N => w (ix3 l N k)) _ _ (h _ i.isLt))
/-- A slice of 32 rows is the packed rows from `o` on. -/
theorem narrow (w : Vec Ideal S4x24608x4096 .f32) (off o : ℕ) (pr) (l : Fin 4) (k : Fin 4096) (h0 : off + 32 ≤ 24608)
    (h : ∀ i < 32, src (o + i) = off + i) (i : Fin 32) :
    extractStridedSlice S4x32x4096 ![0, off, 0] w pr (ix3 l i k) = W (fun N => w (ix3 l N k)) (o + i.val) :=
  (slice_at w off pr l i k (by omega)).trans (W_eq (fun N => w (ix3 l N k)) _ _ (h _ i.isLt))
/-- A run of zero rows is the packed rows from `o` on. -/
theorem zeros (w : Vec Ideal S4x24608x4096 .f32) (o : ℕ) (l : Fin 4) (k : Fin 4096) (h : ∀ i < 32, src (o + i) = 24608) (i : Fin 32) :
    (broadcastInDim S4x32x4096 ![] bcast_S_S4x32x4096 (constant (F := Ideal) S_ .f32 0x00000000#32) : Vec Ideal S4x32x4096 .f32) (ix3 l i k)
      = W (fun N => w (ix3 l N k)) (o + i.val) := by
  pointwise
  exact W_zero _ _ (h _ i.isLt)
set_option maxHeartbeats 1000000 in
/-- The first rows of the packed weight, read at a position. -/
theorem C1_at (w : Vec Ideal S4x24608x4096 .f32) (l : Fin 4) (n : Fin 688) (k : Fin 4096) :
    C1 w (ix3 l n k) = W (fun N => w (ix3 l N k)) (0 + n.val) := by
  unfold C1
  rw [concatenate_apply]
  refine step l n k (W fun N => w (ix3 l N k)) 0 _ _ _ (piece w 3072 0 _ l k (by omega) (by intro i hi; unfold src; split_ifs <;> omega)) (fun hs c hc => ?_) _ _ _
  refine step l n k (W fun N => w (ix3 l N k)) 48 _ _ _ (piece w 3168 48 _ l k (by omega) (by intro i hi; unfold src; split_ifs <;> omega)) (fun hs c hc => ?_) _ _ _
  refine step l n k (W fun N => w (ix3 l N k)) 96 _ _ _ (narrow w 7680 96 _ l k (by omega) (by intro i hi; unfold src; split_ifs <;> omega)) (fun hs c hc => ?_) _ _ _
  refine step l n k (W fun N => w (ix3 l N k)) 128 _ _ _ (piece w 3120 128 _ l k (by omega) (by intro i hi; unfold src; split_ifs <;> omega)) (fun hs c hc => ?_) _ _ _
  refine step l n k (W fun N => w (ix3 l N k)) 176 _ _ _ (piece w 3216 176 _ l k (by omega) (by intro i hi; unfold src; split_ifs <;> omega)) (fun hs c hc => ?_) _ _ _
  refine step l n k (W fun N => w (ix3 l N k)) 224 _ _ _ (zeros w 224 l k (by intro i hi; unfold src; split_ifs <;> omega)) (fun hs c hc => ?_) _ _ _
  refine step l n k (W fun N => w (ix3 l N k)) 256 _ _ _ (piece w 3264 256 _ l k (by omega) (by intro i hi; unfold src; split_ifs <;> omega)) (fun hs c hc => ?_) _ _ _
  refine step l n k (W fun N => w (ix3 l N k)) 304 _ _ _ (piece w 3360 304 _ l k (by omega) (by intro i hi; unfold src; split_ifs <;> omega)) (fun hs c hc => ?_) _ _ _
  refine step l n k (W fun N => w (ix3 l N k)) 352 _ _ _ (zeros w 352 l k (by intro i hi; unfold src; split_ifs <;> omega)) (fun hs c hc => ?_) _ _ _
  refine step l n k (W fun N => w (ix3 l N k)) 384 _ _ _ (piece w 3312 384 _ l k (by omega) (by intro i hi; unfold src; split_ifs <;> omega)) (fun hs c hc => ?_) _ _ _
  refine step l n k (W fun N => w (ix3 l N k)) 432 _ _ _ (piece w 3408 432 _ l k (by omega) (by intro i hi; unfold src; split_ifs <;> omega)) (fun hs c hc => ?_) _ _ _
  refine step l n k (W fun N => w (ix3 l N k)) 480 _ _ _ (zeros w 480 l k (by intro i hi; unfold src; split_ifs <;> omega)) (fun hs c hc => ?_) _ _ _
  refine step l n k (W fun N => w (ix3 l N k)) 512 _ _ _ (piece w 3456 512 _ l k (by omega) (by intro i hi; unfold src; split_ifs <;> omega)) (fun hs c hc => ?_) _ _ _
  refine step l n k (W fun N => w (ix3 l N k)) 560 _ _ _ (piece w 3552 560 _ l k (by omega) (by intro i hi; unfold src; split_ifs <;> omega)) (fun hs c hc => ?_) _ _ _
  refine step l n k (W fun N => w (ix3 l N k)) 608 _ _ _ (zeros w 608 l k (by intro i hi; unfold src; split_ifs <;> omega)) (fun hs c hc => ?_) _ _ _
  exact last l n k (W fun N => w (ix3 l N k)) 640 _ (piece w 3504 640 _ l k (by omega) (by intro i hi; unfold src; split_ifs <;> omega)) _ _ _
set_option maxHeartbeats 1000000 in
/-- The middle rows of the packed weight, read at a position. -/
theorem C2_at (w : Vec Ideal S4x24608x4096 .f32) (l : Fin 4) (n : Fin 688) (k : Fin 4096) :
    C2 w (ix3 l n k) = W (fun N => w (ix3 l N k)) (688 + n.val) := by
  unfold C2
  rw [concatenate_apply]
  refine step l n k (W fun N => w (ix3 l N k)) 688 _ _ _ (piece w 3600 688 _ l k (by omega) (by intro i hi; unfold src; split_ifs <;> omega)) (fun hs c hc => ?_) _ _ _
  refine step l n k (W fun N => w (ix3 l N k)) 736 _ _ _ (zeros w 736 l k (by intro i hi; unfold src; split_ifs <;> omega)) (fun hs c hc => ?_) _ _ _
  refine step l n k (W fun N => w (ix3 l N k)) 768 _ _ _ (piece w 3648 768 _ l k (by omega) (by intro i hi; unfold src; split_ifs <;> omega)) (fun hs c hc => ?_) _ _ _
  refine step l n k (W fun N => w (ix3 l N k)) 816 _ _ _ (piece w 3744 816 _ l k (by omega) (by intro i hi; unfold src; split_ifs <;> omega)) (fun hs c hc => ?_) _ _ _
  refine step l n k (W fun N => w (ix3 l N k)) 864 _ _ _ (zeros w 864 l k (by intro i hi; unfold src; split_ifs <;> omega)) (fun hs c hc => ?_) _ _ _
  refine step l n k (W fun N => w (ix3 l N k)) 896 _ _ _ (piece w 3696 896 _ l k (by omega) (by intro i hi; unfold src; split_ifs <;> omega)) (fun hs c hc => ?_) _ _ _
  refine step l n k (W fun N => w (ix3 l N k)) 944 _ _ _ (piece w 3792 944 _ l k (by omega) (by intro i hi; unfold src; split_ifs <;> omega)) (fun hs c hc => ?_) _ _ _
  refine step l n k (W fun N => w (ix3 l N k)) 992 _ _ _ (zeros w 992 l k (by intro i hi; unfold src; split_ifs <;> omega)) (fun hs c hc => ?_) _ _ _
  refine step l n k (W fun N => w (ix3 l N k)) 1024 _ _ _ (piece w 3840 1024 _ l k (by omega) (by intro i hi; unfold src; split_ifs <;> omega)) (fun hs c hc => ?_) _ _ _
  refine step l n k (W fun N => w (ix3 l N k)) 1072 _ _ _ (piece w 3936 1072 _ l k (by omega) (by intro i hi; unfold src; split_ifs <;> omega)) (fun hs c hc => ?_) _ _ _
  refine step l n k (W fun N => w (ix3 l N k)) 1120 _ _ _ (zeros w 1120 l k (by intro i hi; unfold src; split_ifs <;> omega)) (fun hs c hc => ?_) _ _ _
  refine step l n k (W fun N => w (ix3 l N k)) 1152 _ _ _ (piece w 3888 1152 _ l k (by omega) (by intro i hi; unfold src; split_ifs <;> omega)) (fun hs c hc => ?_) _ _ _
  refine step l n k (W fun N => w (ix3 l N k)) 1200 _ _ _ (piece w 3984 1200 _ l k (by omega) (by intro i hi; unfold src; split_ifs <;> omega)) (fun hs c hc => ?_) _ _ _
  refine step l n k (W fun N => w (ix3 l N k)) 1248 _ _ _ (zeros w 1248 l k (by intro i hi; unfold src; split_ifs <;> omega)) (fun hs c hc => ?_) _ _ _
  refine step l n k (W fun N => w (ix3 l N k)) 1280 _ _ _ (piece w 4032 1280 _ l k (by omega) (by intro i hi; unfold src; split_ifs <;> omega)) (fun hs c hc => ?_) _ _ _
  exact last l n k (W fun N => w (ix3 l N k)) 1328 _ (piece w 4128 1328 _ l k (by omega) (by intro i hi; unfold src; split_ifs <;> omega)) _ _ _
set_option maxHeartbeats 1000000 in
/-- The last rows of the packed weight, read at a position. -/
theorem C3_at (w : Vec Ideal S4x24608x4096 .f32) (l : Fin 4) (n : Fin 672) (k : Fin 4096) :
    C3 w (ix3 l n k) = W (fun N => w (ix3 l N k)) (1376 + n.val) := by
  unfold C3
  rw [concatenate_apply]
  refine step l n k (W fun N => w (ix3 l N k)) 1376 _ _ _ (zeros w 1376 l k (by intro i hi; unfold src; split_ifs <;> omega)) (fun hs c hc => ?_) _ _ _
  refine step l n k (W fun N => w (ix3 l N k)) 1408 _ _ _ (piece w 4080 1408 _ l k (by omega) (by intro i hi; unfold src; split_ifs <;> omega)) (fun hs c hc => ?_) _ _ _
  refine step l n k (W fun N => w (ix3 l N k)) 1456 _ _ _ (piece w 4176 1456 _ l k (by omega) (by intro i hi; unfold src; split_ifs <;> omega)) (fun hs c hc => ?_) _ _ _
  refine step l n k (W fun N => w (ix3 l N k)) 1504 _ _ _ (zeros w 1504 l k (by intro i hi; unfold src; split_ifs <;> omega)) (fun hs c hc => ?_) _ _ _
  refine step l n k (W fun N => w (ix3 l N k)) 1536 _ _ _ (piece w 4224 1536 _ l k (by omega) (by intro i hi; unfold src; split_ifs <;> omega)) (fun hs c hc => ?_) _ _ _
  refine step l n k (W fun N => w (ix3 l N k)) 1584 _ _ _ (piece w 4320 1584 _ l k (by omega) (by intro i hi; unfold src; split_ifs <;> omega)) (fun hs c hc => ?_) _ _ _
  refine step l n k (W fun N => w (ix3 l N k)) 1632 _ _ _ (zeros w 1632 l k (by intro i hi; unfold src; split_ifs <;> omega)) (fun hs c hc => ?_) _ _ _
  refine step l n k (W fun N => w (ix3 l N k)) 1664 _ _ _ (piece w 4272 1664 _ l k (by omega) (by intro i hi; unfold src; split_ifs <;> omega)) (fun hs c hc => ?_) _ _ _
  refine step l n k (W fun N => w (ix3 l N k)) 1712 _ _ _ (piece w 4368 1712 _ l k (by omega) (by intro i hi; unfold src; split_ifs <;> omega)) (fun hs c hc => ?_) _ _ _
  refine step l n k (W fun N => w (ix3 l N k)) 1760 _ _ _ (zeros w 1760 l k (by intro i hi; unfold src; split_ifs <;> omega)) (fun hs c hc => ?_) _ _ _
  refine step l n k (W fun N => w (ix3 l N k)) 1792 _ _ _ (piece w 4416 1792 _ l k (by omega) (by intro i hi; unfold src; split_ifs <;> omega)) (fun hs c hc => ?_) _ _ _
  refine step l n k (W fun N => w (ix3 l N k)) 1840 _ _ _ (piece w 4512 1840 _ l k (by omega) (by intro i hi; unfold src; split_ifs <;> omega)) (fun hs c hc => ?_) _ _ _
  refine step l n k (W fun N => w (ix3 l N k)) 1888 _ _ _ (zeros w 1888 l k (by intro i hi; unfold src; split_ifs <;> omega)) (fun hs c hc => ?_) _ _ _
  refine step l n k (W fun N => w (ix3 l N k)) 1920 _ _ _ (piece w 4464 1920 _ l k (by omega) (by intro i hi; unfold src; split_ifs <;> omega)) (fun hs c hc => ?_) _ _ _
  refine step l n k (W fun N => w (ix3 l N k)) 1968 _ _ _ (piece w 4560 1968 _ l k (by omega) (by intro i hi; unfold src; split_ifs <;> omega)) (fun hs c hc => ?_) _ _ _
  exact last l n k (W fun N => w (ix3 l N k)) 2016 _ (zeros w 2016 l k (by intro i hi; unfold src; split_ifs <;> omega)) _ _ _
/-- The packed weight, read at a position. -/
theorem CC_at (w : Vec Ideal S4x24608x4096 .f32) (l : Fin 4) (n : Fin 2048) (k : Fin 4096) :
    CC w (ix3 l n k) = W (fun N => w (ix3 l N k)) n.val := by
  unfold CC
  rw [concatenate_apply]
  refine (step l n k (W fun N => w (ix3 l N k)) 0 _ _ _ (fun i => C1_at w l i k) (fun hs c hc => ?_) _ _ _).trans (congrArg _ (Nat.zero_add _))
  refine step l n k (W fun N => w (ix3 l N k)) 688 _ _ _ (fun i => C2_at w l i k) (fun hs c hc => ?_) _ _ _
  exact last l n k (W fun N => w (ix3 l N k)) 1376 _ (fun i => C3_at w l i k) _ _ _

/-- A weight block's entry is the packed weight's. -/
theorem iblk1 (c : Dev nD) (t : Fin cfg0.N) (q : Fin 512) (k : Fin 4096) :
    iblk m c 1 t (ix3 (0 : Fin 1) q k)
      = W (fun N => m ((c : Thread nD τ).loc main_arg1) (ix3 (0 : Fin 4) k N)) (512 * (t.val % 4) + q.val) := by
  blk_simp [iblk]
  rw [packed]
  have hn : 512 * (t.val % 4) + q.val < 2048 := by omega
  have e : (win0_1.blk t).view.emb (ix3 (0 : Fin 1) q k) = ix3 (0 : Fin 4) (⟨512 * (t.val % 4) + q.val, hn⟩ : Fin 2048) k := by
    have e := idx1 t
    refine funext fun a => Fin.ext ?_
    match a with
    | ⟨0, _⟩ => show win0_1.index t 0 + 1 * 0 = 0; rw [e]; rfl
    | ⟨1, _⟩ => show win0_1.index t 1 + 1 * q.val = _; rw [e]; show 512 * (t.val % 4) + 1 * q.val = 512 * (t.val % 4) + q.val; omega
    | ⟨2, _⟩ => show win0_1.index t 2 + 1 * k.val = k.val; rw [e]; show 0 + 1 * k.val = k.val; omega
  rw [e, CC_at]
  refine congrArg (W · _) (funext fun N => ?_)
  pointwise
/-- The result array as one function of the tokens and the weight. -/
def G (a : Vec Ideal S18432x4096 .bf16) (w : Vec Ideal S4x4096x24608 .f32) : Vec Ideal S18432x2048 .bf16 := fun i =>
  ∑ k : Fin 4096, a (ix2 (i 0) k) * W (fun N => w (ix3 (0 : Fin 4) k N)) (i 1).val

/-- The output array after the grid, element by element. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G]
  reads_congr
  · blk_ext! [iblk, V, idx0, idx2]
  · refine congrArg _ ((iblk1 m c t _ _).trans (congrArg _ ?_))
    blk_simp [idx2]
    exact congrArg (· + (y 1).val) (Nat.mul_comm _ _)

/-- The whole projection, a row of it. -/
def P (a : Vec Ideal S18432x4096 .bf16) (w : Vec Ideal S4x4096x24608 .f32) (r : Fin 18432) (N : Fin 24608) : EReal :=
  ∑ k : Fin 4096, a (ix2 r k) * w (ix3 (0 : Fin 4) k N)
/-- The reference's whole projection. -/
theorem ref3 (a : Vec Ideal S18432x4096 .bf16) (w : Vec Ideal S4x4096x24608 .f32) (r : Fin 18432) (N : Fin 24608) :
    QkProjRefIdeal.Read.val_main_v3 (F := Ideal) a w (ix2 r N) = P a w r N := by
  pointwise [QkProjRefIdeal.Read.val_main_v3, QkProjRefIdeal.Read.val_main_v2, QkProjRefIdeal.Read.val_main_v1, QkProjRefIdeal.Read.val_main_v0, P]
/-- The reference's queries. -/
theorem ref21 (a : Vec Ideal S18432x4096 .bf16) (w : Vec Ideal S4x4096x24608 .f32) (r : Fin 18432) (h : Fin 4) (e : Fin 256) :
    QkProjRefIdeal.Read.val_main_v21 (F := Ideal) a w (ix3 r h e) = W (P a w r) (256 * h.val + e.val) := by
  pointwise [QkProjRefIdeal.Read.val_main_cst, QkProjRefIdeal.Read.val_main_v4, QkProjRefIdeal.Read.val_main_v5, QkProjRefIdeal.Read.val_main_v6, QkProjRefIdeal.Read.val_main_v7, QkProjRefIdeal.Read.val_main_v8, QkProjRefIdeal.Read.val_main_v9, QkProjRefIdeal.Read.val_main_v10, QkProjRefIdeal.Read.val_main_v13, QkProjRefIdeal.Read.val_main_v14, QkProjRefIdeal.Read.val_main_v15, QkProjRefIdeal.Read.val_main_v16, QkProjRefIdeal.Read.val_main_v17, QkProjRefIdeal.Read.val_main_v18, QkProjRefIdeal.Read.val_main_v19, QkProjRefIdeal.Read.val_main_v20, QkProjRefIdeal.Read.val_main_v21]
  split_ifs
  all_goals first
    | exact (ref3 a w r _).trans (W_eq (P a w r) _ _ (by unfold src; dsimp only; split_ifs <;> omega))
    | exact W_zero (P a w r) _ (by unfold src; split_ifs <;> omega)
/-- The reference's keys. -/
theorem ref30 (a : Vec Ideal S18432x4096 .bf16) (w : Vec Ideal S4x4096x24608 .f32) (r : Fin 18432) (h : Fin 4) (e : Fin 256) :
    QkProjRefIdeal.Read.val_main_v30 (F := Ideal) a w (ix3 r h e) = W (P a w r) (1024 + 256 * h.val + e.val) := by
  pointwise [QkProjRefIdeal.Read.val_main_cst, QkProjRefIdeal.Read.val_main_v4, QkProjRefIdeal.Read.val_main_v11, QkProjRefIdeal.Read.val_main_v12, QkProjRefIdeal.Read.val_main_v22, QkProjRefIdeal.Read.val_main_v23, QkProjRefIdeal.Read.val_main_v24, QkProjRefIdeal.Read.val_main_v25, QkProjRefIdeal.Read.val_main_v26, QkProjRefIdeal.Read.val_main_v27, QkProjRefIdeal.Read.val_main_v28, QkProjRefIdeal.Read.val_main_v29, QkProjRefIdeal.Read.val_main_v30]
  split_ifs
  all_goals first
    | exact (ref3 a w r _).trans (W_eq (P a w r) _ _ (by unfold src; dsimp only; split_ifs <;> omega))
    | exact W_zero (P a w r) _ (by unfold src; split_ifs <;> omega)
/-- A zero column of the weight gives a zero of the projection. -/
theorem P_W (a : Vec Ideal S18432x4096 .bf16) (w : Vec Ideal S4x4096x24608 .f32) (r : Fin 18432) (n : ℕ) :
    W (P a w r) n = ∑ k : Fin 4096, a (ix2 r k) * W (fun N => w (ix3 (0 : Fin 4) k N)) n := by
  unfold W
  split_ifs with h
  · rfl
  · exact (Finset.sum_eq_zero fun k _ => mul_zero _).symm
/-- The reference's result is the same function of the arguments. -/
theorem ref (a : Vec Ideal S18432x4096 .bf16) (w : Vec Ideal S4x4096x24608 .f32) :
    QkProjRefIdeal.Read.val_main_v34 (F := Ideal) a w = G a w := by
  funext i
  refine Eq.trans ?_ (P_W a w (i 0) (i 1).val)
  pointwise [QkProjRefIdeal.Read.val_main_v34, QkProjRefIdeal.Read.val_main_v33, QkProjRefIdeal.Read.val_main_v32, QkProjRefIdeal.Read.val_main_v31]
  have hi : (i 1).val < 2048 := (i 1).isLt
  by_cases h : (i 1).val < 1024
  · rw [dif_pos h]
    refine (ref21 a w _ _ _).trans (congrArg _ ?_)
    show 256 * ((i 1).val / 256) + (i 1).val % 256 = (i 1).val
    omega
  · rw [dif_neg h]
    refine (ref30 a w _ _ _).trans (congrArg _ ?_)
    show 1024 + 256 * (((i 1).val - 1024) / 256) + ((i 1).val - 1024) % 256 = (i 1).val
    omega

/-- The claim for the packed query and key projection: launched on the same arguments, the kernel and the reference both end
    with `G` of them. -/
theorem alg : Cert.algebraic_QkProjIdeal_QkProjRefIdeal := by
  intro m g m' g' _ hagree
  refine ⟨fun c => G (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (QkProjRefIdeal.Value.run m' g')
    rw [QkProjRefIdeal.Read.val_main_v34_eq, (hagree c).1, (hagree c).2]
    exact ref _ _

end Cert.Proof.QkProj

end
-- ==== Proof.NormMod.lean ====
/- The modulated norm. -/
module

public import proofs.«01_k».proof.Defs
public import proofs.«01_k».proof.Proof.Gen.NormModIdeal.Value
public import proofs.«01_k».proof.Proof.Gen.NormModRefIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

namespace Cert.Proof.NormMod

open Cert.NormModIdeal Cert.NormModIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val, 0] := (by decide +kernel : ∀ t : Fin grid0.N, _)
/-- The block that window 1 holds at grid step `t`. -/
theorem idx1 : ∀ t : Fin cfg0.N, win0_1.index t = ![0, 0] := (by decide +kernel : ∀ t : Fin grid0.N, _)
/-- The block that window 2 holds at grid step `t`. -/
theorem idx2 : ∀ t : Fin cfg0.N, win0_2.index t = ![0, 0, 0] := (by decide +kernel : ∀ t : Fin grid0.N, _)
/-- The block that window 3 holds at grid step `t`. -/
theorem idx3 : ∀ t : Fin cfg0.N, win0_3.index t = ![0, 0, 1] := (by decide +kernel : ∀ t : Fin grid0.N, _)
/-- The block that window 4 holds at grid step `t`. -/
theorem idx4 : ∀ t : Fin cfg0.N, win0_4.index t = ![1 + t.val / 4, 0, 0] := (by decide +kernel : ∀ t : Fin grid0.N, _)
/-- The block that window 5 holds at grid step `t`. -/
theorem idx5 : ∀ t : Fin cfg0.N, win0_5.index t = ![1 + t.val / 4, 0, 1] := (by decide +kernel : ∀ t : Fin grid0.N, _)
/-- The block that window 6 holds at grid step `t`. -/
theorem idx6 : ∀ t : Fin cfg0.N, win0_6.index t = ![t.val, 0] := (by decide +kernel : ∀ t : Fin grid0.N, _)

/-- The word that says whether a block of 576 rows is the first of its slab. -/
theorem first_word (n : ℕ) (hn : n < 32) : (Scalar.cmpi .eq
        (Scalar.select
          (Scalar.andi
            (Scalar.xori
              (Scalar.cmpi .slt (Scalar.remsi (Scalar.muli (BitVec.ofNat 32 n) 576#32)
                (Scalar.select (Scalar.cmpi .eq 2304#32 0#32) 1#32 2304#32)) 0#32)
              (Scalar.cmpi .slt (Scalar.select (Scalar.cmpi .eq 2304#32 0#32) 1#32 2304#32) 0#32))
            (Scalar.cmpi .ne (Scalar.remsi (Scalar.muli (BitVec.ofNat 32 n) 576#32)
              (Scalar.select (Scalar.cmpi .eq 2304#32 0#32) 1#32 2304#32)) 0#32))
          (Scalar.addi (Scalar.remsi (Scalar.muli (BitVec.ofNat 32 n) 576#32)
            (Scalar.select (Scalar.cmpi .eq 2304#32 0#32) 1#32 2304#32))
            (Scalar.select (Scalar.cmpi .eq 2304#32 0#32) 1#32 2304#32))
          (Scalar.remsi (Scalar.muli (BitVec.ofNat 32 n) 576#32)
            (Scalar.select (Scalar.cmpi .eq 2304#32 0#32) 1#32 2304#32))) 0#32)
      = if n % 4 = 0 then 1#1 else 0#1 := by
  have h : ∀ i : Fin 32, (fun n : ℕ => (Scalar.cmpi .eq
        (Scalar.select
          (Scalar.andi
            (Scalar.xori
              (Scalar.cmpi .slt (Scalar.remsi (Scalar.muli (BitVec.ofNat 32 n) 576#32)
                (Scalar.select (Scalar.cmpi .eq 2304#32 0#32) 1#32 2304#32)) 0#32)
              (Scalar.cmpi .slt (Scalar.select (Scalar.cmpi .eq 2304#32 0#32) 1#32 2304#32) 0#32))
            (Scalar.cmpi .ne (Scalar.remsi (Scalar.muli (BitVec.ofNat 32 n) 576#32)
              (Scalar.select (Scalar.cmpi .eq 2304#32 0#32) 1#32 2304#32)) 0#32))
          (Scalar.addi (Scalar.remsi (Scalar.muli (BitVec.ofNat 32 n) 576#32)
            (Scalar.select (Scalar.cmpi .eq 2304#32 0#32) 1#32 2304#32))
            (Scalar.select (Scalar.cmpi .eq 2304#32 0#32) 1#32 2304#32))
          (Scalar.remsi (Scalar.muli (BitVec.ofNat 32 n) 576#32)
            (Scalar.select (Scalar.cmpi .eq 2304#32 0#32) 1#32 2304#32))) 0#32) = if n % 4 = 0 then 1#1 else 0#1) i.val := by decide +kernel
  exact h ⟨n, hn⟩

/-- The choice that a kernel makes on that word. -/
theorem pick {α : Type} (n : ℕ) (hn : n < 32) (a b : α) : Scalar.select (Scalar.cmpi .eq
        (Scalar.select
          (Scalar.andi
            (Scalar.xori
              (Scalar.cmpi .slt (Scalar.remsi (Scalar.muli (BitVec.ofNat 32 n) 576#32)
                (Scalar.select (Scalar.cmpi .eq 2304#32 0#32) 1#32 2304#32)) 0#32)
              (Scalar.cmpi .slt (Scalar.select (Scalar.cmpi .eq 2304#32 0#32) 1#32 2304#32) 0#32))
            (Scalar.cmpi .ne (Scalar.remsi (Scalar.muli (BitVec.ofNat 32 n) 576#32)
              (Scalar.select (Scalar.cmpi .eq 2304#32 0#32) 1#32 2304#32)) 0#32))
          (Scalar.addi (Scalar.remsi (Scalar.muli (BitVec.ofNat 32 n) 576#32)
            (Scalar.select (Scalar.cmpi .eq 2304#32 0#32) 1#32 2304#32))
            (Scalar.select (Scalar.cmpi .eq 2304#32 0#32) 1#32 2304#32))
          (Scalar.remsi (Scalar.muli (BitVec.ofNat 32 n) 576#32)
            (Scalar.select (Scalar.cmpi .eq 2304#32 0#32) 1#32 2304#32))) 0#32) a b = if n % 4 = 0 then a else b := by
  rw [first_word n hn]
  by_cases h : n % 4 = 0
  · rw [if_pos h, if_pos h]; rfl
  · rw [if_neg h, if_neg h]; rfl

/-- A block's result: each row divided by its root mean square, times the gain, plus the shift; the gain and the shift are the
    context's on the first 256 rows of the first block of a slab. -/
def H (x0 : Vec Ideal S576x4096 .f32) (x1 : Vec Ideal S1x4096 .f32) (x2 x3 x4 x5 : Vec Ideal S1x1x4096 .f32) (n : ℕ) (r : Fin 576) (j : Fin 4096) : EReal :=
  x0 (ix2 r j) * Ideal.rsqrt ((∑ k : Fin 4096, x0 (ix2 r k) * x0 (ix2 r k)) * Ideal.ofBits .f32 0x39800000#32
      + Ideal.ofBits .f32 0x358637BD#32)
    * (x1 (ix2 (0 : Fin 1) j) * (1 + if r.val < 256 ∧ n % 4 = 0 then x3 (ix3 (0 : Fin 1) (0 : Fin 1) j) else x5 (ix3 (0 : Fin 1) (0 : Fin 1) j)))
    + if r.val < 256 ∧ n % 4 = 0 then x2 (ix3 (0 : Fin 1) (0 : Fin 1) j) else x4 (ix3 (0 : Fin 1) (0 : Fin 1) j)

/-- A row of the first 256 takes its gain and its shift by the block. -/
theorem head_congr (x0 : Vec Ideal S576x4096 .f32) (x1 : Vec Ideal S1x4096 .f32) (x2 x3 x4 x5 : Vec Ideal S1x1x4096 .f32) (n : ℕ)
    {r r' : Fin 576} {j j' : Fin 4096} (hr : r = r') (hj : j = j') (h : r.val < 256) :
    x0 (ix2 r j) * Ideal.rsqrt ((∑ k : Fin 4096, x0 (ix2 r k) * x0 (ix2 r k)) * Ideal.ofBits .f32 0x39800000#32
        + Ideal.ofBits .f32 0x358637BD#32)
      * (if n % 4 = 0 then x1 (ix2 (0 : Fin 1) j) * (1 + x3 (ix3 (0 : Fin 1) (0 : Fin 1) j))
          else x1 (ix2 (0 : Fin 1) j) * (1 + x5 (ix3 (0 : Fin 1) (0 : Fin 1) j)))
      + (if n % 4 = 0 then x2 (ix3 (0 : Fin 1) (0 : Fin 1) j) else x4 (ix3 (0 : Fin 1) (0 : Fin 1) j))
    = H x0 x1 x2 x3 x4 x5 n r' j' := by
  subst hr hj
  unfold H
  by_cases hn : n % 4 = 0
  · rw [if_pos hn, if_pos hn, if_pos ⟨h, hn⟩, if_pos ⟨h, hn⟩]
  · rw [if_neg hn, if_neg hn, if_neg (fun q => hn q.2), if_neg (fun q => hn q.2)]

/-- A later row takes the sample's gain and shift. -/
theorem tail_congr (x0 : Vec Ideal S576x4096 .f32) (x1 : Vec Ideal S1x4096 .f32) (x2 x3 x4 x5 : Vec Ideal S1x1x4096 .f32) (n : ℕ)
    {r r' : Fin 576} {j j' : Fin 4096} (hr : r = r') (hj : j = j') (h : ¬r.val < 256) :
    x0 (ix2 r j) * Ideal.rsqrt ((∑ k : Fin 4096, x0 (ix2 r k) * x0 (ix2 r k)) * Ideal.ofBits .f32 0x39800000#32
        + Ideal.ofBits .f32 0x358637BD#32)
      * (x1 (ix2 (0 : Fin 1) j) * (1 + x5 (ix3 (0 : Fin 1) (0 : Fin 1) j))) + x4 (ix3 (0 : Fin 1) (0 : Fin 1) j)
    = H x0 x1 x2 x3 x4 x5 n r' j' := by
  subst hr hj
  unfold H
  rw [if_neg (fun q => h q.1), if_neg (fun q => h q.1)]

set_option maxHeartbeats 2000000 in
/-- The strips of rows that the body stores make up the block `H`. -/
theorem out_at (i : grid0.Coords) (x0 : Vec Ideal S576x4096 .f32) (x1 : Vec Ideal S1x4096 .f32) (x2 x3 x4 x5 : Vec Ideal S1x1x4096 .f32) (y : S576x4096.Idx) :
    out0_6 i x0 x1 x2 x3 x4 x5 y = H x0 x1 x2 x3 x4 x5 (i 0).val (y 0) (y 1) := by
  have hi : (i 0).val < 32 := (i 0).isLt
  canon_tiles x h
  all_goals
    open_payloads
    pointwise
    first
      | rw [pick _ hi, pick _ hi]
        refine head_congr x0 x1 x2 x3 x4 x5 _ (Fin.ext ?_) (Fin.ext ?_) ?_
        · simpa using h0.symm
        · exact h1.symm
        · first
            | show _ + (x 0).val < 256; omega
            | show (x 0).val < 256; omega
      | refine tail_congr x0 x1 x2 x3 x4 x5 _ (Fin.ext ?_) (Fin.ext ?_) ?_
        · simpa using h0.symm
        · exact h1.symm
        · show ¬ _ + (x 0).val < 256
          omega

/-- The row of the modulation that a token takes: the context's, or its sample's. -/
def row (r : Fin 18432) : Fin 9 := if r.val % 2304 < 256 then 0 else ⟨1 + r.val / 2304, by omega⟩

/-- A choice between the context's row and a sample's is a read of the token's row. -/
theorem pick_row (w : Vec Ideal S9x1x36864 .f32) (r : Fin 18432) (k : Fin 36864) :
    (if r.val % 2304 < 256 then w (ix3 (0 : Fin 9) (0 : Fin 1) k) else w (ix3 (⟨1 + r.val / 2304, by omega⟩ : Fin 9) (0 : Fin 1) k))
      = w (ix3 (row r) (0 : Fin 1) k) := by
  unfold row
  split_ifs <;> rfl

/-- The reference's scales, token by token. -/
theorem ref26 (w : Vec Ideal S9x1x36864 .f32) (r : Fin 18432) (j : Fin 4096) :
    NormModRefIdeal.Read.val_main_v26 (F := Ideal) w (ix2 r j) = w (ix3 (row r) (0 : Fin 1) ⟨4096 + j.val, by omega⟩) := by
  pointwise [NormModRefIdeal.Read.val_main_v0, NormModRefIdeal.Read.val_main_v1, NormModRefIdeal.Read.val_main_v17, NormModRefIdeal.Read.val_main_v18, NormModRefIdeal.Read.val_main_v19, NormModRefIdeal.Read.val_main_v20, NormModRefIdeal.Read.val_main_v21, NormModRefIdeal.Read.val_main_v22, NormModRefIdeal.Read.val_main_v23, NormModRefIdeal.Read.val_main_v24, NormModRefIdeal.Read.val_main_v25, NormModRefIdeal.Read.val_main_v26]
  exact pick_row w r _
/-- The reference's shifts, token by token. -/
theorem ref39 (w : Vec Ideal S9x1x36864 .f32) (r : Fin 18432) (j : Fin 4096) :
    NormModRefIdeal.Read.val_main_v39 (F := Ideal) w (ix2 r j) = w (ix3 (row r) (0 : Fin 1) ⟨j.val, by omega⟩) := by
  pointwise [NormModRefIdeal.Read.val_main_v0, NormModRefIdeal.Read.val_main_v1, NormModRefIdeal.Read.val_main_v30, NormModRefIdeal.Read.val_main_v31, NormModRefIdeal.Read.val_main_v32, NormModRefIdeal.Read.val_main_v33, NormModRefIdeal.Read.val_main_v34, NormModRefIdeal.Read.val_main_v35, NormModRefIdeal.Read.val_main_v36, NormModRefIdeal.Read.val_main_v37, NormModRefIdeal.Read.val_main_v38, NormModRefIdeal.Read.val_main_v39]
  exact pick_row w r _
/-- The reference's result. -/
theorem ref (a : Vec Ideal S18432x4096 .f32) (g : Vec Ideal S4x3x4096 .f32) (w : Vec Ideal S9x1x36864 .f32) (r : Fin 18432) (j : Fin 4096) :
    NormModRefIdeal.Read.val_main_v41 (F := Ideal) a g w (ix2 r j)
      = a (ix2 r j) * Ideal.rsqrt (Ideal.div (∑ k : Fin 4096, a (ix2 r k) * a (ix2 r k)) (Ideal.ofBits .f32 1166016512#32)
            + Ideal.ofBits .f32 897988541#32)
          * g (ix3 (0 : Fin 4) (0 : Fin 3) j) * (1 + w (ix3 (row r) (0 : Fin 1) ⟨4096 + j.val, by omega⟩))
        + w (ix3 (row r) (0 : Fin 1) ⟨j.val, by omega⟩) := by
  pointwise [NormModRefIdeal.Read.val_main_cst, NormModRefIdeal.Read.val_main_cst_0, NormModRefIdeal.Read.val_main_cst_1, NormModRefIdeal.Read.val_main_cst_2, NormModRefIdeal.Read.val_main_v27, NormModRefIdeal.Read.val_main_v28, NormModRefIdeal.Read.val_main_v29, NormModRefIdeal.Read.val_main_v40, NormModRefIdeal.Read.val_main_v41, NormModRefIdeal.Read.val_main_v2, NormModRefIdeal.Read.val_main_v3, NormModRefIdeal.Read.val_main_v4, NormModRefIdeal.Read.val_main_v5, NormModRefIdeal.Read.val_main_v6, NormModRefIdeal.Read.val_main_v7, NormModRefIdeal.Read.val_main_v8, NormModRefIdeal.Read.val_main_v9, NormModRefIdeal.Read.val_main_v10, NormModRefIdeal.Read.val_main_v11, NormModRefIdeal.Read.val_main_v12, NormModRefIdeal.Read.val_main_v13, NormModRefIdeal.Read.val_main_v14, NormModRefIdeal.Read.val_main_v15, NormModRefIdeal.Read.val_main_v16]
  rw [ref26, ref39]
/-- The printed word of 4096. -/
theorem width_eq : Ideal.ofBits .f32 1166016512#32 = ((4096 : ℝ) : EReal) := by
  simp [Ideal.ofBits, Ideal.ieee, -EReal.coe_mul]
  norm_num

/-- The printed word of one over 4096. -/
theorem inv_width_eq : Ideal.ofBits .f32 964689920#32 = ((1 / 4096 : ℝ) : EReal) := by
  simp [Ideal.ofBits, Ideal.ieee, -EReal.coe_mul]
  norm_num

/-- The mean as a quotient is the mean as a product with one over the width. -/
theorem mean (x : EReal) :
    x * Ideal.ofBits .f32 964689920#32 = Ideal.div x (Ideal.ofBits .f32 1166016512#32) := by
  rw [width_eq, inv_width_eq, Ideal.div_coe (by norm_num)]

/-- The grid has 32 steps, one per block of rows. -/
theorem steps : ∀ t : Fin cfg0.N, t.val < 32 ∧ (grid0.coords t 0).val = t.val := (by decide +kernel : ∀ t : Fin grid0.N, _)

/-- A block of tokens reads the tokens. -/
theorem iblk0 (c : Dev nD) (t : Fin cfg0.N) (r : Fin 576) (k : Fin 4096) (n : Fin 18432) (hn : n.val = 576 * t.val + r.val) :
    iblk m c 0 t (ix2 r k) = m ((c : Thread nD τ).loc main_arg0) (ix2 n k) := by
  blk_simp [iblk]
  entry_read
  pointwise
  have e := idx0 t
  refine congrArg (m ((c : Thread nD τ).loc main_arg0)) (funext fun a => Fin.ext ?_)
  match a with
  | ⟨0, _⟩ => show win0_0.index t 0 * 576 + 1 * r.val = n.val; rw [e, hn]; show t.val * 576 + 1 * r.val = _; omega
  | ⟨1, _⟩ => show win0_0.index t 1 * 4096 + 1 * k.val = k.val; rw [e]; show 0 * 4096 + 1 * k.val = _; omega
/-- The block of weights reads the first row of the norms' weights. -/
theorem iblk1 (c : Dev nD) (t : Fin cfg0.N) (k : Fin 4096) :
    iblk m c 1 t (ix2 (0 : Fin 1) k) = m ((c : Thread nD τ).loc main_arg1) (ix3 (0 : Fin 4) (0 : Fin 3) k) := by
  blk_simp [iblk]
  entry_read
  pointwise
  refine congrArg (fun q => m ((c : Thread nD τ).loc main_arg1) (ix3 (0 : Fin 4) (0 : Fin 3) q)) (Fin.ext ?_)
  show win0_1.index t 1 * 4096 + 1 * k.val = k.val
  rw [idx1]; show 0 * 4096 + 1 * k.val = k.val; omega
/-- The context's shift. -/
theorem iblk2 (c : Dev nD) (t : Fin cfg0.N) (j : Fin 4096) :
    iblk m c 2 t (ix3 (0 : Fin 1) (0 : Fin 1) j) = m ((c : Thread nD τ).loc main_arg2) (ix3 (0 : Fin 9) (0 : Fin 1) ⟨j.val, by omega⟩) := by
  blk_simp [iblk]
  entry_read
  pointwise
  have e := idx2 t
  refine congrArg (m ((c : Thread nD τ).loc main_arg2)) (funext fun a => Fin.ext ?_)
  match a with
  | ⟨0, _⟩ => show win0_2.index t 0 * 1 + 1 * 0 = 0; rw [e]; show 0 * 1 + 1 * 0 = _; omega
  | ⟨1, _⟩ => show win0_2.index t 1 * 1 + 1 * 0 = 0; rw [e]; show 0 * 1 + 1 * 0 = _; omega
  | ⟨2, _⟩ => show win0_2.index t 2 * 4096 + 1 * j.val = j.val; rw [e]; show 0 * 4096 + 1 * j.val = _; omega
/-- The context's scale. -/
theorem iblk3 (c : Dev nD) (t : Fin cfg0.N) (j : Fin 4096) :
    iblk m c 3 t (ix3 (0 : Fin 1) (0 : Fin 1) j) = m ((c : Thread nD τ).loc main_arg2) (ix3 (0 : Fin 9) (0 : Fin 1) ⟨4096 + j.val, by omega⟩) := by
  blk_simp [iblk]
  entry_read
  pointwise
  have e := idx3 t
  refine congrArg (m ((c : Thread nD τ).loc main_arg2)) (funext fun a => Fin.ext ?_)
  match a with
  | ⟨0, _⟩ => show win0_3.index t 0 * 1 + 1 * 0 = 0; rw [e]; show 0 * 1 + 1 * 0 = _; omega
  | ⟨1, _⟩ => show win0_3.index t 1 * 1 + 1 * 0 = 0; rw [e]; show 0 * 1 + 1 * 0 = _; omega
  | ⟨2, _⟩ => show win0_3.index t 2 * 4096 + 1 * j.val = 4096 + j.val; rw [e]; show 1 * 4096 + 1 * j.val = _; omega
/-- The sample's shift. -/
theorem iblk4 (c : Dev nD) (t : Fin cfg0.N) (j : Fin 4096) (b : Fin 9) (hb : b.val = 1 + t.val / 4) :
    iblk m c 4 t (ix3 (0 : Fin 1) (0 : Fin 1) j) = m ((c : Thread nD τ).loc main_arg2) (ix3 b (0 : Fin 1) ⟨j.val, by omega⟩) := by
  blk_simp [iblk]
  entry_read
  pointwise
  have e := idx4 t
  refine congrArg (m ((c : Thread nD τ).loc main_arg2)) (funext fun a => Fin.ext ?_)
  match a with
  | ⟨0, _⟩ => show win0_4.index t 0 * 1 + 1 * 0 = b.val; rw [e, hb]; show (1 + t.val / 4) * 1 + 1 * 0 = _; omega
  | ⟨1, _⟩ => show win0_4.index t 1 * 1 + 1 * 0 = 0; rw [e]; show 0 * 1 + 1 * 0 = _; omega
  | ⟨2, _⟩ => show win0_4.index t 2 * 4096 + 1 * j.val = j.val; rw [e]; show 0 * 4096 + 1 * j.val = _; omega
/-- The sample's scale. -/
theorem iblk5 (c : Dev nD) (t : Fin cfg0.N) (j : Fin 4096) (b : Fin 9) (hb : b.val = 1 + t.val / 4) :
    iblk m c 5 t (ix3 (0 : Fin 1) (0 : Fin 1) j) = m ((c : Thread nD τ).loc main_arg2) (ix3 b (0 : Fin 1) ⟨4096 + j.val, by omega⟩) := by
  blk_simp [iblk]
  entry_read
  pointwise
  have e := idx5 t
  refine congrArg (m ((c : Thread nD τ).loc main_arg2)) (funext fun a => Fin.ext ?_)
  match a with
  | ⟨0, _⟩ => show win0_5.index t 0 * 1 + 1 * 0 = b.val; rw [e, hb]; show (1 + t.val / 4) * 1 + 1 * 0 = _; omega
  | ⟨1, _⟩ => show win0_5.index t 1 * 1 + 1 * 0 = 0; rw [e]; show 0 * 1 + 1 * 0 = _; omega
  | ⟨2, _⟩ => show win0_5.index t 2 * 4096 + 1 * j.val = 4096 + j.val; rw [e]; show 1 * 4096 + 1 * j.val = _; omega
/-- One entry of the result as the kernel computes it: the gain is the weight times one plus the scale. -/
def N (a : Vec Ideal S18432x4096 .f32) (g : Vec Ideal S4x3x4096 .f32) (w : Vec Ideal S9x1x36864 .f32) (n : Fin 18432) (j : Fin 4096) : EReal :=
  a (ix2 n j) * Ideal.rsqrt ((∑ k : Fin 4096, a (ix2 n k) * a (ix2 n k)) * Ideal.ofBits .f32 0x39800000#32 + Ideal.ofBits .f32 0x358637BD#32)
      * (g (ix3 (0 : Fin 4) (0 : Fin 3) j) * (1 + w (ix3 (row n) (0 : Fin 1) ⟨4096 + j.val, by omega⟩)))
    + w (ix3 (row n) (0 : Fin 1) ⟨j.val, by omega⟩)

/-- A block's result, from the arguments. -/
theorem block (c : Dev nD) (t : Fin cfg0.N) (r : Fin 576) (j : Fin 4096) (n : Fin 18432) (hn : n.val = 576 * t.val + r.val) :
    H (iblk m c 0 t) (iblk m c 1 t) (iblk m c 2 t) (iblk m c 3 t) (iblk m c 4 t) (iblk m c 5 t) (grid0.coords t 0).val r j
      = N (m ((c : Thread nD τ).loc main_arg0)) (m ((c : Thread nD τ).loc main_arg1)) (m ((c : Thread nD τ).loc main_arg2)) n j := by
  obtain ⟨ht, hc⟩ := steps t
  have hr : r.val < 576 := r.isLt
  unfold H N
  simp only [hc, iblk0 m c t r _ n hn, iblk1 m c t j]
  by_cases h : r.val < 256 ∧ t.val % 4 = 0
  · have e : row n = 0 := if_pos (by omega)
    rw [if_pos h, if_pos h, e, iblk2, iblk3]
  · have e : (row n).val = 1 + t.val / 4 := by
      unfold row
      rw [if_neg (by omega)]
      show 1 + n.val / 2304 = _
      omega
    rw [if_neg h, if_neg h, iblk4 m c t j (row n) e, iblk5 m c t j (row n) e]

set_option maxHeartbeats 1000000 in
/-- The output array after the grid, element by element. -/
theorem final (c : Dev nD) : (dats m 0 c).arrAt 6 cfg0.N
    = NormModRefIdeal.Read.val_main_v41 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, out_at]
  obtain ⟨ht, hc⟩ := steps t
  have hr : 576 * t.val + (y 0).val < 18432 := by
    have h : (y 0).val < 576 := (y 0).isLt
    omega
  have ey : (win0_6.blk t).view.emb y = ix2 (⟨576 * t.val + (y 0).val, hr⟩ : Fin 18432) (y 1) := by
    have e := idx6 t
    refine funext fun a => Fin.ext ?_
    match a with
    | ⟨0, _⟩ => show win0_6.index t 0 * 576 + 1 * (y 0).val = _; rw [e]; show t.val * 576 + 1 * (y 0).val = 576 * t.val + (y 0).val; omega
    | ⟨1, _⟩ => show win0_6.index t 1 * 4096 + 1 * (y 1).val = (y 1).val; rw [e]; show 0 * 4096 + 1 * (y 1).val = (y 1).val; omega
  rw [ey]
  refine Eq.trans ?_ (ref _ _ _ _ _).symm
  refine (block m c t (y 0) (y 1) ⟨576 * t.val + (y 0).val, hr⟩ rfl).trans ?_
  unfold N
  rw [mean, mul_assoc (_ * _)]

/-- Launched on the same arguments, the kernel and the reference both end with the reference's function of them. -/
theorem alg : Cert.algebraic_NormModIdeal_NormModRefIdeal := by
  intro m g m' g' _ hagree
  refine ⟨fun c => NormModRefIdeal.Read.val_main_v41 (F := Ideal) (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (NormModRefIdeal.Value.run m' g')
    refine (NormModRefIdeal.Read.val_main_v41_eq (F := Ideal) _ _ _).trans ?_
    rw [(hagree c).1, (hagree c).2.1, (hagree c).2.2]

end Cert.Proof.NormMod

end
-- ==== Proof.ModA.lean ====
/- The modulation's first product. -/
module

public import proofs.«01_k».proof.Defs
public import proofs.«01_k».proof.Proof.Gen.ModAIdeal.Value
public import proofs.«01_k».proof.Proof.Gen.ModARefIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

namespace Cert.Proof.ModA

open Cert.ModAIdeal Cert.ModAIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![0, 0] := (by decide +kernel : ∀ t : Fin grid0.N, _)
/-- The block that window 1 holds at grid step `t`. -/
theorem idx1 : ∀ t : Fin cfg0.N, win0_1.index t = ![t.val, 0, 0] := (by decide +kernel : ∀ t : Fin grid0.N, _)
/-- The block that window 2 holds at grid step `t`. -/
theorem idx2 : ∀ t : Fin cfg0.N, win0_2.index t = ![t.val, 0, 0] := (by decide +kernel : ∀ t : Fin grid0.N, _)

/-- The output array after the grid, element by element. -/
theorem final (c : Dev nD) : (dats m 0 c).arrAt 2 cfg0.N
    = ModARefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, ModARefIdeal.Read.val_main_call0_v0, ModARefIdeal.Read.val_main_call0_v1, ModARefIdeal.Read.val_main_call0_cst, ModARefIdeal.Read.val_main_call0_v2, ModARefIdeal.Read.val_main_call0_v3, ModARefIdeal.Read.val_main_call0_cst_0, ModARefIdeal.Read.val_main_call0_v4, ModARefIdeal.Read.val_main_call0_v5, ModARefIdeal.Read.val_main_v0, ModARefIdeal.Read.val_main_v1, ModARefIdeal.Read.val_main_v2]
  unfold Ideal.logistic
  reads_congr
  · blk_ext! [iblk, V, idx0, idx2]
  · blk_ext! [iblk, V, idx0, idx2]
  · blk_ext! [iblk, V, idx1, idx2]

/-- Launched on the same arguments, the kernel and the reference both end with the reference's function of them. -/
theorem alg : Cert.algebraic_ModAIdeal_ModARefIdeal := by
  intro m g m' g' _ hagree
  refine ⟨fun c => ModARefIdeal.Read.val_main_v2 (F := Ideal) (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (ModARefIdeal.Value.run m' g')
    rw [ModARefIdeal.Read.val_main_v2_eq, (hagree c).1, (hagree c).2]

end Cert.Proof.ModA

end
-- ==== Proof.ModB.lean ====
/- The modulation's second product. -/
module

public import proofs.«01_k».proof.Defs
public import proofs.«01_k».proof.Proof.Gen.ModBIdeal.Value
public import proofs.«01_k».proof.Proof.Gen.ModBRefIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

namespace Cert.Proof.ModB

open Cert.ModBIdeal Cert.ModBIdeal.Gen Idealize.ShloMosaic Idealize.ShloMosaic.TcCoe Idealize.SL.Sem
open Idealize.ShloMosaic.Pointwise

variable (m : (ℓ : Loc nD τ sig) → Buf (Elt Ideal) ℓ)

/-- The block that window 0 holds at grid step `t`. -/
theorem idx0 : ∀ t : Fin cfg0.N, win0_0.index t = ![t.val / 18, 0, 0] := (by decide +kernel : ∀ t : Fin grid0.N, _)
/-- The block that window 1 holds at grid step `t`. -/
theorem idx1 : ∀ t : Fin cfg0.N, win0_1.index t = ![t.val / 18, 0, t.val % 18] := (by decide +kernel : ∀ t : Fin grid0.N, _)
/-- The block that window 2 holds at grid step `t`. -/
theorem idx2 : ∀ t : Fin cfg0.N, win0_2.index t = ![t.val / 18, 0, t.val % 18] := (by decide +kernel : ∀ t : Fin grid0.N, _)
/-- The block that window 3 holds at grid step `t`. -/
theorem idx3 : ∀ t : Fin cfg0.N, win0_3.index t = ![t.val / 18, 0, t.val % 18] := (by decide +kernel : ∀ t : Fin grid0.N, _)

/-- The output array after the grid, element by element. -/
theorem final (c : Dev nD) : (dats m 0 c).arrAt 3 cfg0.N
    = ModBRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, ModBRefIdeal.Read.val_main_v0, ModBRefIdeal.Read.val_main_v1, ModBRefIdeal.Read.val_main_v2, ModBRefIdeal.Read.val_main_v3]
  reads_congr
  · blk_ext! [iblk, V, idx0, idx3]
  · blk_ext! [iblk, V, idx1, idx3]
  · blk_simp [iblk]; entry_read; pointwise; blk_ext! [idx2, idx3]

/-- Launched on the same arguments, the kernel and the reference both end with the reference's function of them. -/
theorem alg : Cert.algebraic_ModBIdeal_ModBRefIdeal := by
  intro m g m' g' _ hagree
  refine ⟨fun c => ModBRefIdeal.Read.val_main_v3 (F := Ideal) (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (ModBRefIdeal.Value.run m' g')
    rw [ModBRefIdeal.Read.val_main_v3_eq, (hagree c).1, (hagree c).2.1, (hagree c).2.2]

end Cert.Proof.ModB

end
-- ==== Proof.lean ====
module

public import proofs.«01_k».proof.Defs
public import proofs.«01_k».proof.Proof.Gen.Na.Frame
public import proofs.«01_k».proof.Proof.Gen.NaIdeal.Value
public import proofs.«01_k».proof.Proof.Gen.NaRefIdeal.Read
public import proofs.«01_k».proof.Proof.Na
public import proofs.«01_k».proof.Proof.Gen.Conv.Frame
public import proofs.«01_k».proof.Proof.Gen.ConvIdeal.Value
public import proofs.«01_k».proof.Proof.Gen.ConvRefIdeal.Read
public import proofs.«01_k».proof.Proof.Conv
public import proofs.«01_k».proof.Proof.Gen.InProj.Frame
public import proofs.«01_k».proof.Proof.Gen.InProjIdeal.Value
public import proofs.«01_k».proof.Proof.Gen.InProjRefIdeal.Read
public import proofs.«01_k».proof.Proof.InProj
public import proofs.«01_k».proof.Proof.Gen.FfnUp.Frame
public import proofs.«01_k».proof.Proof.Gen.FfnUpIdeal.Value
public import proofs.«01_k».proof.Proof.Gen.FfnUpRefIdeal.Read
public import proofs.«01_k».proof.Proof.FfnUp
public import proofs.«01_k».proof.Proof.Gen.FfnDown.Frame
public import proofs.«01_k».proof.Proof.Gen.FfnDownIdeal.Value
public import proofs.«01_k».proof.Proof.Gen.FfnDownRefIdeal.Read
public import proofs.«01_k».proof.Proof.FfnDown
public import proofs.«01_k».proof.Proof.Gen.OutProj.Frame
public import proofs.«01_k».proof.Proof.Gen.OutProjIdeal.Value
public import proofs.«01_k».proof.Proof.Gen.OutProjRefIdeal.Read
public import proofs.«01_k».proof.Proof.OutProj
public import proofs.«01_k».proof.Proof.Gen.Branch.Frame
public import proofs.«01_k».proof.Proof.Gen.BranchIdeal.Value
public import proofs.«01_k».proof.Proof.Gen.BranchRefIdeal.Read
public import proofs.«01_k».proof.Proof.Branch
public import proofs.«01_k».proof.Proof.Gen.FinalNorm.Frame
public import proofs.«01_k».proof.Proof.Gen.FinalNormIdeal.Value
public import proofs.«01_k».proof.Proof.Gen.FinalNormRefIdeal.Read
public import proofs.«01_k».proof.Proof.FinalNorm
public import proofs.«01_k».proof.Proof.Gen.QkProj.Frame
public import proofs.«01_k».proof.Proof.Gen.QkProjIdeal.Value
public import proofs.«01_k».proof.Proof.Gen.QkProjRefIdeal.Read
public import proofs.«01_k».proof.Proof.QkProj
public import proofs.«01_k».proof.Proof.Gen.NormMod.Frame
public import proofs.«01_k».proof.Proof.Gen.NormModIdeal.Value
public import proofs.«01_k».proof.Proof.Gen.NormModRefIdeal.Read
public import proofs.«01_k».proof.Proof.NormMod
public import proofs.«01_k».proof.Proof.Gen.ModA.Frame
public import proofs.«01_k».proof.Proof.Gen.ModAIdeal.Value
public import proofs.«01_k».proof.Proof.Gen.ModARefIdeal.Read
public import proofs.«01_k».proof.Proof.ModA
public import proofs.«01_k».proof.Proof.Gen.ModB.Frame
public import proofs.«01_k».proof.Proof.Gen.ModBIdeal.Value
public import proofs.«01_k».proof.Proof.Gen.ModBRefIdeal.Read
public import proofs.«01_k».proof.Proof.ModB
public import Idealize.ShloMosaic.Adequacy
public import Idealize.ShloMosaic.Init

@[expose] public section

noncomputable section

namespace Cert.Proof

open Idealize.ShloMosaic Idealize.SL.Sem

/-- The reference `NaRefIdeal` runs and leaves its arguments as they were. -/
theorem ref_Na : Cert.quiescent_NaRefIdeal := fun m ρ _ =>
  (θ_run Cert.NaRefIdeal.defs _ _).mono
    (fun r h => ⟨fun c => ⟨(h c).2.1, (h c).2.2⟩, sem_eq_zero_of_no_sems (by decide) r.2⟩)
    (Cert.NaRefIdeal.Value.run (F := Ideal) m ρ)

/-- The reference `ConvRefIdeal` runs and leaves its arguments as they were. -/
theorem ref_Conv : Cert.quiescent_ConvRefIdeal := fun m ρ _ =>
  (θ_run Cert.ConvRefIdeal.defs _ _).mono
    (fun r h => ⟨fun c => ⟨(h c).2.1, (h c).2.2⟩, sem_eq_zero_of_no_sems (by decide) r.2⟩)
    (Cert.ConvRefIdeal.Value.run (F := Ideal) m ρ)

/-- The reference `InProjRefIdeal` runs and leaves its arguments as they were. -/
theorem ref_InProj : Cert.quiescent_InProjRefIdeal := fun m ρ _ =>
  (θ_run Cert.InProjRefIdeal.defs _ _).mono
    (fun r h => ⟨fun c => ⟨(h c).2.1, (h c).2.2⟩, sem_eq_zero_of_no_sems (by decide) r.2⟩)
    (Cert.InProjRefIdeal.Value.run (F := Ideal) m ρ)

/-- The reference `FfnUpRefIdeal` runs and leaves its arguments as they were. -/
theorem ref_FfnUp : Cert.quiescent_FfnUpRefIdeal := fun m ρ _ =>
  (θ_run Cert.FfnUpRefIdeal.defs _ _).mono
    (fun r h => ⟨fun c => ⟨(h c).2.1, (h c).2.2⟩, sem_eq_zero_of_no_sems (by decide) r.2⟩)
    (Cert.FfnUpRefIdeal.Value.run (F := Ideal) m ρ)

/-- The reference `FfnDownRefIdeal` runs and leaves its arguments as they were. -/
theorem ref_FfnDown : Cert.quiescent_FfnDownRefIdeal := fun m ρ _ =>
  (θ_run Cert.FfnDownRefIdeal.defs _ _).mono
    (fun r h => ⟨fun c => ⟨(h c).2.1, (h c).2.2.1, (h c).2.2.2.1, (h c).2.2.2.2⟩, sem_eq_zero_of_no_sems (by decide) r.2⟩)
    (Cert.FfnDownRefIdeal.Value.run (F := Ideal) m ρ)

/-- The reference `OutProjRefIdeal` runs and leaves its arguments as they were. -/
theorem ref_OutProj : Cert.quiescent_OutProjRefIdeal := fun m ρ _ =>
  (θ_run Cert.OutProjRefIdeal.defs _ _).mono
    (fun r h => ⟨fun c => ⟨(h c).2.1, (h c).2.2.1, (h c).2.2.2.1, (h c).2.2.2.2⟩, sem_eq_zero_of_no_sems (by decide) r.2⟩)
    (Cert.OutProjRefIdeal.Value.run (F := Ideal) m ρ)

/-- The reference `BranchRefIdeal` runs and leaves its arguments as they were. -/
theorem ref_Branch : Cert.quiescent_BranchRefIdeal := fun m ρ _ =>
  (θ_run Cert.BranchRefIdeal.defs _ _).mono
    (fun r h => ⟨fun c => ⟨(h c).2.1, (h c).2.2.1, (h c).2.2.2.1, (h c).2.2.2.2.1, (h c).2.2.2.2.2.1, (h c).2.2.2.2.2.2.1, (h c).2.2.2.2.2.2.2⟩, sem_eq_zero_of_no_sems (by decide) r.2⟩)
    (Cert.BranchRefIdeal.Value.run (F := Ideal) m ρ)

/-- The reference `FinalNormRefIdeal` runs and leaves its arguments as they were. -/
theorem ref_FinalNorm : Cert.quiescent_FinalNormRefIdeal := fun m ρ _ =>
  (θ_run Cert.FinalNormRefIdeal.defs _ _).mono
    (fun r h => ⟨fun c => ⟨(h c).2.1, (h c).2.2⟩, sem_eq_zero_of_no_sems (by decide) r.2⟩)
    (Cert.FinalNormRefIdeal.Value.run (F := Ideal) m ρ)

/-- The reference `QkProjRefIdeal` runs and leaves its arguments as they were. -/
theorem ref_QkProj : Cert.quiescent_QkProjRefIdeal := fun m ρ _ =>
  (θ_run Cert.QkProjRefIdeal.defs _ _).mono
    (fun r h => ⟨fun c => ⟨(h c).2.1, (h c).2.2⟩, sem_eq_zero_of_no_sems (by decide) r.2⟩)
    (Cert.QkProjRefIdeal.Value.run (F := Ideal) m ρ)

/-- The reference `NormModRefIdeal` runs and leaves its arguments as they were. -/
theorem ref_NormMod : Cert.quiescent_NormModRefIdeal := fun m ρ _ =>
  (θ_run Cert.NormModRefIdeal.defs _ _).mono
    (fun r h => ⟨fun c => ⟨(h c).2.1, (h c).2.2.1, (h c).2.2.2⟩, sem_eq_zero_of_no_sems (by decide) r.2⟩)
    (Cert.NormModRefIdeal.Value.run (F := Ideal) m ρ)

/-- The reference `ModARefIdeal` runs and leaves its arguments as they were. -/
theorem ref_ModA : Cert.quiescent_ModARefIdeal := fun m ρ _ =>
  (θ_run Cert.ModARefIdeal.defs _ _).mono
    (fun r h => ⟨fun c => ⟨(h c).2.1, (h c).2.2⟩, sem_eq_zero_of_no_sems (by decide) r.2⟩)
    (Cert.ModARefIdeal.Value.run (F := Ideal) m ρ)

/-- The reference `ModBRefIdeal` runs and leaves its arguments as they were. -/
theorem ref_ModB : Cert.quiescent_ModBRefIdeal := fun m ρ _ =>
  (θ_run Cert.ModBRefIdeal.defs _ _).mono
    (fun r h => ⟨fun c => ⟨(h c).2.1, (h c).2.2.1, (h c).2.2.2⟩, sem_eq_zero_of_no_sems (by decide) r.2⟩)
    (Cert.ModBRefIdeal.Value.run (F := Ideal) m ρ)

/-- The two named constants of the attention are the reals the printed words stand for. -/
theorem named_Na : Cert.preserves_Na_NaIdeal :=
  ⟨IdealRules.named_const.statement Cert.NaIdeal.κ "log2e" .f32 0x3FB8AA3B#32 _ rfl,
    IdealRules.named_const.statement Cert.NaIdeal.κ "scale" .f32 0x3E0293EE#32 _ rfl⟩

/-- Every claim of the statement. -/
theorem claim : Cert.Claim := by
  refine ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m ρ _ => Cert.Na.Gen.frame m ρ, fun m ρ _ => Cert.NaIdeal.Gen.frame m ρ, fun m ρ _ => Cert.NaIdeal.Gen.frame m ρ,
    ref_Na, fun m ρ _ => ref_Na m ρ trivial,
    fun m ρ _ => Cert.Conv.Gen.frame m ρ, fun m ρ _ => Cert.ConvIdeal.Gen.frame m ρ, ref_Conv,
    fun m ρ _ => Cert.InProj.Gen.frame m ρ, fun m ρ _ => Cert.InProjIdeal.Gen.frame m ρ, ref_InProj,
    fun m ρ _ => Cert.FfnUp.Gen.frame m ρ, fun m ρ _ => Cert.FfnUpIdeal.Gen.frame m ρ, ref_FfnUp,
    fun m ρ _ => Cert.FfnDown.Gen.frame m ρ, fun m ρ _ => Cert.FfnDownIdeal.Gen.frame m ρ, ref_FfnDown,
    fun m ρ _ => Cert.OutProj.Gen.frame m ρ, fun m ρ _ => Cert.OutProjIdeal.Gen.frame m ρ, ref_OutProj,
    fun m ρ _ => Cert.Branch.Gen.frame m ρ, fun m ρ _ => Cert.BranchIdeal.Gen.frame m ρ, ref_Branch,
    fun m ρ _ => Cert.FinalNorm.Gen.frame m ρ, fun m ρ _ => Cert.FinalNormIdeal.Gen.frame m ρ, ref_FinalNorm,
    fun m ρ _ => Cert.QkProj.Gen.frame m ρ, fun m ρ _ => Cert.QkProjIdeal.Gen.frame m ρ, ref_QkProj,
    fun m ρ _ => Cert.NormMod.Gen.frame m ρ, fun m ρ _ => Cert.NormModIdeal.Gen.frame m ρ, ref_NormMod,
    fun m ρ _ => Cert.ModA.Gen.frame m ρ, fun m ρ _ => Cert.ModAIdeal.Gen.frame m ρ, ref_ModA,
    fun m ρ _ => Cert.ModB.Gen.frame m ρ, fun m ρ _ => Cert.ModBIdeal.Gen.frame m ρ, ref_ModB,
    named_Na, Na.alg, trivial, Conv.alg, trivial, InProj.alg, trivial, FfnUp.alg, trivial, FfnDown.alg, trivial, OutProj.alg, trivial, Branch.alg, trivial, FinalNorm.alg, trivial, QkProj.alg, trivial, NormMod.alg, trivial, ModA.alg, trivial, ModB.alg⟩

end Cert.Proof

end
